-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_tables_in_range : Cert.Pre_tables_in_range.Facts] (m : (ℓ : Loc Cert.Kernel2.nD Cert.Kernel2.τ Cert.Kernel2.sig) → Buf (Elt Bits) ℓ) : Prop :=
  ∀ c : Dev Cert.Kernel2.nD,
    (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).1 = (fun _ => 1#1)
    ∧ (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).2 = (fun _ => 1#1)

def Pre_Kernel2Ideal [hPre_tables_in_range : Cert.Pre_tables_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables_in_range [hPre_tables_in_range : Cert.Pre_tables_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_splits_exact [hPre_splits_exact : Cert.Pre_splits_exact.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_splits_exact.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).1 = (fun _ => 1#1)
    ∧ (Cert.Pre_splits_exact.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2.1 = (fun _ => 1#1)
    ∧ (Cert.Pre_splits_exact.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_splits_exact [hPre_splits_exact : Cert.Pre_splits_exact.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_splits_exact.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).1 = (fun _ => 1#1)
    ∧ (Cert.Pre_splits_exact.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).2.1 = (fun _ => 1#1)
    ∧ (Cert.Pre_splits_exact.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_tables_in_range : Cert.Pre_tables_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_tables_in_range [hReference2Ideal : Cert.Reference2Ideal.Facts] [hPre_tables_in_range : Cert.Pre_tables_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Kernel6Ideal_pre_splits_exact [hKernel6Ideal : Cert.Kernel6Ideal.Facts] [hPre_splits_exact : Cert.Pre_splits_exact.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_splits_exact m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Reference6Ideal_pre_splits_exact [hReference6Ideal : Cert.Reference6Ideal.Facts] [hPre_splits_exact : Cert.Pre_splits_exact.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_splits_exact m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v133) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_v5) = v1 c
          ∧ r.2.mem ((c.tc : Thread Cert.Reference3Ideal.nD Cert.Reference3Ideal.τ).loc Cert.Reference3Ideal.main_v7) = v2 c
          ∧ r.2.mem ((c.tc : Thread Cert.Reference3Ideal.nD Cert.Reference3Ideal.τ).loc Cert.Reference3Ideal.main_v9) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_v39) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_splits_exact [hKernel6Ideal : Cert.Kernel6Ideal.Facts] [hReference6Ideal : Cert.Reference6Ideal.Facts] [hPre_splits_exact : Cert.Pre_splits_exact.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_splits_exact m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v114_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v114_1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v85) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_tables_in_range : Cert.Pre_tables_in_range.Facts) (hPre_splits_exact : Cert.Pre_splits_exact.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_tables_in_range := hPre_tables_in_range)
    ∧ quiescent_Kernel2Ideal (hKernel2Ideal := hKernel2Ideal) (hPre_tables_in_range := hPre_tables_in_range)
    ∧ quiescent_Reference2Ideal (hReference2Ideal := hReference2Ideal)
    ∧ quiescent_Reference2Ideal_pre_tables_in_range (hReference2Ideal := hReference2Ideal) (hPre_tables_in_range := hPre_tables_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_splits_exact (hKernel6Ideal := hKernel6Ideal) (hPre_splits_exact := hPre_splits_exact)
    ∧ quiescent_Reference6Ideal (hReference6Ideal := hReference6Ideal)
    ∧ quiescent_Reference6Ideal_pre_splits_exact (hReference6Ideal := hReference6Ideal) (hPre_splits_exact := hPre_splits_exact)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_tables_in_range := hPre_tables_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_splits_exact (hKernel6Ideal := hKernel6Ideal) (hReference6Ideal := hReference6Ideal) (hPre_splits_exact := hPre_splits_exact)
-- ==== Pre_splits_exact.lean ====
abbrev S17408x3072 : Shape := ⟨2, ![17408, 3072]⟩
abbrev S17408x128 : Shape := ⟨2, ![17408, 128]⟩
abbrev S17408x2048 : Shape := ⟨2, ![17408, 2048]⟩
abbrev S2x128x3x3072 : Shape := ⟨4, ![2, 128, 3, 3072]⟩
abbrev S2x128x32x64x128 : Shape := ⟨5, ![2, 128, 32, 64, 128]⟩
abbrev S2x32 : Shape := ⟨2, ![2, 32]⟩
abbrev S2x4x3072 : Shape := ⟨3, ![2, 4, 3072]⟩
abbrev S2x3072 : Shape := ⟨2, ![2, 3072]⟩
abbrev S2x2048 : Shape := ⟨2, ![2, 2048]⟩
abbrev S1024x32 : Shape := ⟨2, ![1024, 32]⟩
abbrev S1x128x3x3072 : Shape := ⟨4, ![1, 128, 3, 3072]⟩
abbrev S128x3x3072 : Shape := ⟨3, ![128, 3, 3072]⟩
abbrev S1x32 : Shape := ⟨2, ![1, 32]⟩
abbrev S32 : Shape := ⟨1, ![32]⟩
abbrev S_ : Shape := ⟨0, ![]⟩

class Facts : Prop where
  slices_S17408x128_S1024x32_16384_0 : S17408x128.Slices ![16384, 0] S1024x32
  slices_S2x128x3x3072_S1x128x3x3072_0_0_0_0 : S2x128x3x3072.Slices ![0, 0, 0, 0] S1x128x3x3072
  shapeCasts_S1x128x3x3072_S128x3x3072 : S1x128x3x3072.ShapeCasts S128x3x3072
  slices_S2x32_S1x32_0_0 : S2x32.Slices ![0, 0] S1x32
  shapeCasts_S1x32_S32 : S1x32.ShapeCasts S32
  bcast_S_S1024x32 : S_.BroadcastsInDim S1024x32 (![] : Fin 0 → Fin S1024x32.rank)
  bcast_S_S128x3x3072 : S_.BroadcastsInDim S128x3x3072 (![] : Fin 0 → Fin S128x3x3072.rank)
  bcast_S_S32 : S_.BroadcastsInDim S32 (![] : Fin 0 → Fin S32.rank)

variable [Facts]

def fn {F : FTy → Type} [FloatOps F] (main_arg0 : FVec F S17408x3072 .bf16) (main_arg1 : FVec F S17408x128 .f32) (main_arg2 : FVec F S17408x2048 .bf16) (main_arg3 : FVec F S17408x2048 .bf16) (main_arg4 : FVec F S2x128x3x3072 .f32) (main_arg5 : FVec F S2x128x32x64x128 .f32) (main_arg6 : FVec F S2x32 .f32) (main_arg7 : FVec F S2x4x3072 .f32) (main_arg8 : FVec F S2x3072 .f32) (main_arg9 : FVec F S2x32 .f32) (main_arg10 : FVec F S2x2048 .f32) : IVec S1024x32 1 × IVec S128x3x3072 1 × IVec S32 1 :=
  let main_v0 : FVec F S1024x32 .f32 := (extractStridedSlice S1024x32 ![16384, 0] · slices_S17408x128_S1024x32_16384_0) main_arg1
  let main_v1 : FVec F S1x128x3x3072 .f32 := (extractStridedSlice S1x128x3x3072 ![0, 0, 0, 0] · slices_S2x128x3x3072_S1x128x3x3072_0_0_0_0) main_arg4
  let main_v2 : FVec F S128x3x3072 .f32 := shapeCast S128x3x3072 main_v1 shapeCasts_S1x128x3x3072_S128x3x3072
  let main_v3 : FVec F S1x32 .f32 := (extractStridedSlice S1x32 ![0, 0] · slices_S2x32_S1x32_0_0) main_arg6
  let main_v4 : FVec F S32 .f32 := shapeCast S32 main_v3 shapeCasts_S1x32_S32
  let main_v5 : FVec F S1024x32 .f32 := Host.absf main_v0
  let main_cst : FVec F S_ .f32 := constant S_ .f32 0x7F800000#32
  let main_v6 : FVec F S1024x32 .f32 := broadcastInDim S1024x32 ![] bcast_S_S1024x32 main_cst
  let main_v7 : IVec S1024x32 1 := cmpf .olt main_v5 main_v6
  let main_v8 : FVec F S128x3x3072 .f32 := Host.absf main_v2
  let main_cst_0 : FVec F S_ .f32 := constant S_ .f32 0x7F800000#32
  let main_v9 : FVec F S128x3x3072 .f32 := broadcastInDim S128x3x3072 ![] bcast_S_S128x3x3072 main_cst_0
  let main_v10 : IVec S128x3x3072 1 := cmpf .olt main_v8 main_v9
  let main_v11 : FVec F S32 .f32 := Host.absf main_v4
  let main_cst_1 : FVec F S_ .f32 := constant S_ .f32 0x7F800000#32
  let main_v12 : FVec F S32 .f32 := broadcastInDim S32 ![] bcast_S_S32 main_cst_1
  let main_v13 : IVec S32 1 := cmpf .olt main_v11 main_v12
  (main_v7, main_v10, main_v13)
-- ==== Pre_tables_in_range.lean ====
abbrev S42 : Shape := ⟨1, ![42]⟩
abbrev S1 : Shape := ⟨1, ![1]⟩
abbrev S43008x1024 : Shape := ⟨2, ![43008, 1024]⟩
abbrev S1x8x1024x3584 : Shape := ⟨4, ![1, 8, 1024, 3584]⟩
abbrev S1x8x3584x1024 : Shape := ⟨4, ![1, 8, 3584, 1024]⟩
abbrev S_ : Shape := ⟨0, ![]⟩

class Facts : Prop where
  bcast_S1_S42_0 : S1.BroadcastsInDim S42 (![0] : Fin 1 → Fin S42.rank)
  bcast_S_S1 : S_.BroadcastsInDim S1 (![] : Fin 0 → Fin S1.rank)
  bcast_S_S42 : S_.BroadcastsInDim S42 (![] : Fin 0 → Fin S42.rank)

variable [Facts]

def fn {F : FTy → Type} [FloatOps F] (main_arg0 : IVec S42 32) (main_arg1 : IVec S1 32) (main_arg2 : FVec F S43008x1024 .f32) (main_arg3 : FVec F S1x8x1024x3584 .f32) (main_arg4 : FVec F S1x8x1024x3584 .f32) (main_arg5 : FVec F S1x8x3584x1024 .f32) : IVec S1 1 × IVec S42 1 :=
  let main_v0 : IVec S42 32 := iotaInDim S42 32 0
  let main_v1 : IVec S42 32 := broadcastInDim S42 ![0] bcast_S1_S42_0 main_arg1
  let main_v2 : IVec S42 1 := cmpi .sge main_v0 main_v1
  let main_c : IVec S_ 32 := constantI S_ 32 1#32
  let main_v3 : IVec S1 32 := broadcastInDim S1 ![] bcast_S_S1 main_c
  let main_v4 : IVec S1 1 := cmpi .sge main_arg1 main_v3
  let main_c_0 : IVec S_ 32 := constantI S_ 32 0#32
  let main_v5 : IVec S42 32 := broadcastInDim S42 ![] bcast_S_S42 main_c_0
  let main_v6 : IVec S42 1 := cmpi .sge main_arg0 main_v5
  let main_c_1 : IVec S_ 32 := constantI S_ 32 8#32
  let main_v7 : IVec S42 32 := broadcastInDim S42 ![] bcast_S_S42 main_c_1
  let main_v8 : IVec S42 1 := cmpi .slt main_arg0 main_v7
  let main_v9 : IVec S42 1 := andi main_v6 main_v8
  let main_v10 : IVec S42 1 := ori main_v2 main_v9
  (main_v4, main_v10)
-- ==== Kernel.lean ====
abbrev S17408x1024 : Shape := ⟨2, ![17408, 1024]⟩
abbrev S2x1024x11296 : Shape := ⟨3, ![2, 1024, 11296]⟩
abbrev S2x1024 : Shape := ⟨2, ![2, 1024]⟩
abbrev S2x11296x1024 : Shape := ⟨3, ![2, 11296, 1024]⟩
abbrev S1x1024 : Shape := ⟨2, ![1, 1024]⟩
abbrev S1024 : Shape := ⟨1, ![1024]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 12
  | .vmem => 8
  | .smem => 0
  | _ => 0

abbrev bufTy : (tb : Table) → Fin (tcTables nBuf tb) → BufTy
  | .hbm, ⟨0, _⟩ => ⟨S17408x1024, .bf16⟩
  | .hbm, ⟨1, _⟩ => ⟨S2x1024x11296, .f32⟩
  | .hbm, ⟨2, _⟩ => ⟨S2x1024, .f32⟩
  | .hbm, ⟨3, _⟩ => ⟨S2x1024, .f32⟩
  | .hbm, ⟨4, _⟩ => ⟨S2x11296x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S17408x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | _, _ => ⟨S17408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 17], ![false, false]⟩

def k0_mult1 (i : grid0.Coords) : BitVec 32 :=
  let c1024_i32_0 : BitVec 32 := 1024#32
  let arg0 : BitVec 32 := BitVec.ofNat 32 (i 0).val
  let c1024_i32 : BitVec 32 := 1024#32
  let v0 : BitVec 32 := Scalar.muli arg0 c1024_i32
  let v1 : BitVec 32 := Scalar.addi c1024_i32_0 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c1024_i32_0 : BitVec 32 := 1024#32
  let v1 : BitVec 32 := Scalar.addi c1024_i32_0 v0
  let v2 : BitVec 32 := v1
  let c0_i32 : BitVec 32 := 0#32
  let c0_i32_1 : BitVec 32 := 0#32
  let c0_i32_2 : BitVec 32 := 0#32
  ![c0_i32.toNat, v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S17408x1024 : Shape := ⟨2, ![17408, 1024]⟩
abbrev S2x1024x11296 : Shape := ⟨3, ![2, 1024, 11296]⟩
abbrev S2x1024 : Shape := ⟨2, ![2, 1024]⟩
abbrev S1x1024x11296 : Shape := ⟨3, ![1, 1024, 11296]⟩
abbrev S1024x11296 : Shape := ⟨2, ![1024, 11296]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩
abbrev S17408 : Shape := ⟨1, ![17408]⟩
abbrev S17408x1 : Shape := ⟨2, ![17408, 1]⟩

abbrev nBuf : Space → Nat
  | .hbm => 59
  | .vmem => 0
  | .smem => 0
  | _ => 0

abbrev bufTy : (tb : Table) → Fin (tcTables nBuf tb) → BufTy
  | .hbm, ⟨0, _⟩ => ⟨S17408x1024, .bf16⟩
  | .hbm, ⟨1, _⟩ => ⟨S2x1024x11296, .f32⟩
  | .hbm, ⟨2, _⟩ => ⟨S2x1024, .f32⟩
  | .hbm, ⟨3, _⟩ => ⟨S2x1024, .f32⟩
  | .hbm, ⟨4, _⟩ => ⟨S17408x1024, .f32⟩
  | .hbm, ⟨5, _⟩ => ⟨S1x1024x11296, .f32⟩
  | .hbm, ⟨6, _⟩ => ⟨S1024x11296, .f32⟩
  | .hbm, ⟨7, _⟩ => ⟨S1024x1024, .f32⟩
  | .hbm, ⟨8, _⟩ => ⟨S17408x1024, .f32⟩
  | .hbm, ⟨9, _⟩ => ⟨S17408x1024, .f32⟩
  | .hbm, ⟨10, _⟩ => ⟨S17408x1024, .f32⟩
  | .hbm, ⟨11, _⟩ => ⟨S_, .f32⟩
  | .hbm, ⟨12, _⟩ => ⟨S17408x1024, .f32⟩
  | .hbm, ⟨13, _⟩ => ⟨S17408x1024, .f32⟩
  | .hbm, ⟨14, _⟩ => ⟨S17408x1024, .f32⟩
  | .hbm, ⟨15, _⟩ => ⟨S_, .f32⟩
  | .hbm, ⟨16, _⟩ => ⟨S17408x1024, .f32⟩
  | .hbm, ⟨17, _⟩ => ⟨S17408x1024, .f32⟩
  | .hbm, ⟨18, _⟩ => ⟨S17408x1024, .f32⟩
  | .hbm, ⟨19, _⟩ => ⟨S_, .f32⟩
  | .hbm, ⟨20, _⟩ => ⟨S17408x1024, .f32⟩
  | .hbm, ⟨21, _⟩ => ⟨S17408x1024, .f32⟩
  | .hbm, ⟨22, _⟩ => ⟨S_, .f32⟩
  | .hbm, ⟨23, _⟩ => ⟨S17408x1024, .f32⟩
  | .hbm, ⟨24, _⟩ => ⟨S17408x1024, .f32⟩
  | .hbm, ⟨25, _⟩ => ⟨S17408x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S_, .f32⟩
  | .hbm, ⟨31, _⟩ => ⟨S17408, .f32⟩
  | .hbm, ⟨32, _⟩ => ⟨S17408x1, .f32⟩
  | .hbm, ⟨33, _⟩ => ⟨S_, .f32⟩
  | .hbm, ⟨34, _⟩ => ⟨S17408x1, .f32⟩
  | .hbm, ⟨35, _⟩ => ⟨S17408x1, .f32⟩
  | .hbm, ⟨36, _⟩ => ⟨S17408x1024, .f32⟩
  | .hbm, ⟨37, _⟩ => ⟨S17408x1024, .f32⟩
  | .hbm, ⟨38, _⟩ => ⟨S17408x1024, .f32⟩
  | .hbm, ⟨39, _⟩ => ⟨S_, .f32⟩
  | .hbm, ⟨40, _⟩ => ⟨S17408, .f32⟩
  | .hbm, ⟨41, _⟩ => ⟨S17408x1, .f32⟩
  | .hbm, ⟨42, _⟩ => ⟨S_, .f32⟩
  | .hbm, ⟨43, _⟩ => ⟨S17408x1, .f32⟩
  | .hbm, ⟨44, _⟩ => ⟨S17408x1, .f32⟩
  | .hbm, ⟨45, _⟩ => ⟨S17408x1024, .f32⟩
  | .hbm, ⟨46, _⟩ => ⟨S17408x1024, .f32⟩
  | .hbm, ⟨47, _⟩ => ⟨S_, .f32⟩
  | .hbm, ⟨48, _⟩ => ⟨S17408x1, .f32⟩
  | .hbm, ⟨49, _⟩ => ⟨S17408x1, .f32⟩
  | .hbm, ⟨50, _⟩ => ⟨S17408x1, .f32⟩
  | .hbm, ⟨51, _⟩ => ⟨S17408x1024, .f32⟩
  | .hbm, ⟨52, _⟩ => ⟨S17408x1024, .f32⟩
  | .hbm, ⟨53, _⟩ => ⟨S1x1024, .f32⟩
  | .hbm, ⟨54, _⟩ => ⟨S17408x1024, .f32⟩
  | .hbm, ⟨55, _⟩ => ⟨S17408x1024, .f32⟩
  | .hbm, ⟨56, _⟩ => ⟨S1x1024, .f32⟩
  | .hbm, ⟨57, _⟩ => ⟨S17408x1024, .f32⟩
  | .hbm, ⟨58, _⟩ => ⟨S17408x1024, .f32⟩
  | _, _ => ⟨S17408x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== Kernel2.lean ====
abbrev S42 : Shape := ⟨1, ![42]⟩
abbrev S1 : Shape := ⟨1, ![1]⟩
abbrev S43008x1024 : Shape := ⟨2, ![43008, 1024]⟩
abbrev S1x8x1024x3584 : Shape := ⟨4, ![1, 8, 1024, 3584]⟩
abbrev S1x8x3584x1024 : Shape := ⟨4, ![1, 8, 3584, 1024]⟩
abbrev S_ : Shape := ⟨0, ![]⟩
abbrev S42x1 : Shape := ⟨2, ![42, 1]⟩
abbrev S1024x1024 : Shape := ⟨2, ![1024, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x1024 : Shape := ⟨2, ![512, 1024]⟩

abbrev nBuf : Space → Nat
  | .hbm => 20
  | .vmem => 11
  | .smem => 2
  | _ => 0

abbrev bufTy : (tb : Table) → Fin (tcTables nBuf tb) → BufTy
  | .hbm, ⟨0, _⟩ => ⟨S42, .i32⟩
  | .hbm, ⟨1, _⟩ => ⟨S43008x1024, .f32⟩
  | .hbm, ⟨2, _⟩ => ⟨S1x8x1024x3584, .f32⟩
  | .hbm, ⟨3, _⟩ => ⟨S1x8x1024x3584, .f32⟩
  | .hbm, ⟨4, _⟩ => ⟨S1x8x3584x1024, .f32⟩
  | .hbm, ⟨5, _⟩ => ⟨S42, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S42, .i32⟩
  | .hbm, ⟨10, _⟩ => ⟨S42, .i32⟩
  | .hbm, ⟨11, _⟩ => ⟨S_, .i32⟩
  | .hbm, ⟨12, _⟩ => ⟨S42, .i32⟩
  | .hbm, ⟨13, _⟩ => ⟨S42, .i1⟩
  | .hbm, ⟨14, _⟩ => ⟨S_, .i32⟩
  | .hbm, ⟨15, _⟩ => ⟨S42, .i32⟩
  | .hbm, ⟨16, _⟩ => ⟨S42, .i32⟩
  | .hbm, ⟨17, _⟩ => ⟨S42, .i32⟩
  | .hbm, ⟨18, _⟩ => ⟨S42x1, .i32⟩
  | .hbm, ⟨19, _⟩ => ⟨S43008x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .smem, ⟨0, _⟩ => ⟨S42, .i32⟩
  | .local _ .smem, ⟨1, _⟩ => ⟨S1, .i32⟩
  | _, _ => ⟨S42, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v12 : Ref sig .tc := ⟨.hbm, 19, rfl⟩
abbrev main_v11 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![42, 7], ![false, false]⟩

abbrev pre0 : Pipeline.Prefetch sig := ⟨2, ![main_v11.idx, main_arg1.idx], fun | 0 => main_v11.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) : BitVec 1 :=
  let arg1 : BitVec 32 := BitVec.ofNat 32 (i 1).val
  let c0_i32_3 : BitVec 32 := 0#32
  let v10 : BitVec 1 := Scalar.cmpi .eq arg1 c0_i32_3
  let v11 : BitVec 32 := Scalar.extui v10
  let c0_i32_4 : BitVec 32 := 0#32
  let v12 : BitVec 1 := Scalar.cmpi .ne v11 c0_i32_4
  v12

def k0_cond3 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c0_i32_1 : BitVec 32 := 0#32
  let v6 : BitVec 1 := Scalar.cmpi .eq arg1 c0_i32_1
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S42.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S42) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  let c0_i32_1 : BitVec 32 := 0#32
  ![c0_i32.toNat, v1.toNat, c0_i32_0.toNat, v4.toNat]

def cc0_transform_2 (k0_off1_inb : ∀ i : grid0.Coords, ∀ a, (k0_off1 i) a + S1.size a ≤ S42.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S42) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  let c0_i32_1 : BitVec 32 := 0#32
  ![c0_i32.toNat, v1.toNat, c0_i32_0.toNat, v4.toNat]

def cc0_transform_3 (k0_off1_inb : ∀ i : grid0.Coords, ∀ a, (k0_off1 i) a + S1.size a ≤ S42.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S42) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  let c0_i32_1 : BitVec 32 := 0#32
  ![c0_i32.toNat, v1.toNat, v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S42 : Shape := ⟨1, ![42]⟩
abbrev S1 : Shape := ⟨1, ![1]⟩
abbrev S43008x1024 : Shape := ⟨2, ![43008, 1024]⟩
abbrev S1x8x1024x3584 : Shape := ⟨4, ![1, 8, 1024, 3584]⟩
abbrev S1x8x3584x1024 : Shape := ⟨4, ![1, 8, 3584, 1024]⟩
abbrev S42x1024x1024 : Shape := ⟨3, ![42, 1024, 1024]⟩
abbrev S_ : Shape := ⟨0, ![]⟩
abbrev S42x1x1 : Shape := ⟨3, ![42, 1, 1]⟩
abbrev S1x1x1024x3584 : Shape := ⟨4, ![1, 1, 1024, 3584]⟩
abbrev S1024x3584 : Shape := ⟨2, ![1024, 3584]⟩
abbrev S1x1x3584x1024 : Shape := ⟨4, ![1, 1, 3584, 1024]⟩
abbrev S3584x1024 : Shape := ⟨2, ![3584, 1024]⟩
abbrev S42x1024x3584 : Shape := ⟨3, ![42, 1024, 3584]⟩

abbrev nBuf : Space → Nat
  | .hbm => 221
  | .vmem => 0
  | .smem => 0
  | _ => 0

abbrev hbmTy0_0 (i : Nat) : BufTy := match i % 128 with
  | 0 => ⟨S42, .i32⟩
  | 1 => ⟨S1, .i32⟩
  | 2 => ⟨S43008x1024, .f32⟩
  | 3 => ⟨S1x8x1024x3584, .f32⟩
  | 4 => ⟨S1x8x1024x3584, .f32⟩
  | 5 => ⟨S1x8x3584x1024, .f32⟩
  | 6 => ⟨S42x1024x1024, .f32⟩
  | 7 => ⟨S42, .i32⟩
  | 8 => ⟨S42, .i32⟩
  | 9 => ⟨S42, .i1⟩
  | 10 => ⟨S_, .f32⟩
  | 11 => ⟨S42x1024x1024, .f32⟩
  | 12 => ⟨S_, .i32⟩
  | 13 => ⟨S42, .i32⟩
  | 14 => ⟨S42, .i1⟩
  | 15 => ⟨S42, .i1⟩
  | 16 => ⟨S42x1x1, .i1⟩
  | 17 => ⟨S1x1x1024x3584, .f32⟩
  | 18 => ⟨S1024x3584, .f32⟩
  | 19 => ⟨S1x1x1024x3584, .f32⟩
  | 20 => ⟨S1024x3584, .f32⟩
  | 21 => ⟨S1x1x3584x1024, .f32⟩
  | 22 => ⟨S3584x1024, .f32⟩
  | 23 => ⟨S42x1024x3584, .f32⟩
  | 24 => ⟨S42x1024x3584, .f32⟩
  | 25 => ⟨S42x1024x3584, .f32⟩
  | 26 => ⟨S_, .f32⟩
  | 27 => ⟨S42x1024x3584, .f32⟩
  | 28 => ⟨S42x1024x3584, .f32⟩
  | 29 => ⟨S_, .f32⟩
  | 30 => ⟨S42x1024x3584, .f32⟩
  | 31 => ⟨S42x1024x3584, .f32⟩
  | 32 => ⟨S42x1024x3584, .f32⟩
  | 33 => ⟨S42x1024x3584, .f32⟩
  | 34 => ⟨S42x1024x3584, .f32⟩
  | 35 => ⟨S42x1024x1024, .f32⟩
  | 36 => ⟨S42x1024x1024, .i1⟩
  | 37 => ⟨S42x1024x1024, .f32⟩
  | 38 => ⟨S_, .i32⟩
  | 39 => ⟨S42, .i32⟩
  | 40 => ⟨S42, .i1⟩
  | 41 => ⟨S42, .i1⟩
  | 42 => ⟨S42x1x1, .i1⟩
  | 43 => ⟨S1x1x1024x3584, .f32⟩
  | 44 => ⟨S1024x3584, .f32⟩
  | 45 => ⟨S1x1x1024x3584, .f32⟩
  | 46 => ⟨S1024x3584, .f32⟩
  | 47 => ⟨S1x1x3584x1024, .f32⟩
  | 48 => ⟨S3584x1024, .f32⟩
  | 49 => ⟨S42x1024x3584, .f32⟩
  | 50 => ⟨S42x1024x3584, .f32⟩
  | 51 => ⟨S42x1024x3584, .f32⟩
  | 52 => ⟨S_, .f32⟩
  | 53 => ⟨S42x1024x3584, .f32⟩
  | 54 => ⟨S42x1024x3584, .f32⟩
  | 55 => ⟨S_, .f32⟩
  | 56 => ⟨S42x1024x3584, .f32⟩
  | 57 => ⟨S42x1024x3584, .f32⟩
  | 58 => ⟨S42x1024x3584, .f32⟩
  | 59 => ⟨S42x1024x3584, .f32⟩
  | 60 => ⟨S42x1024x3584, .f32⟩
  | 61 => ⟨S42x1024x1024, .f32⟩
  | 62 => ⟨S42x1024x1024, .i1⟩
  | 63 => ⟨S42x1024x1024, .f32⟩
  | 64 => ⟨S_, .i32⟩
  | 65 => ⟨S42, .i32⟩
  | 66 => ⟨S42, .i1⟩
  | 67 => ⟨S42, .i1⟩
  | 68 => ⟨S42x1x1, .i1⟩
  | 69 => ⟨S1x1x1024x3584, .f32⟩
  | 70 => ⟨S1024x3584, .f32⟩
  | 71 => ⟨S1x1x1024x3584, .f32⟩
  | 72 => ⟨S1024x3584, .f32⟩
  | 73 => ⟨S1x1x3584x1024, .f32⟩
  | 74 => ⟨S3584x1024, .f32⟩
  | 75 => ⟨S42x1024x3584, .f32⟩
  | 76 => ⟨S42x1024x3584, .f32⟩
  | 77 => ⟨S42x1024x3584, .f32⟩
  | 78 => ⟨S_, .f32⟩
  | 79 => ⟨S42x1024x3584, .f32⟩
  | 80 => ⟨S42x1024x3584, .f32⟩
  | 81 => ⟨S_, .f32⟩
  | 82 => ⟨S42x1024x3584, .f32⟩
  | 83 => ⟨S42x1024x3584, .f32⟩
  | 84 => ⟨S42x1024x3584, .f32⟩
  | 85 => ⟨S42x1024x3584, .f32⟩
  | 86 => ⟨S42x1024x3584, .f32⟩
  | 87 => ⟨S42x1024x1024, .f32⟩
  | 88 => ⟨S42x1024x1024, .i1⟩
  | 89 => ⟨S42x1024x1024, .f32⟩
  | 90 => ⟨S_, .i32⟩
  | 91 => ⟨S42, .i32⟩
  | 92 => ⟨S42, .i1⟩
  | 93 => ⟨S42, .i1⟩
  | 94 => ⟨S42x1x1, .i1⟩
  | 95 => ⟨S1x1x1024x3584, .f32⟩
  | 96 => ⟨S1024x3584, .f32⟩
  | 97 => ⟨S1x1x1024x3584, .f32⟩
  | 98 => ⟨S1024x3584, .f32⟩
  | 99 => ⟨S1x1x3584x1024, .f32⟩
  | 100 => ⟨S3584x1024, .f32⟩
  | 101 => ⟨S42x1024x3584, .f32⟩
  | 102 => ⟨S42x1024x3584, .f32⟩
  | 103 => ⟨S42x1024x3584, .f32⟩
  | 104 => ⟨S_, .f32⟩
  | 105 => ⟨S42x1024x3584, .f32⟩
  | 106 => ⟨S42x1024x3584, .f32⟩
  | 107 => ⟨S_, .f32⟩
  | 108 => ⟨S42x1024x3584, .f32⟩
  | 109 => ⟨S42x1024x3584, .f32⟩
  | 110 => ⟨S42x1024x3584, .f32⟩
  | 111 => ⟨S42x1024x3584, .f32⟩
  | 112 => ⟨S42x1024x3584, .f32⟩
  | 113 => ⟨S42x1024x1024, .f32⟩
  | 114 => ⟨S42x1024x1024, .i1⟩
  | 115 => ⟨S42x1024x1024, .f32⟩
  | 116 => ⟨S_, .i32⟩
  | 117 => ⟨S42, .i32⟩
  | 118 => ⟨S42, .i1⟩
  | 119 => ⟨S42, .i1⟩
  | 120 => ⟨S42x1x1, .i1⟩
  | 121 => ⟨S1x1x1024x3584, .f32⟩
  | 122 => ⟨S1024x3584, .f32⟩
  | 123 => ⟨S1x1x1024x3584, .f32⟩
  | 124 => ⟨S1024x3584, .f32⟩
  | 125 => ⟨S1x1x3584x1024, .f32⟩
  | 126 => ⟨S3584x1024, .f32⟩
  | 127 => ⟨S42x1024x3584, .f32⟩
  | _ => ⟨S42, .i32⟩

abbrev hbmTy0_1 (i : Nat) : BufTy := match i % 128 with
  | 0 => ⟨S42x1024x3584, .f32⟩
  | 1 => ⟨S42x1024x3584, .f32⟩
  | 2 => ⟨S_, .f32⟩
  | 3 => ⟨S42x1024x3584, .f32⟩
  | 4 => ⟨S42x1024x3584, .f32⟩
  | 5 => ⟨S_, .f32⟩
  | 6 => ⟨S42x1024x3584, .f32⟩
  | 7 => ⟨S42x1024x3584, .f32⟩
  | 8 => ⟨S42x1024x3584, .f32⟩
  | 9 => ⟨S42x1024x3584, .f32⟩
  | 10 => ⟨S42x1024x3584, .f32⟩
  | 11 => ⟨S42x1024x1024, .f32⟩
  | 12 => ⟨S42x1024x1024, .i1⟩
  | 13 => ⟨S42x1024x1024, .f32⟩
  | 14 => ⟨S_, .i32⟩
  | 15 => ⟨S42, .i32⟩
  | 16 => ⟨S42, .i1⟩
  | 17 => ⟨S42, .i1⟩
  | 18 => ⟨S42x1x1, .i1⟩
  | 19 => ⟨S1x1x1024x3584, .f32⟩
  | 20 => ⟨S1024x3584, .f32⟩
  | 21 => ⟨S1x1x1024x3584, .f32⟩
  | 22 => ⟨S1024x3584, .f32⟩
  | 23 => ⟨S1x1x3584x1024, .f32⟩
  | 24 => ⟨S3584x1024, .f32⟩
  | 25 => ⟨S42x1024x3584, .f32⟩
  | 26 => ⟨S42x1024x3584, .f32⟩
  | 27 => ⟨S42x1024x3584, .f32⟩
  | 28 => ⟨S_, .f32⟩
  | 29 => ⟨S42x1024x3584, .f32⟩
  | 30 => ⟨S42x1024x3584, .f32⟩
  | 31 => ⟨S_, .f32⟩
  | 32 => ⟨S42x1024x3584, .f32⟩
  | 33 => ⟨S42x1024x3584, .f32⟩
  | 34 => ⟨S42x1024x3584, .f32⟩
  | 35 => ⟨S42x1024x3584, .f32⟩
  | 36 => ⟨S42x1024x3584, .f32⟩
  | 37 => ⟨S42x1024x1024, .f32⟩
  | 38 => ⟨S42x1024x1024, .i1⟩
  | 39 => ⟨S42x1024x1024, .f32⟩
  | 40 => ⟨S_, .i32⟩
  | 41 => ⟨S42, .i32⟩
  | 42 => ⟨S42, .i1⟩
  | 43 => ⟨S42, .i1⟩
  | 44 => ⟨S42x1x1, .i1⟩
  | 45 => ⟨S1x1x1024x3584, .f32⟩
  | 46 => ⟨S1024x3584, .f32⟩
  | 47 => ⟨S1x1x1024x3584, .f32⟩
  | 48 => ⟨S1024x3584, .f32⟩
  | 49 => ⟨S1x1x3584x1024, .f32⟩
  | 50 => ⟨S3584x1024, .f32⟩
  | 51 => ⟨S42x1024x3584, .f32⟩
  | 52 => ⟨S42x1024x3584, .f32⟩
  | 53 => ⟨S42x1024x3584, .f32⟩
  | 54 => ⟨S_, .f32⟩
  | 55 => ⟨S42x1024x3584, .f32⟩
  | 56 => ⟨S42x1024x3584, .f32⟩
  | 57 => ⟨S_, .f32⟩
  | 58 => ⟨S42x1024x3584, .f32⟩
  | 59 => ⟨S42x1024x3584, .f32⟩
  | 60 => ⟨S42x1024x3584, .f32⟩
  | 61 => ⟨S42x1024x3584, .f32⟩
  | 62 => ⟨S42x1024x3584, .f32⟩
  | 63 => ⟨S42x1024x1024, .f32⟩
  | 64 => ⟨S42x1024x1024, .i1⟩
  | 65 => ⟨S42x1024x1024, .f32⟩
  | 66 => ⟨S_, .i32⟩
  | 67 => ⟨S42, .i32⟩
  | 68 => ⟨S42, .i1⟩
  | 69 => ⟨S42, .i1⟩
  | 70 => ⟨S42x1x1, .i1⟩
  | 71 => ⟨S1x1x1024x3584, .f32⟩
  | 72 => ⟨S1024x3584, .f32⟩
  | 73 => ⟨S1x1x1024x3584, .f32⟩
  | 74 => ⟨S1024x3584, .f32⟩
  | 75 => ⟨S1x1x3584x1024, .f32⟩
  | 76 => ⟨S3584x1024, .f32⟩
  | 77 => ⟨S42x1024x3584, .f32⟩
  | 78 => ⟨S42x1024x3584, .f32⟩
  | 79 => ⟨S42x1024x3584, .f32⟩
  | 80 => ⟨S_, .f32⟩
  | 81 => ⟨S42x1024x3584, .f32⟩
  | 82 => ⟨S42x1024x3584, .f32⟩
  | 83 => ⟨S_, .f32⟩
  | 84 => ⟨S42x1024x3584, .f32⟩
  | 85 => ⟨S42x1024x3584, .f32⟩
  | 86 => ⟨S42x1024x3584, .f32⟩
  | 87 => ⟨S42x1024x3584, .f32⟩
  | 88 => ⟨S42x1024x3584, .f32⟩
  | 89 => ⟨S42x1024x1024, .f32⟩
  | 90 => ⟨S42x1024x1024, .i1⟩
  | 91 => ⟨S42x1024x1024, .f32⟩
  | 92 => ⟨S43008x1024, .f32⟩
  | _ => ⟨S42, .i32⟩

abbrev hbmTy (i : Nat) : BufTy := match i / 128 with
  | 0 => hbmTy0_0 i
  | 1 => hbmTy0_1 i
  | _ => ⟨S42, .i32⟩

abbrev bufTy : (tb : Table) → Fin (tcTables nBuf tb) → BufTy
  | .hbm, ⟨i, _⟩ => hbmTy i
  | _, _ => ⟨S42, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call1_v0 : Ref sig .tc := ⟨.hbm, 36, rfl⟩
abbrev main_v20 : Ref sig .tc := ⟨.hbm, 37, rfl⟩
abbrev main_c_0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call2_v0 : Ref sig .tc := ⟨.hbm, 50, rfl⟩
abbrev main_call2_v1 : Ref sig .tc := ⟨.hbm, 51, rfl⟩
abbrev main_call2_cst : Ref sig .tc := ⟨.hbm, 52, rfl⟩
abbrev main_call2_v2 : Ref sig .tc := ⟨.hbm, 53, rfl⟩
abbrev main_call2_v3 : Ref sig .tc := ⟨.hbm, 54, rfl⟩
abbrev main_call2_cst_0 : Ref sig .tc := ⟨.hbm, 55, rfl⟩
abbrev main_call2_v4 : Ref sig .tc := ⟨.hbm, 56, rfl⟩
abbrev main_call2_v5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_call3_v0 : Ref sig .tc := ⟨.hbm, 62, rfl⟩
abbrev main_v36 : Ref sig .tc := ⟨.hbm, 63, rfl⟩
abbrev main_c_1 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call4_v0 : Ref sig .tc := ⟨.hbm, 76, rfl⟩
abbrev main_call4_v1 : Ref sig .tc := ⟨.hbm, 77, rfl⟩
abbrev main_call4_cst : Ref sig .tc := ⟨.hbm, 78, rfl⟩
abbrev main_call4_v2 : Ref sig .tc := ⟨.hbm, 79, rfl⟩
abbrev main_call4_v3 : Ref sig .tc := ⟨.hbm, 80, rfl⟩
abbrev main_call4_cst_0 : Ref sig .tc := ⟨.hbm, 81, rfl⟩
abbrev main_call4_v4 : Ref sig .tc := ⟨.hbm, 82, rfl⟩
abbrev main_call4_v5 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_call5_v0 : Ref sig .tc := ⟨.hbm, 88, rfl⟩
abbrev main_v52 : Ref sig .tc := ⟨.hbm, 89, rfl⟩
abbrev main_c_2 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_call6_v0 : Ref sig .tc := ⟨.hbm, 102, rfl⟩
abbrev main_call6_v1 : Ref sig .tc := ⟨.hbm, 103, rfl⟩
abbrev main_call6_cst : Ref sig .tc := ⟨.hbm, 104, rfl⟩
abbrev main_call6_v2 : Ref sig .tc := ⟨.hbm, 105, rfl⟩
abbrev main_call6_v3 : Ref sig .tc := ⟨.hbm, 106, rfl⟩
abbrev main_call6_cst_0 : Ref sig .tc := ⟨.hbm, 107, rfl⟩
abbrev main_call6_v4 : Ref sig .tc := ⟨.hbm, 108, rfl⟩
abbrev main_call6_v5 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_call7_v0 : Ref sig .tc := ⟨.hbm, 114, rfl⟩
abbrev main_v68 : Ref sig .tc := ⟨.hbm, 115, rfl⟩
abbrev main_c_3 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_call8_v0 : Ref sig .tc := ⟨.hbm, 128, rfl⟩
abbrev main_call8_v1 : Ref sig .tc := ⟨.hbm, 129, rfl⟩
abbrev main_call8_cst : Ref sig .tc := ⟨.hbm, 130, rfl⟩
abbrev main_call8_v2 : Ref sig .tc := ⟨.hbm, 131, rfl⟩
abbrev main_call8_v3 : Ref sig .tc := ⟨.hbm, 132, rfl⟩
abbrev main_call8_cst_0 : Ref sig .tc := ⟨.hbm, 133, rfl⟩
abbrev main_call8_v4 : Ref sig .tc := ⟨.hbm, 134, rfl⟩
abbrev main_call8_v5 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_call9_v0 : Ref sig .tc := ⟨.hbm, 140, rfl⟩
abbrev main_v84 : Ref sig .tc := ⟨.hbm, 141, rfl⟩
abbrev main_c_4 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_call10_v0 : Ref sig .tc := ⟨.hbm, 154, rfl⟩
abbrev main_call10_v1 : Ref sig .tc := ⟨.hbm, 155, rfl⟩
abbrev main_call10_cst : Ref sig .tc := ⟨.hbm, 156, rfl⟩
abbrev main_call10_v2 : Ref sig .tc := ⟨.hbm, 157, rfl⟩
abbrev main_call10_v3 : Ref sig .tc := ⟨.hbm, 158, rfl⟩
abbrev main_call10_cst_0 : Ref sig .tc := ⟨.hbm, 159, rfl⟩
abbrev main_call10_v4 : Ref sig .tc := ⟨.hbm, 160, rfl⟩
abbrev main_call10_v5 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_call11_v0 : Ref sig .tc := ⟨.hbm, 166, rfl⟩
abbrev main_v100 : Ref sig .tc := ⟨.hbm, 167, rfl⟩
abbrev main_c_5 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_call12_v0 : Ref sig .tc := ⟨.hbm, 180, rfl⟩
abbrev main_call12_v1 : Ref sig .tc := ⟨.hbm, 181, rfl⟩
abbrev main_call12_cst : Ref sig .tc := ⟨.hbm, 182, rfl⟩
abbrev main_call12_v2 : Ref sig .tc := ⟨.hbm, 183, rfl⟩
abbrev main_call12_v3 : Ref sig .tc := ⟨.hbm, 184, rfl⟩
abbrev main_call12_cst_0 : Ref sig .tc := ⟨.hbm, 185, rfl⟩
abbrev main_call12_v4 : Ref sig .tc := ⟨.hbm, 186, rfl⟩
abbrev main_call12_v5 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_call13_v0 : Ref sig .tc := ⟨.hbm, 192, rfl⟩
abbrev main_v116 : Ref sig .tc := ⟨.hbm, 193, rfl⟩
abbrev main_c_6 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_call14_v0 : Ref sig .tc := ⟨.hbm, 206, rfl⟩
abbrev main_call14_v1 : Ref sig .tc := ⟨.hbm, 207, rfl⟩
abbrev main_call14_cst : Ref sig .tc := ⟨.hbm, 208, rfl⟩
abbrev main_call14_v2 : Ref sig .tc := ⟨.hbm, 209, rfl⟩
abbrev main_call14_v3 : Ref sig .tc := ⟨.hbm, 210, rfl⟩
abbrev main_call14_cst_0 : Ref sig .tc := ⟨.hbm, 211, rfl⟩
abbrev main_call14_v4 : Ref sig .tc := ⟨.hbm, 212, rfl⟩
abbrev main_call14_v5 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_call15_v0 : Ref sig .tc := ⟨.hbm, 218, rfl⟩
abbrev main_v132 : Ref sig .tc := ⟨.hbm, 219, rfl⟩
abbrev main_v133 : Ref sig .tc := ⟨.hbm, 220, rfl⟩

abbrev nD : Nat := 1
abbrev τ : Topo := Topo.v7x

variable {F : FTy → Type} [FloatOps F]
-- ==== Kernel3.lean ====
abbrev S8x256x1024 : Shape := ⟨3, ![8, 256, 1024]⟩
abbrev S2x1024x1024 : Shape := ⟨3, ![2, 1024, 1024]⟩
abbrev S2048x1024 : Shape := ⟨2, ![2048, 1024]⟩
abbrev S2x8x256x4x256 : Shape := ⟨5, ![2, 8, 256, 4, 256]⟩
abbrev S2x2048x1024 : Shape := ⟨3, ![2, 2048, 1024]⟩
abbrev S1024x1024 : Shape := ⟨2, ![1024, 1024]⟩
abbrev S1x1024x1024 : Shape := ⟨3, ![1, 1024, 1024]⟩
abbrev S1x4x256x4x256 : Shape := ⟨5, ![1, 4, 256, 4, 256]⟩
abbrev S256x256 : Shape := ⟨2, ![256, 256]⟩
abbrev S1x1x256x1x256 : Shape := ⟨5, ![1, 1, 256, 1, 256]⟩

abbrev nBuf : Space → Nat
  | .hbm => 9
  | .vmem => 14
  | .smem => 0
  | _ => 0

abbrev bufTy : (tb : Table) → Fin (tcTables nBuf tb) → BufTy
  | .hbm, ⟨0, _⟩ => ⟨S8x256x1024, .f32⟩
  | .hbm, ⟨1, _⟩ => ⟨S2x1024x1024, .f32⟩
  | .hbm, ⟨2, _⟩ => ⟨S2x1024x1024, .f32⟩
  | .hbm, ⟨3, _⟩ => ⟨S2048x1024, .f32⟩
  | .hbm, ⟨4, _⟩ => ⟨S2048x1024, .bf16⟩
  | .hbm, ⟨5, _⟩ => ⟨S2x8x256x4x256, .f32⟩
  | .hbm, ⟨6, _⟩ => ⟨S2x8x256x4x256, .f32⟩
  | .hbm, ⟨7, _⟩ => ⟨S2x2048x1024, .bf16⟩
  | .hbm, ⟨8, _⟩ => ⟨S2x2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x4x256x4x256, .f32⟩
  | .local _ .vmem, ⟨7, _⟩ => ⟨S1x4x256x4x256, .f32⟩
  | .local _ .vmem, ⟨8, _⟩ => ⟨S1x4x256x4x256, .f32⟩
  | .local _ .vmem, ⟨9, _⟩ => ⟨S1x4x256x4x256, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x256x4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x256x4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8x256x1024 : Shape := ⟨3, ![8, 256, 1024]⟩
abbrev S2x1024x1024 : Shape := ⟨3, ![2, 1024, 1024]⟩
abbrev S2x1024x8x256 : Shape := ⟨4, ![2, 1024, 8, 256]⟩
abbrev S2x8x256x1024 : Shape := ⟨4, ![2, 8, 256, 1024]⟩
abbrev S2x8x256x4x256 : Shape := ⟨5, ![2, 8, 256, 4, 256]⟩
abbrev S2x2048x1024 : Shape := ⟨3, ![2, 2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S2x1024x1024, .f32⟩
  | .hbm, ⟨2, _⟩ => ⟨S2x1024x1024, .f32⟩
  | .hbm, ⟨3, _⟩ => ⟨S2x1024x8x256, .f32⟩
  | .hbm, ⟨4, _⟩ => ⟨S2x8x256x1024, .f32⟩
  | .hbm, ⟨5, _⟩ => ⟨S2x1024x8x256, .f32⟩
  | .hbm, ⟨6, _⟩ => ⟨S2x8x256x1024, .f32⟩
  | .hbm, ⟨7, _⟩ => ⟨S2x8x256x4x256, .f32⟩
  | .hbm, ⟨8, _⟩ => ⟨S2x8x256x4x256, .f32⟩
  | .hbm, ⟨9, _⟩ => ⟨S2x2048x1024, .f32⟩
  | .hbm, ⟨10, _⟩ => ⟨S2x2048x1024, .bf16⟩
  | .hbm, ⟨11, _⟩ => ⟨S2x2048x1024, .f32⟩
  | .hbm, ⟨12, _⟩ => ⟨S2x2048x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S17408x1024 : Shape := ⟨2, ![17408, 1024]⟩
abbrev S2x1024x11296 : Shape := ⟨3, ![2, 1024, 11296]⟩
abbrev S2x11296x1024 : Shape := ⟨3, ![2, 11296, 1024]⟩
abbrev S17408x3072 : Shape := ⟨2, ![17408, 3072]⟩
abbrev S2176x1024 : Shape := ⟨2, ![2176, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S17408x1024, .bf16⟩
  | .hbm, ⟨1, _⟩ => ⟨S2x1024x11296, .f32⟩
  | .hbm, ⟨2, _⟩ => ⟨S2x11296x1024, .f32⟩
  | .hbm, ⟨3, _⟩ => ⟨S17408x3072, .bf16⟩
  | .local _ .vmem, ⟨0, _⟩ => ⟨S2176x1024, .bf16⟩
  | .local _ .vmem, ⟨1, _⟩ => ⟨S2176x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S2176x1024, .bf16⟩
  | .local _ .vmem, ⟨5, _⟩ => ⟨S2176x1024, .bf16⟩
  | .local _ .vmem, ⟨6, _⟩ => ⟨S1024x1024, .bf16⟩
  | _, _ => ⟨S17408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def k0_mult1 (i : grid0.Coords) : BitVec 32 :=
  let c4096_i32 : BitVec 32 := 4096#32
  let arg0 : BitVec 32 := BitVec.ofNat 32 (i 0).val
  let c1024_i32 : BitVec 32 := 1024#32
  let v0 : BitVec 32 := Scalar.muli arg0 c1024_i32
  let v1 : BitVec 32 := Scalar.addi c4096_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.addi c4096_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S17408x1024 : Shape := ⟨2, ![17408, 1024]⟩
abbrev S2x1024x11296 : Shape := ⟨3, ![2, 1024, 11296]⟩
abbrev S1x1024x11296 : Shape := ⟨3, ![1, 1024, 11296]⟩
abbrev S1024x11296 : Shape := ⟨2, ![1024, 11296]⟩
abbrev S1024x3072 : Shape := ⟨2, ![1024, 3072]⟩
abbrev S17408x3072 : Shape := ⟨2, ![17408, 3072]⟩

abbrev nBuf : Space → Nat
  | .hbm => 8
  | .vmem => 0
  | .smem => 0
  | _ => 0

abbrev bufTy : (tb : Table) → Fin (tcTables nBuf tb) → BufTy
  | .hbm, ⟨0, _⟩ => ⟨S17408x1024, .bf16⟩
  | .hbm, ⟨1, _⟩ => ⟨S2x1024x11296, .f32⟩
  | .hbm, ⟨2, _⟩ => ⟨S17408x1024, .f32⟩
  | .hbm, ⟨3, _⟩ => ⟨S1x1024x11296, .f32⟩
  | .hbm, ⟨4, _⟩ => ⟨S1024x11296, .f32⟩
  | .hbm, ⟨5, _⟩ => ⟨S1024x3072, .f32⟩
  | .hbm, ⟨6, _⟩ => ⟨S17408x3072, .f32⟩
  | .hbm, ⟨7, _⟩ => ⟨S17408x3072, .bf16⟩
  | _, _ => ⟨S17408x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel5.lean ====
abbrev S17408x1024 : Shape := ⟨2, ![17408, 1024]⟩
abbrev S1x1024x2816 : Shape := ⟨3, ![1, 1024, 2816]⟩
abbrev S1x2816x1024 : Shape := ⟨3, ![1, 2816, 1024]⟩
abbrev S2x1024 : Shape := ⟨2, ![2, 1024]⟩
abbrev S1024x2816 : Shape := ⟨2, ![1024, 2816]⟩
abbrev S2816x1024 : Shape := ⟨2, ![2816, 1024]⟩
abbrev S1x1024 : Shape := ⟨2, ![1, 1024]⟩
abbrev S1024 : Shape := ⟨1, ![1024]⟩
abbrev S512x1024 : Shape := ⟨2, ![512, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 21
  | .vmem => 13
  | .smem => 0
  | _ => 0

abbrev bufTy : (tb : Table) → Fin (tcTables nBuf tb) → BufTy
  | .hbm, ⟨0, _⟩ => ⟨S17408x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S2x1024, .f32⟩
  | .hbm, ⟨5, _⟩ => ⟨S2x1024, .f32⟩
  | .hbm, ⟨6, _⟩ => ⟨S17408x1024, .bf16⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S2816x1024, .f32⟩
  | .hbm, ⟨12, _⟩ => ⟨S2816x1024, .bf16⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S17408x1024, .f32⟩
  | .hbm, ⟨20, _⟩ => ⟨S17408x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S17408x1024 : Shape := ⟨2, ![17408, 1024]⟩
abbrev S1x1024x2816 : Shape := ⟨3, ![1, 1024, 2816]⟩
abbrev S1x2816x1024 : Shape := ⟨3, ![1, 2816, 1024]⟩
abbrev S2x1024 : Shape := ⟨2, ![2, 1024]⟩
abbrev S_ : Shape := ⟨0, ![]⟩
abbrev S1024x2816 : Shape := ⟨2, ![1024, 2816]⟩
abbrev S2816x1024 : Shape := ⟨2, ![2816, 1024]⟩
abbrev S17408x2816 : Shape := ⟨2, ![17408, 2816]⟩
abbrev S1x1024 : Shape := ⟨2, ![1, 1024]⟩
abbrev S1024 : Shape := ⟨1, ![1024]⟩
abbrev S17408 : Shape := ⟨1, ![17408]⟩
abbrev S17408x1 : Shape := ⟨2, ![17408, 1]⟩

abbrev nBuf : Space → Nat
  | .hbm => 60
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S2x1024, .f32⟩
  | .hbm, ⟨5, _⟩ => ⟨S2x1024, .f32⟩
  | .hbm, ⟨6, _⟩ => ⟨S_, .f32⟩
  | .hbm, ⟨7, _⟩ => ⟨S17408x1024, .f32⟩
  | .hbm, ⟨8, _⟩ => ⟨S17408x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S17408x2816, .f32⟩
  | .hbm, ⟨13, _⟩ => ⟨S17408x2816, .f32⟩
  | .hbm, ⟨14, _⟩ => ⟨S17408x2816, .f32⟩
  | .hbm, ⟨15, _⟩ => ⟨S_, .f32⟩
  | .hbm, ⟨16, _⟩ => ⟨S17408x2816, .f32⟩
  | .hbm, ⟨17, _⟩ => ⟨S17408x2816, .f32⟩
  | .hbm, ⟨18, _⟩ => ⟨S_, .f32⟩
  | .hbm, ⟨19, _⟩ => ⟨S17408x2816, .f32⟩
  | .hbm, ⟨20, _⟩ => ⟨S17408x2816, .f32⟩
  | .hbm, ⟨21, _⟩ => ⟨S17408x2816, .f32⟩
  | .hbm, ⟨22, _⟩ => ⟨S17408x2816, .f32⟩
  | .hbm, ⟨23, _⟩ => ⟨S17408x2816, .f32⟩
  | .hbm, ⟨24, _⟩ => ⟨S17408x1024, .f32⟩
  | .hbm, ⟨25, _⟩ => ⟨S17408x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S_, .f32⟩
  | .hbm, ⟨31, _⟩ => ⟨S17408, .f32⟩
  | .hbm, ⟨32, _⟩ => ⟨S17408x1, .f32⟩
  | .hbm, ⟨33, _⟩ => ⟨S_, .f32⟩
  | .hbm, ⟨34, _⟩ => ⟨S17408x1, .f32⟩
  | .hbm, ⟨35, _⟩ => ⟨S17408x1, .f32⟩
  | .hbm, ⟨36, _⟩ => ⟨S17408x1024, .f32⟩
  | .hbm, ⟨37, _⟩ => ⟨S17408x1024, .f32⟩
  | .hbm, ⟨38, _⟩ => ⟨S17408x1024, .f32⟩
  | .hbm, ⟨39, _⟩ => ⟨S_, .f32⟩
  | .hbm, ⟨40, _⟩ => ⟨S17408, .f32⟩
  | .hbm, ⟨41, _⟩ => ⟨S17408x1, .f32⟩
  | .hbm, ⟨42, _⟩ => ⟨S_, .f32⟩
  | .hbm, ⟨43, _⟩ => ⟨S17408x1, .f32⟩
  | .hbm, ⟨44, _⟩ => ⟨S17408x1, .f32⟩
  | .hbm, ⟨45, _⟩ => ⟨S17408x1024, .f32⟩
  | .hbm, ⟨46, _⟩ => ⟨S17408x1024, .f32⟩
  | .hbm, ⟨47, _⟩ => ⟨S_, .f32⟩
  | .hbm, ⟨48, _⟩ => ⟨S17408x1, .f32⟩
  | .hbm, ⟨49, _⟩ => ⟨S17408x1, .f32⟩
  | .hbm, ⟨50, _⟩ => ⟨S17408x1, .f32⟩
  | .hbm, ⟨51, _⟩ => ⟨S17408x1024, .f32⟩
  | .hbm, ⟨52, _⟩ => ⟨S17408x1024, .f32⟩
  | .hbm, ⟨53, _⟩ => ⟨S1x1024, .f32⟩
  | .hbm, ⟨54, _⟩ => ⟨S17408x1024, .f32⟩
  | .hbm, ⟨55, _⟩ => ⟨S17408x1024, .f32⟩
  | .hbm, ⟨56, _⟩ => ⟨S1x1024, .f32⟩
  | .hbm, ⟨57, _⟩ => ⟨S17408x1024, .f32⟩
  | .hbm, ⟨58, _⟩ => ⟨S17408x1024, .f32⟩
  | .hbm, ⟨59, _⟩ => ⟨S17408x1024, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Kernel6.lean ====
abbrev S17408x3072 : Shape := ⟨2, ![17408, 3072]⟩
abbrev S17408x128 : Shape := ⟨2, ![17408, 128]⟩
abbrev S17408x2048 : Shape := ⟨2, ![17408, 2048]⟩
abbrev S2x128x3x3072 : Shape := ⟨4, ![2, 128, 3, 3072]⟩
abbrev S2x128x32x64x128 : Shape := ⟨5, ![2, 128, 32, 64, 128]⟩
abbrev S2x32 : Shape := ⟨2, ![2, 32]⟩
abbrev S2x4x3072 : Shape := ⟨3, ![2, 4, 3072]⟩
abbrev S2x3072 : Shape := ⟨2, ![2, 3072]⟩
abbrev S2x2048 : Shape := ⟨2, ![2, 2048]⟩
abbrev S2x128x2048x128 : Shape := ⟨4, ![2, 128, 2048, 128]⟩
abbrev S1x32 : Shape := ⟨2, ![1, 32]⟩
abbrev S32 : Shape := ⟨1, ![32]⟩
abbrev S_ : Shape := ⟨0, ![]⟩
abbrev S1x128 : Shape := ⟨2, ![1, 128]⟩
abbrev S32x64 : Shape := ⟨2, ![32, 64]⟩
abbrev S2048 : Shape := ⟨1, ![2048]⟩
abbrev S1x2048 : Shape := ⟨2, ![1, 2048]⟩
abbrev S1x4x3072 : Shape := ⟨3, ![1, 4, 3072]⟩
abbrev S4x3072 : Shape := ⟨2, ![4, 3072]⟩
abbrev S1x3072 : Shape := ⟨2, ![1, 3072]⟩
abbrev S3072 : Shape := ⟨1, ![3072]⟩
abbrev S1x128x3x3072 : Shape := ⟨4, ![1, 128, 3, 3072]⟩
abbrev S128x3x3072 : Shape := ⟨3, ![128, 3, 3072]⟩
abbrev S128x8x3072 : Shape := ⟨3, ![128, 8, 3072]⟩
abbrev S1024x3072 : Shape := ⟨2, ![1024, 3072]⟩
abbrev S128x128 : Shape := ⟨2, ![128, 128]⟩
abbrev S16x16 : Shape := ⟨2, ![16, 16]⟩
abbrev S8x8 : Shape := ⟨2, ![8, 8]⟩
abbrev S16x1x16x1 : Shape := ⟨4, ![16, 1, 16, 1]⟩
abbrev S1x8x1x8 : Shape := ⟨4, ![1, 8, 1, 8]⟩
abbrev S16x8x16x8 : Shape := ⟨4, ![16, 8, 16, 8]⟩
abbrev S128 : Shape := ⟨1, ![128]⟩
abbrev S128x1 : Shape := ⟨2, ![128, 1]⟩
abbrev S128x2048 : Shape := ⟨2, ![128, 2048]⟩
abbrev S384 : Shape := ⟨1, ![384]⟩
abbrev S1x384 : Shape := ⟨2, ![1, 384]⟩
abbrev S128x384 : Shape := ⟨2, ![128, 384]⟩
abbrev S384x384 : Shape := ⟨2, ![384, 384]⟩
abbrev S2048x128 : Shape := ⟨2, ![2048, 128]⟩
abbrev S128x3072 : Shape := ⟨2, ![128, 3072]⟩
abbrev S32x2048 : Shape := ⟨2, ![32, 2048]⟩
abbrev S1x4x2048x128 : Shape := ⟨4, ![1, 4, 2048, 128]⟩
abbrev S2x4x2048x128 : Shape := ⟨4, ![2, 4, 2048, 128]⟩
abbrev S128x512 : Shape := ⟨2, ![128, 512]⟩
abbrev S384x3072 : Shape := ⟨2, ![384, 3072]⟩
abbrev S256x128 : Shape := ⟨2, ![256, 128]⟩
abbrev S256x384 : Shape := ⟨2, ![256, 384]⟩
abbrev S768x128 : Shape := ⟨2, ![768, 128]⟩
abbrev S768x2048 : Shape := ⟨2, ![768, 2048]⟩
abbrev S128x256 : Shape := ⟨2, ![128, 256]⟩
abbrev S32x512 : Shape := ⟨2, ![32, 512]⟩
abbrev S32x1 : Shape := ⟨2, ![32, 1]⟩
abbrev S1x1x2048x128 : Shape := ⟨4, ![1, 1, 2048, 128]⟩
abbrev S32x128 : Shape := ⟨2, ![32, 128]⟩
abbrev S512x128 : Shape := ⟨2, ![512, 128]⟩
abbrev S2048x256 : Shape := ⟨2, ![2048, 256]⟩

abbrev nBuf : Space → Nat
  | .hbm => 308
  | .vmem => 30
  | .smem => 0
  | _ => 0

abbrev hbmTy0_0 (i : Nat) : BufTy := match i % 128 with
  | 0 => ⟨S17408x3072, .bf16⟩
  | 1 => ⟨S17408x128, .f32⟩
  | 2 => ⟨S17408x2048, .bf16⟩
  | 3 => ⟨S17408x2048, .bf16⟩
  | 4 => ⟨S2x128x3x3072, .f32⟩
  | 5 => ⟨S2x128x32x64x128, .f32⟩
  | 6 => ⟨S2x32, .f32⟩
  | 7 => ⟨S2x4x3072, .f32⟩
  | 8 => ⟨S2x3072, .f32⟩
  | 9 => ⟨S2x32, .f32⟩
  | 10 => ⟨S2x2048, .f32⟩
  | 11 => ⟨S2x128x2048x128, .f32⟩
  | 12 => ⟨S1x32, .f32⟩
  | 13 => ⟨S32, .f32⟩
  | 14 => ⟨S1x32, .f32⟩
  | 15 => ⟨S_, .i32⟩
  | 16 => ⟨S_, .f32⟩
  | 17 => ⟨S1x128, .f32⟩
  | 18 => ⟨S1x32, .f32⟩
  | 19 => ⟨S32, .f32⟩
  | 20 => ⟨S32x64, .f32⟩
  | 21 => ⟨S2048, .f32⟩
  | 22 => ⟨S1x2048, .f32⟩
  | 23 => ⟨S1x4x3072, .f32⟩
  | 24 => ⟨S4x3072, .f32⟩
  | 25 => ⟨S1x3072, .f32⟩
  | 26 => ⟨S3072, .f32⟩
  | 27 => ⟨S1x3072, .f32⟩
  | 28 => ⟨S1x2048, .f32⟩
  | 29 => ⟨S2048, .f32⟩
  | 30 => ⟨S1x2048, .f32⟩
  | 31 => ⟨S1x128x3x3072, .f32⟩
  | 32 => ⟨S128x3x3072, .f32⟩
  | 33 => ⟨S_, .i32⟩
  | 34 => ⟨S_, .f32⟩
  | 35 => ⟨S128x8x3072, .f32⟩
  | 36 => ⟨S1024x3072, .f32⟩
  | 37 => ⟨S_, .f32⟩
  | 38 => ⟨S128x128, .f32⟩
  | 39 => ⟨S128x128, .i32⟩
  | 40 => ⟨S_, .i32⟩
  | 41 => ⟨S128x128, .i32⟩
  | 42 => ⟨S128x128, .i32⟩
  | 43 => ⟨S128x128, .i32⟩
  | 44 => ⟨S128x128, .i1⟩
  | 45 => ⟨S_, .f32⟩
  | 46 => ⟨S128x128, .f32⟩
  | 47 => ⟨S128x128, .f32⟩
  | 48 => ⟨S16x16, .i32⟩
  | 49 => ⟨S16x16, .i32⟩
  | 50 => ⟨S_, .i32⟩
  | 51 => ⟨S16x16, .i32⟩
  | 52 => ⟨S16x16, .i32⟩
  | 53 => ⟨S16x16, .i1⟩
  | 54 => ⟨S16x16, .f32⟩
  | 55 => ⟨S_, .f32⟩
  | 56 => ⟨S8x8, .f32⟩
  | 57 => ⟨S16x1x16x1, .f32⟩
  | 58 => ⟨S1x8x1x8, .f32⟩
  | 59 => ⟨S16x8x16x8, .f32⟩
  | 60 => ⟨S16x8x16x8, .f32⟩
  | 61 => ⟨S16x8x16x8, .f32⟩
  | 62 => ⟨S128x128, .f32⟩
  | 63 => ⟨S128x128, .f32⟩
  | 64 => ⟨S2048, .i32⟩
  | 65 => ⟨S_, .i32⟩
  | 66 => ⟨S_, .i32⟩
  | 67 => ⟨S2048, .i32⟩
  | 68 => ⟨S2048, .i32⟩
  | 69 => ⟨S2048, .i32⟩
  | 70 => ⟨S_, .i32⟩
  | 71 => ⟨S2048, .i32⟩
  | 72 => ⟨S2048, .i1⟩
  | 73 => ⟨S2048, .i32⟩
  | 74 => ⟨S2048, .i32⟩
  | 75 => ⟨S_, .i32⟩
  | 76 => ⟨S2048, .i32⟩
  | 77 => ⟨S2048, .i1⟩
  | 78 => ⟨S2048, .i1⟩
  | 79 => ⟨S_, .i32⟩
  | 80 => ⟨S2048, .i32⟩
  | 81 => ⟨S2048, .i32⟩
  | 82 => ⟨S2048, .i32⟩
  | 83 => ⟨S128, .i32⟩
  | 84 => ⟨S128x1, .i32⟩
  | 85 => ⟨S1x2048, .i32⟩
  | 86 => ⟨S128x2048, .i32⟩
  | 87 => ⟨S128x2048, .i32⟩
  | 88 => ⟨S128x2048, .i1⟩
  | 89 => ⟨S128x2048, .bf16⟩
  | 90 => ⟨S128, .i32⟩
  | 91 => ⟨S128x1, .i32⟩
  | 92 => ⟨S384, .i32⟩
  | 93 => ⟨S1x384, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S128x1, .i32⟩
  | 101 => ⟨S128x1, .i32⟩
  | 102 => ⟨S_, .i32⟩
  | 103 => ⟨S128x1, .i32⟩
  | 104 => ⟨S128x1, .i1⟩
  | 105 => ⟨S_, .i32⟩
  | 106 => ⟨S128x1, .i32⟩
  | 107 => ⟨S128x1, .i1⟩
  | 108 => ⟨S_, .i32⟩
  | 109 => ⟨S_, .i1⟩
  | 110 => ⟨S128x1, .i1⟩
  | 111 => ⟨S128x1, .i1⟩
  | 112 => ⟨S128x1, .i1⟩
  | 113 => ⟨S128x1, .i32⟩
  | 114 => ⟨S128x1, .i32⟩
  | 115 => ⟨S128x1, .i32⟩
  | 116 => ⟨S_, .i32⟩
  | 117 => ⟨S128x1, .i32⟩
  | 118 => ⟨S128x1, .i1⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S1x384, .i32⟩
  | 126 => ⟨S1x384, .i32⟩
  | 127 => ⟨S_, .i32⟩
  | _ => ⟨S17408x3072, .bf16⟩

abbrev hbmTy0_1 (i : Nat) : BufTy := match i % 128 with
  | 0 => ⟨S1x384, .i32⟩
  | 1 => ⟨S1x384, .i1⟩
  | 2 => ⟨S_, .i32⟩
  | 3 => ⟨S1x384, .i32⟩
  | 4 => ⟨S1x384, .i1⟩
  | 5 => ⟨S_, .i32⟩
  | 6 => ⟨S_, .i1⟩
  | 7 => ⟨S1x384, .i1⟩
  | 8 => ⟨S1x384, .i1⟩
  | 9 => ⟨S1x384, .i1⟩
  | 10 => ⟨S1x384, .i32⟩
  | 11 => ⟨S1x384, .i32⟩
  | 12 => ⟨S1x384, .i32⟩
  | 13 => ⟨S_, .i32⟩
  | 14 => ⟨S128x1, .i32⟩
  | 15 => ⟨S128x1, .i32⟩
  | 16 => ⟨S_, .i32⟩
  | 17 => ⟨S128x1, .i32⟩
  | 18 => ⟨S128x1, .i32⟩
  | 19 => ⟨S128x384, .i32⟩
  | 20 => ⟨S128x384, .i32⟩
  | 21 => ⟨S128x384, .i1⟩
  | 22 => ⟨S_, .i32⟩
  | 23 => ⟨S1x384, .i32⟩
  | 24 => ⟨S1x384, .i1⟩
  | 25 => ⟨S128x384, .i1⟩
  | 26 => ⟨S128x384, .i1⟩
  | 27 => ⟨S_, .i32⟩
  | 28 => ⟨S128x1, .i32⟩
  | 29 => ⟨S128x1, .i32⟩
  | 30 => ⟨S128x384, .i32⟩
  | 31 => ⟨S128x384, .i32⟩
  | 32 => ⟨S128x384, .i1⟩
  | 33 => ⟨S128x384, .i1⟩
  | 34 => ⟨S128x384, .i1⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S128x1, .i32⟩
  | 42 => ⟨S128x1, .i32⟩
  | 43 => ⟨S_, .i32⟩
  | 44 => ⟨S128x1, .i32⟩
  | 45 => ⟨S128x1, .i1⟩
  | 46 => ⟨S_, .i32⟩
  | 47 => ⟨S128x1, .i32⟩
  | 48 => ⟨S128x1, .i1⟩
  | 49 => ⟨S_, .i32⟩
  | 50 => ⟨S_, .i1⟩
  | 51 => ⟨S128x1, .i1⟩
  | 52 => ⟨S128x1, .i1⟩
  | 53 => ⟨S128x1, .i1⟩
  | 54 => ⟨S128x1, .i32⟩
  | 55 => ⟨S128x1, .i32⟩
  | 56 => ⟨S128x1, .i32⟩
  | 57 => ⟨S_, .i32⟩
  | 58 => ⟨S128x1, .i32⟩
  | 59 => ⟨S128x1, .i1⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S1x384, .i32⟩
  | 67 => ⟨S1x384, .i32⟩
  | 68 => ⟨S_, .i32⟩
  | 69 => ⟨S1x384, .i32⟩
  | 70 => ⟨S1x384, .i1⟩
  | 71 => ⟨S_, .i32⟩
  | 72 => ⟨S1x384, .i32⟩
  | 73 => ⟨S1x384, .i1⟩
  | 74 => ⟨S_, .i32⟩
  | 75 => ⟨S_, .i1⟩
  | 76 => ⟨S1x384, .i1⟩
  | 77 => ⟨S1x384, .i1⟩
  | 78 => ⟨S1x384, .i1⟩
  | 79 => ⟨S1x384, .i32⟩
  | 80 => ⟨S1x384, .i32⟩
  | 81 => ⟨S1x384, .i32⟩
  | 82 => ⟨S_, .i32⟩
  | 83 => ⟨S128x1, .i32⟩
  | 84 => ⟨S128x1, .i32⟩
  | 85 => ⟨S_, .i32⟩
  | 86 => ⟨S128x1, .i32⟩
  | 87 => ⟨S128x1, .i32⟩
  | 88 => ⟨S128x384, .i32⟩
  | 89 => ⟨S128x384, .i32⟩
  | 90 => ⟨S128x384, .i1⟩
  | 91 => ⟨S_, .i32⟩
  | 92 => ⟨S1x384, .i32⟩
  | 93 => ⟨S1x384, .i1⟩
  | 94 => ⟨S128x384, .i1⟩
  | 95 => ⟨S128x384, .i1⟩
  | 96 => ⟨S_, .i32⟩
  | 97 => ⟨S128x1, .i32⟩
  | 98 => ⟨S128x1, .i32⟩
  | 99 => ⟨S128x384, .i32⟩
  | 100 => ⟨S128x384, .i32⟩
  | 101 => ⟨S128x384, .i1⟩
  | 102 => ⟨S128x384, .i1⟩
  | 103 => ⟨S128x384, .i1⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S128x1, .i32⟩
  | 111 => ⟨S128x1, .i32⟩
  | 112 => ⟨S_, .i32⟩
  | 113 => ⟨S128x1, .i32⟩
  | 114 => ⟨S128x1, .i1⟩
  | 115 => ⟨S_, .i32⟩
  | 116 => ⟨S128x1, .i32⟩
  | 117 => ⟨S128x1, .i1⟩
  | 118 => ⟨S_, .i32⟩
  | 119 => ⟨S_, .i1⟩
  | 120 => ⟨S128x1, .i1⟩
  | 121 => ⟨S128x1, .i1⟩
  | 122 => ⟨S128x1, .i1⟩
  | 123 => ⟨S128x1, .i32⟩
  | 124 => ⟨S128x1, .i32⟩
  | 125 => ⟨S128x1, .i32⟩
  | 126 => ⟨S_, .i32⟩
  | 127 => ⟨S128x1, .i32⟩
  | _ => ⟨S17408x3072, .bf16⟩

abbrev hbmTy0_2 (i : Nat) : BufTy := match i % 128 with
  | 0 => ⟨S128x1, .i1⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S1x384, .i32⟩
  | 8 => ⟨S1x384, .i32⟩
  | 9 => ⟨S_, .i32⟩
  | 10 => ⟨S1x384, .i32⟩
  | 11 => ⟨S1x384, .i1⟩
  | 12 => ⟨S_, .i32⟩
  | 13 => ⟨S1x384, .i32⟩
  | 14 => ⟨S1x384, .i1⟩
  | 15 => ⟨S_, .i32⟩
  | 16 => ⟨S_, .i1⟩
  | 17 => ⟨S1x384, .i1⟩
  | 18 => ⟨S1x384, .i1⟩
  | 19 => ⟨S1x384, .i1⟩
  | 20 => ⟨S1x384, .i32⟩
  | 21 => ⟨S1x384, .i32⟩
  | 22 => ⟨S1x384, .i32⟩
  | 23 => ⟨S_, .i32⟩
  | 24 => ⟨S128x1, .i32⟩
  | 25 => ⟨S128x1, .i32⟩
  | 26 => ⟨S_, .i32⟩
  | 27 => ⟨S128x1, .i32⟩
  | 28 => ⟨S128x1, .i32⟩
  | 29 => ⟨S128x384, .i32⟩
  | 30 => ⟨S128x384, .i32⟩
  | 31 => ⟨S128x384, .i1⟩
  | 32 => ⟨S_, .i32⟩
  | 33 => ⟨S1x384, .i32⟩
  | 34 => ⟨S1x384, .i1⟩
  | 35 => ⟨S128x384, .i1⟩
  | 36 => ⟨S128x384, .i1⟩
  | 37 => ⟨S_, .i32⟩
  | 38 => ⟨S128x1, .i32⟩
  | 39 => ⟨S128x1, .i32⟩
  | 40 => ⟨S128x384, .i32⟩
  | 41 => ⟨S128x384, .i32⟩
  | 42 => ⟨S128x384, .i1⟩
  | 43 => ⟨S128x384, .i1⟩
  | 44 => ⟨S128x384, .i1⟩
  | 45 => ⟨S384x384, .i1⟩
  | 46 => ⟨S384x384, .bf16⟩
  | 47 => ⟨S128x128, .bf16⟩
  | 48 => ⟨S128x128, .bf16⟩
  | 49 => ⟨S2048x128, .bf16⟩
  | 50 => ⟨S17408x2048, .bf16⟩
  | 51 => ⟨S2x128x2048x128, .f32⟩
  | _ => ⟨S17408x3072, .bf16⟩

abbrev hbmTy (i : Nat) : BufTy := match i / 128 with
  | 0 => hbmTy0_0 i
  | 1 => hbmTy0_1 i
  | 2 => hbmTy0_2 i
  | _ => ⟨S17408x3072, .bf16⟩

abbrev bufTy : (tb : Table) → Fin (tcTables nBuf tb) → BufTy
  | .hbm, ⟨i, _⟩ => hbmTy i
  | .local _ .vmem, ⟨0, _⟩ => ⟨S128x3072, .bf16⟩
  | .local _ .vmem, ⟨1, _⟩ => ⟨S128x3072, .bf16⟩
  | .local _ .vmem, ⟨2, _⟩ => ⟨S128x3072, .f32⟩
  | .local _ .vmem, ⟨3, _⟩ => ⟨S128x3072, .f32⟩
  | .local _ .vmem, ⟨4, _⟩ => ⟨S128x128, .f32⟩
  | .local _ .vmem, ⟨5, _⟩ => ⟨S128x128, .f32⟩
  | .local _ .vmem, ⟨6, _⟩ => ⟨S32x2048, .bf16⟩
  | .local _ .vmem, ⟨7, _⟩ => ⟨S32x2048, .bf16⟩
  | .local _ .vmem, ⟨8, _⟩ => ⟨S1x4x2048x128, .f32⟩
  | .local _ .vmem, ⟨9, _⟩ => ⟨S1x4x2048x128, .f32⟩
  | .local _ .vmem, ⟨10, _⟩ => ⟨S1x128, .f32⟩
  | .local _ .vmem, ⟨11, _⟩ => ⟨S4x3072, .f32⟩
  | .local _ .vmem, ⟨12, _⟩ => ⟨S1x3072, .f32⟩
  | .local _ .vmem, ⟨13, _⟩ => ⟨S384x384, .bf16⟩
  | .local _ .vmem, ⟨14, _⟩ => ⟨S128x128, .bf16⟩
  | .local _ .vmem, ⟨15, _⟩ => ⟨S128x128, .bf16⟩
  | .local _ .vmem, ⟨16, _⟩ => ⟨S128x2048, .bf16⟩
  | .local _ .vmem, ⟨17, _⟩ => ⟨S2048x128, .bf16⟩
  | .local _ .vmem, ⟨18, _⟩ => ⟨S1x2048, .f32⟩
  | .local _ .vmem, ⟨19, _⟩ => ⟨S1x2048, .f32⟩
  | .local _ .vmem, ⟨20, _⟩ => ⟨S32x2048, .bf16⟩
  | .local _ .vmem, ⟨21, _⟩ => ⟨S32x2048, .bf16⟩
  | .local _ .vmem, ⟨22, _⟩ => ⟨S2x4x2048x128, .f32⟩
  | .local _ .vmem, ⟨23, _⟩ => ⟨S2x4x2048x128, .f32⟩
  | .local _ .vmem, ⟨24, _⟩ => ⟨S128x2048, .f32⟩
  | .local _ .vmem, ⟨25, _⟩ => ⟨S128x2048, .f32⟩
  | .local _ .vmem, ⟨26, _⟩ => ⟨S128x512, .f32⟩
  | .local _ .vmem, ⟨27, _⟩ => ⟨S128x512, .f32⟩
  | .local _ .vmem, ⟨28, _⟩ => ⟨S2048x128, .bf16⟩
  | .local _ .vmem, ⟨29, _⟩ => ⟨S128x128, .f32⟩
  | _, _ => ⟨S17408x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_0 : Ref sig .tc := ⟨.hbm, 33, rfl⟩
abbrev main_call1_v0 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_call2_v0 : Ref sig .tc := ⟨.hbm, 39, rfl⟩
abbrev main_call2_c : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_cst : Ref sig .tc := ⟨.hbm, 45, rfl⟩
abbrev main_call2_v5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_1 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_2 : Ref sig .tc := ⟨.hbm, 55, rfl⟩
abbrev main_v30 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_c_3 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_call4_v3 : Ref sig .tc := ⟨.hbm, 69, rfl⟩
abbrev main_call4_v4 : Ref sig .tc := ⟨.hbm, 70, rfl⟩
abbrev main_call4_v5 : Ref sig .tc := ⟨.hbm, 71, rfl⟩
abbrev main_call4_v6 : Ref sig .tc := ⟨.hbm, 72, rfl⟩
abbrev main_call4_v7 : Ref sig .tc := ⟨.hbm, 73, rfl⟩
abbrev main_call4_v8 : Ref sig .tc := ⟨.hbm, 74, rfl⟩
abbrev main_call4_c : Ref sig .tc := ⟨.hbm, 75, rfl⟩
abbrev main_call4_v9 : Ref sig .tc := ⟨.hbm, 76, rfl⟩
abbrev main_call4_v10 : Ref sig .tc := ⟨.hbm, 77, rfl⟩
abbrev main_call4_v11 : Ref sig .tc := ⟨.hbm, 78, rfl⟩
abbrev main_call4_c_0 : Ref sig .tc := ⟨.hbm, 79, rfl⟩
abbrev main_call4_v12 : Ref sig .tc := ⟨.hbm, 80, rfl⟩
abbrev main_call4_v13 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_c_4 : Ref sig .tc := ⟨.hbm, 94, rfl⟩
abbrev main_call5_v0 : Ref sig .tc := ⟨.hbm, 95, rfl⟩
abbrev main_call5_c : Ref sig .tc := ⟨.hbm, 96, rfl⟩
abbrev main_call5_v1 : Ref sig .tc := ⟨.hbm, 97, rfl⟩
abbrev main_call5_c_0 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_call5_c_1 : Ref sig .tc := ⟨.hbm, 102, rfl⟩
abbrev main_call5_v5 : Ref sig .tc := ⟨.hbm, 103, rfl⟩
abbrev main_call5_v6 : Ref sig .tc := ⟨.hbm, 104, rfl⟩
abbrev main_call5_c_2 : Ref sig .tc := ⟨.hbm, 105, rfl⟩
abbrev main_call5_v7 : Ref sig .tc := ⟨.hbm, 106, rfl⟩
abbrev main_call5_v8 : Ref sig .tc := ⟨.hbm, 107, rfl⟩
abbrev main_call5_c_3 : Ref sig .tc := ⟨.hbm, 108, rfl⟩
abbrev main_call5_v9 : Ref sig .tc := ⟨.hbm, 109, rfl⟩
abbrev main_call5_v10 : Ref sig .tc := ⟨.hbm, 110, rfl⟩
abbrev main_call5_v11 : Ref sig .tc := ⟨.hbm, 111, rfl⟩
abbrev main_call5_v12 : Ref sig .tc := ⟨.hbm, 112, rfl⟩
abbrev main_call5_v13 : Ref sig .tc := ⟨.hbm, 113, rfl⟩
abbrev main_call5_v14 : Ref sig .tc := ⟨.hbm, 114, rfl⟩
abbrev main_v46 : Ref sig .tc := ⟨.hbm, 115, rfl⟩
abbrev main_c_5 : Ref sig .tc := ⟨.hbm, 116, rfl⟩
abbrev main_v47 : Ref sig .tc := ⟨.hbm, 117, rfl⟩
abbrev main_v48 : Ref sig .tc := ⟨.hbm, 118, rfl⟩
abbrev main_c_6 : Ref sig .tc := ⟨.hbm, 119, rfl⟩
abbrev main_call6_v0 : Ref sig .tc := ⟨.hbm, 120, rfl⟩
abbrev main_call6_c : Ref sig .tc := ⟨.hbm, 121, rfl⟩
abbrev main_call6_v1 : Ref sig .tc := ⟨.hbm, 122, rfl⟩
abbrev main_call6_c_0 : Ref sig .tc := ⟨.hbm, 123, rfl⟩
abbrev main_call6_v2 : Ref sig .tc := ⟨.hbm, 124, rfl⟩
abbrev main_call6_v3 : Ref sig .tc := ⟨.hbm, 125, rfl⟩
abbrev main_call6_v4 : Ref sig .tc := ⟨.hbm, 126, rfl⟩
abbrev main_call6_c_1 : Ref sig .tc := ⟨.hbm, 127, rfl⟩
abbrev main_call6_v5 : Ref sig .tc := ⟨.hbm, 128, rfl⟩
abbrev main_call6_v6 : Ref sig .tc := ⟨.hbm, 129, rfl⟩
abbrev main_call6_c_2 : Ref sig .tc := ⟨.hbm, 130, rfl⟩
abbrev main_call6_v7 : Ref sig .tc := ⟨.hbm, 131, rfl⟩
abbrev main_call6_v8 : Ref sig .tc := ⟨.hbm, 132, rfl⟩
abbrev main_call6_c_3 : Ref sig .tc := ⟨.hbm, 133, rfl⟩
abbrev main_call6_v9 : Ref sig .tc := ⟨.hbm, 134, rfl⟩
abbrev main_call6_v10 : Ref sig .tc := ⟨.hbm, 135, rfl⟩
abbrev main_call6_v11 : Ref sig .tc := ⟨.hbm, 136, rfl⟩
abbrev main_call6_v12 : Ref sig .tc := ⟨.hbm, 137, rfl⟩
abbrev main_call6_v13 : Ref sig .tc := ⟨.hbm, 138, rfl⟩
abbrev main_call6_v14 : Ref sig .tc := ⟨.hbm, 139, rfl⟩
abbrev main_v49 : Ref sig .tc := ⟨.hbm, 140, rfl⟩
abbrev main_c_7 : Ref sig .tc := ⟨.hbm, 141, rfl⟩
abbrev main_v50 : Ref sig .tc := ⟨.hbm, 142, rfl⟩
abbrev main_v51 : Ref sig .tc := ⟨.hbm, 143, rfl⟩
abbrev main_c_8 : Ref sig .tc := ⟨.hbm, 144, rfl⟩
abbrev main_v52 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩
abbrev main_v56 : Ref sig .tc := ⟨.hbm, 149, rfl⟩
abbrev main_c_9 : Ref sig .tc := ⟨.hbm, 150, rfl⟩
abbrev main_v57 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_c_10 : Ref sig .tc := ⟨.hbm, 155, rfl⟩
abbrev main_v61 : Ref sig .tc := ⟨.hbm, 156, rfl⟩
abbrev main_v62 : Ref sig .tc := ⟨.hbm, 157, rfl⟩
abbrev main_v63 : Ref sig .tc := ⟨.hbm, 158, rfl⟩
abbrev main_v64 : Ref sig .tc := ⟨.hbm, 159, rfl⟩
abbrev main_v65 : Ref sig .tc := ⟨.hbm, 160, rfl⟩
abbrev main_call7_v0 : Ref sig .tc := ⟨.hbm, 161, rfl⟩
abbrev main_v66 : Ref sig .tc := ⟨.hbm, 162, rfl⟩
abbrev main_c_11 : Ref sig .tc := ⟨.hbm, 163, rfl⟩
abbrev main_call8_v0 : Ref sig .tc := ⟨.hbm, 164, rfl⟩
abbrev main_call8_c : Ref sig .tc := ⟨.hbm, 165, rfl⟩
abbrev main_call8_v1 : Ref sig .tc := ⟨.hbm, 166, rfl⟩
abbrev main_call8_c_0 : Ref sig .tc := ⟨.hbm, 167, rfl⟩
abbrev main_call8_v2 : Ref sig .tc := ⟨.hbm, 168, rfl⟩
abbrev main_call8_v3 : Ref sig .tc := ⟨.hbm, 169, rfl⟩
abbrev main_call8_v4 : Ref sig .tc := ⟨.hbm, 170, rfl⟩
abbrev main_call8_c_1 : Ref sig .tc := ⟨.hbm, 171, rfl⟩
abbrev main_call8_v5 : Ref sig .tc := ⟨.hbm, 172, rfl⟩
abbrev main_call8_v6 : Ref sig .tc := ⟨.hbm, 173, rfl⟩
abbrev main_call8_c_2 : Ref sig .tc := ⟨.hbm, 174, rfl⟩
abbrev main_call8_v7 : Ref sig .tc := ⟨.hbm, 175, rfl⟩
abbrev main_call8_v8 : Ref sig .tc := ⟨.hbm, 176, rfl⟩
abbrev main_call8_c_3 : Ref sig .tc := ⟨.hbm, 177, rfl⟩
abbrev main_call8_v9 : Ref sig .tc := ⟨.hbm, 178, rfl⟩
abbrev main_call8_v10 : Ref sig .tc := ⟨.hbm, 179, rfl⟩
abbrev main_call8_v11 : Ref sig .tc := ⟨.hbm, 180, rfl⟩
abbrev main_call8_v12 : Ref sig .tc := ⟨.hbm, 181, rfl⟩
abbrev main_call8_v13 : Ref sig .tc := ⟨.hbm, 182, rfl⟩
abbrev main_call8_v14 : Ref sig .tc := ⟨.hbm, 183, rfl⟩
abbrev main_v67 : Ref sig .tc := ⟨.hbm, 184, rfl⟩
abbrev main_c_12 : Ref sig .tc := ⟨.hbm, 185, rfl⟩
abbrev main_v68 : Ref sig .tc := ⟨.hbm, 186, rfl⟩
abbrev main_v69 : Ref sig .tc := ⟨.hbm, 187, rfl⟩
abbrev main_c_13 : Ref sig .tc := ⟨.hbm, 188, rfl⟩
abbrev main_call9_v0 : Ref sig .tc := ⟨.hbm, 189, rfl⟩
abbrev main_call9_c : Ref sig .tc := ⟨.hbm, 190, rfl⟩
abbrev main_call9_v1 : Ref sig .tc := ⟨.hbm, 191, rfl⟩
abbrev main_call9_c_0 : Ref sig .tc := ⟨.hbm, 192, rfl⟩
abbrev main_call9_v2 : Ref sig .tc := ⟨.hbm, 193, rfl⟩
abbrev main_call9_v3 : Ref sig .tc := ⟨.hbm, 194, rfl⟩
abbrev main_call9_v4 : Ref sig .tc := ⟨.hbm, 195, rfl⟩
abbrev main_call9_c_1 : Ref sig .tc := ⟨.hbm, 196, rfl⟩
abbrev main_call9_v5 : Ref sig .tc := ⟨.hbm, 197, rfl⟩
abbrev main_call9_v6 : Ref sig .tc := ⟨.hbm, 198, rfl⟩
abbrev main_call9_c_2 : Ref sig .tc := ⟨.hbm, 199, rfl⟩
abbrev main_call9_v7 : Ref sig .tc := ⟨.hbm, 200, rfl⟩
abbrev main_call9_v8 : Ref sig .tc := ⟨.hbm, 201, rfl⟩
abbrev main_call9_c_3 : Ref sig .tc := ⟨.hbm, 202, rfl⟩
abbrev main_call9_v9 : Ref sig .tc := ⟨.hbm, 203, rfl⟩
abbrev main_call9_v10 : Ref sig .tc := ⟨.hbm, 204, rfl⟩
abbrev main_call9_v11 : Ref sig .tc := ⟨.hbm, 205, rfl⟩
abbrev main_call9_v12 : Ref sig .tc := ⟨.hbm, 206, rfl⟩
abbrev main_call9_v13 : Ref sig .tc := ⟨.hbm, 207, rfl⟩
abbrev main_call9_v14 : Ref sig .tc := ⟨.hbm, 208, rfl⟩
abbrev main_v70 : Ref sig .tc := ⟨.hbm, 209, rfl⟩
abbrev main_c_14 : Ref sig .tc := ⟨.hbm, 210, rfl⟩
abbrev main_v71 : Ref sig .tc := ⟨.hbm, 211, rfl⟩
abbrev main_v72 : Ref sig .tc := ⟨.hbm, 212, rfl⟩
abbrev main_c_15 : Ref sig .tc := ⟨.hbm, 213, rfl⟩
abbrev main_v73 : Ref sig .tc := ⟨.hbm, 214, rfl⟩
abbrev main_v74 : Ref sig .tc := ⟨.hbm, 215, rfl⟩
abbrev main_v75 : Ref sig .tc := ⟨.hbm, 216, rfl⟩
abbrev main_v76 : Ref sig .tc := ⟨.hbm, 217, rfl⟩
abbrev main_v77 : Ref sig .tc := ⟨.hbm, 218, rfl⟩
abbrev main_c_16 : Ref sig .tc := ⟨.hbm, 219, rfl⟩
abbrev main_v78 : Ref sig .tc := ⟨.hbm, 220, rfl⟩
abbrev main_v79 : Ref sig .tc := ⟨.hbm, 221, rfl⟩
abbrev main_v80 : Ref sig .tc := ⟨.hbm, 222, rfl⟩
abbrev main_v81 : Ref sig .tc := ⟨.hbm, 223, rfl⟩
abbrev main_c_17 : Ref sig .tc := ⟨.hbm, 224, rfl⟩
abbrev main_v82 : Ref sig .tc := ⟨.hbm, 225, rfl⟩
abbrev main_v83 : Ref sig .tc := ⟨.hbm, 226, rfl⟩
abbrev main_v84 : Ref sig .tc := ⟨.hbm, 227, rfl⟩
abbrev main_v85 : Ref sig .tc := ⟨.hbm, 228, rfl⟩
abbrev main_v86 : Ref sig .tc := ⟨.hbm, 229, rfl⟩
abbrev main_call10_v0 : Ref sig .tc := ⟨.hbm, 230, rfl⟩
abbrev main_v87 : Ref sig .tc := ⟨.hbm, 231, rfl⟩
abbrev main_c_18 : Ref sig .tc := ⟨.hbm, 232, rfl⟩
abbrev main_call11_v0 : Ref sig .tc := ⟨.hbm, 233, rfl⟩
abbrev main_call11_c : Ref sig .tc := ⟨.hbm, 234, rfl⟩
abbrev main_call11_v1 : Ref sig .tc := ⟨.hbm, 235, rfl⟩
abbrev main_call11_c_0 : Ref sig .tc := ⟨.hbm, 236, rfl⟩
abbrev main_call11_v2 : Ref sig .tc := ⟨.hbm, 237, rfl⟩
abbrev main_call11_v3 : Ref sig .tc := ⟨.hbm, 238, rfl⟩
abbrev main_call11_v4 : Ref sig .tc := ⟨.hbm, 239, rfl⟩
abbrev main_call11_c_1 : Ref sig .tc := ⟨.hbm, 240, rfl⟩
abbrev main_call11_v5 : Ref sig .tc := ⟨.hbm, 241, rfl⟩
abbrev main_call11_v6 : Ref sig .tc := ⟨.hbm, 242, rfl⟩
abbrev main_call11_c_2 : Ref sig .tc := ⟨.hbm, 243, rfl⟩
abbrev main_call11_v7 : Ref sig .tc := ⟨.hbm, 244, rfl⟩
abbrev main_call11_v8 : Ref sig .tc := ⟨.hbm, 245, rfl⟩
abbrev main_call11_c_3 : Ref sig .tc := ⟨.hbm, 246, rfl⟩
abbrev main_call11_v9 : Ref sig .tc := ⟨.hbm, 247, rfl⟩
abbrev main_call11_v10 : Ref sig .tc := ⟨.hbm, 248, rfl⟩
abbrev main_call11_v11 : Ref sig .tc := ⟨.hbm, 249, rfl⟩
abbrev main_call11_v12 : Ref sig .tc := ⟨.hbm, 250, rfl⟩
abbrev main_call11_v13 : Ref sig .tc := ⟨.hbm, 251, rfl⟩
abbrev main_call11_v14 : Ref sig .tc := ⟨.hbm, 252, rfl⟩
abbrev main_v88 : Ref sig .tc := ⟨.hbm, 253, rfl⟩
abbrev main_c_19 : Ref sig .tc := ⟨.hbm, 254, rfl⟩
abbrev main_v89 : Ref sig .tc := ⟨.hbm, 255, rfl⟩
abbrev main_v90 : Ref sig .tc := ⟨.hbm, 256, rfl⟩
abbrev main_c_20 : Ref sig .tc := ⟨.hbm, 257, rfl⟩
abbrev main_call12_v0 : Ref sig .tc := ⟨.hbm, 258, rfl⟩
abbrev main_call12_c : Ref sig .tc := ⟨.hbm, 259, rfl⟩
abbrev main_call12_v1 : Ref sig .tc := ⟨.hbm, 260, rfl⟩
abbrev main_call12_c_0 : Ref sig .tc := ⟨.hbm, 261, rfl⟩
abbrev main_call12_v2 : Ref sig .tc := ⟨.hbm, 262, rfl⟩
abbrev main_call12_v3 : Ref sig .tc := ⟨.hbm, 263, rfl⟩
abbrev main_call12_v4 : Ref sig .tc := ⟨.hbm, 264, rfl⟩
abbrev main_call12_c_1 : Ref sig .tc := ⟨.hbm, 265, rfl⟩
abbrev main_call12_v5 : Ref sig .tc := ⟨.hbm, 266, rfl⟩
abbrev main_call12_v6 : Ref sig .tc := ⟨.hbm, 267, rfl⟩
abbrev main_call12_c_2 : Ref sig .tc := ⟨.hbm, 268, rfl⟩
abbrev main_call12_v7 : Ref sig .tc := ⟨.hbm, 269, rfl⟩
abbrev main_call12_v8 : Ref sig .tc := ⟨.hbm, 270, rfl⟩
abbrev main_call12_c_3 : Ref sig .tc := ⟨.hbm, 271, rfl⟩
abbrev main_call12_v9 : Ref sig .tc := ⟨.hbm, 272, rfl⟩
abbrev main_call12_v10 : Ref sig .tc := ⟨.hbm, 273, rfl⟩
abbrev main_call12_v11 : Ref sig .tc := ⟨.hbm, 274, rfl⟩
abbrev main_call12_v12 : Ref sig .tc := ⟨.hbm, 275, rfl⟩
abbrev main_call12_v13 : Ref sig .tc := ⟨.hbm, 276, rfl⟩
abbrev main_call12_v14 : Ref sig .tc := ⟨.hbm, 277, rfl⟩
abbrev main_v91 : Ref sig .tc := ⟨.hbm, 278, rfl⟩
abbrev main_c_21 : Ref sig .tc := ⟨.hbm, 279, rfl⟩
abbrev main_v92 : Ref sig .tc := ⟨.hbm, 280, rfl⟩
abbrev main_v93 : Ref sig .tc := ⟨.hbm, 281, rfl⟩
abbrev main_c_22 : Ref sig .tc := ⟨.hbm, 282, rfl⟩
abbrev main_v94 : Ref sig .tc := ⟨.hbm, 283, rfl⟩
abbrev main_v95 : Ref sig .tc := ⟨.hbm, 284, rfl⟩
abbrev main_v96 : Ref sig .tc := ⟨.hbm, 285, rfl⟩
abbrev main_v97 : Ref sig .tc := ⟨.hbm, 286, rfl⟩
abbrev main_v98 : Ref sig .tc := ⟨.hbm, 287, rfl⟩
abbrev main_c_23 : Ref sig .tc := ⟨.hbm, 288, rfl⟩
abbrev main_v99 : Ref sig .tc := ⟨.hbm, 289, rfl⟩
abbrev main_v100 : Ref sig .tc := ⟨.hbm, 290, rfl⟩
abbrev main_v101 : Ref sig .tc := ⟨.hbm, 291, rfl⟩
abbrev main_v102 : Ref sig .tc := ⟨.hbm, 292, rfl⟩
abbrev main_c_24 : Ref sig .tc := ⟨.hbm, 293, rfl⟩
abbrev main_v103 : Ref sig .tc := ⟨.hbm, 294, rfl⟩
abbrev main_v104 : Ref sig .tc := ⟨.hbm, 295, rfl⟩
abbrev main_v105 : Ref sig .tc := ⟨.hbm, 296, rfl⟩
abbrev main_v106 : Ref sig .tc := ⟨.hbm, 297, rfl⟩
abbrev main_v107 : Ref sig .tc := ⟨.hbm, 298, rfl⟩
abbrev main_call13_v0 : Ref sig .tc := ⟨.hbm, 299, rfl⟩
abbrev main_v108 : Ref sig .tc := ⟨.hbm, 300, rfl⟩
abbrev main_v109 : Ref sig .tc := ⟨.hbm, 301, rfl⟩
abbrev main_v110 : Ref sig .tc := ⟨.hbm, 302, rfl⟩
abbrev main_v111 : Ref sig .tc := ⟨.hbm, 303, rfl⟩
abbrev main_v112 : Ref sig .tc := ⟨.hbm, 304, rfl⟩
abbrev main_v113 : Ref sig .tc := ⟨.hbm, 305, rfl⟩
abbrev main_v114_0 : Ref sig .tc := ⟨.hbm, 306, rfl⟩
abbrev main_v114_1 : Ref sig .tc := ⟨.hbm, 307, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c32_i32 : BitVec 32 := 32#32
  let v3 : BitVec 32 := Scalar.muli arg1 c32_i32
  v3
def k0_off1 (i : grid0.Coords) : Fin 2 → Nat :=
  let arg1 : BitVec 32 := BitVec.ofNat 32 (i 1).val
  let c32_i32 : BitVec 32 := 32#32
  let v3 : BitVec 32 := Scalar.muli arg1 c32_i32
  let v4 : BitVec 32 := v3
  let v5 : Index := Scalar.indexCast v4
  let c0 : Index := 0#32
  ![v5.toNat, 0]
def k0_off2 (i : grid0.Coords) : Fin 2 → Nat :=
  let arg1 : BitVec 32 := BitVec.ofNat 32 (i 1).val
  let c32_i32 : BitVec 32 := 32#32
  let v3 : BitVec 32 := Scalar.muli arg1 c32_i32
  let v4 : BitVec 32 := v3
  let v451 : Index := Scalar.indexCast v4
  let c0_208 : Index := 0#32
  ![v451.toNat, 0]
def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c512_i32 : BitVec 32 := 512#32
  let v1 : BitVec 32 := Scalar.addi c512_i32 v0
  let v2 : BitVec 32 := Scalar.addi v1 arg1
  let c0_i32 : BitVec 32 := 0#32
  let c0_i32_0 : BitVec 32 := 0#32
  ![v2.toNat, c0_i32.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c512_i32 : BitVec 32 := 512#32
  let v1 : BitVec 32 := Scalar.addi c512_i32 v0
  let v2 : BitVec 32 := Scalar.addi v1 arg1
  let c0_i32 : BitVec 32 := 0#32
  let c0_i32_0 : BitVec 32 := 0#32
  ![v2.toNat, c0_i32.toNat]

def cc0_transform_17 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

abbrev stage0_0 : Fin 2 → Memref sig .tc .vmem S128x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S384x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2048x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S32x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S2x4x2048x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference6Ideal.lean ====
abbrev S17408x3072 : Shape := ⟨2, ![17408, 3072]⟩
abbrev S17408x128 : Shape := ⟨2, ![17408, 128]⟩
abbrev S17408x2048 : Shape := ⟨2, ![17408, 2048]⟩
abbrev S2x128x3x3072 : Shape := ⟨4, ![2, 128, 3, 3072]⟩
abbrev S2x128x32x64x128 : Shape := ⟨5, ![2, 128, 32, 64, 128]⟩
abbrev S2x32 : Shape := ⟨2, ![2, 32]⟩
abbrev S2x4x3072 : Shape := ⟨3, ![2, 4, 3072]⟩
abbrev S2x3072 : Shape := ⟨2, ![2, 3072]⟩
abbrev S2x2048 : Shape := ⟨2, ![2, 2048]⟩
abbrev S1024x3072 : Shape := ⟨2, ![1024, 3072]⟩
abbrev S128x8x3072 : Shape := ⟨3, ![128, 8, 3072]⟩
abbrev S1x128x3x3072 : Shape := ⟨4, ![1, 128, 3, 3072]⟩
abbrev S128x3x3072 : Shape := ⟨3, ![128, 3, 3072]⟩
abbrev S1x4x3072 : Shape := ⟨3, ![1, 4, 3072]⟩
abbrev S4x3072 : Shape := ⟨2, ![4, 3072]⟩
abbrev S1x3072 : Shape := ⟨2, ![1, 3072]⟩
abbrev S3072 : Shape := ⟨1, ![3072]⟩
abbrev S128x11x3072 : Shape := ⟨3, ![128, 11, 3072]⟩
abbrev S1x1x3072 : Shape := ⟨3, ![1, 1, 3072]⟩
abbrev S_ : Shape := ⟨0, ![]⟩
abbrev S128x8x2048 : Shape := ⟨3, ![128, 8, 2048]⟩
abbrev S128x8x512 : Shape := ⟨3, ![128, 8, 512]⟩
abbrev S128x8x32x64 : Shape := ⟨4, ![128, 8, 32, 64]⟩
abbrev S1024x32 : Shape := ⟨2, ![1024, 32]⟩
abbrev S128x8x32 : Shape := ⟨3, ![128, 8, 32]⟩
abbrev S1x32 : Shape := ⟨2, ![1, 32]⟩
abbrev S32 : Shape := ⟨1, ![32]⟩
abbrev S128x8x4x128 : Shape := ⟨4, ![128, 8, 4, 128]⟩
abbrev S1x128x32x64x128 : Shape := ⟨5, ![1, 128, 32, 64, 128]⟩
abbrev S128x32x64x128 : Shape := ⟨4, ![128, 32, 64, 128]⟩
abbrev S128x8x32x1 : Shape := ⟨4, ![128, 8, 32, 1]⟩
abbrev S128x8x4x8x64 : Shape := ⟨5, ![128, 8, 4, 8, 64]⟩
abbrev S1x1x32 : Shape := ⟨3, ![1, 1, 32]⟩
abbrev S128x8x4x8 : Shape := ⟨4, ![128, 8, 4, 8]⟩
abbrev S128x4x8x8 : Shape := ⟨4, ![128, 4, 8, 8]⟩
abbrev S128x4x8x1 : Shape := ⟨4, ![128, 4, 8, 1]⟩
abbrev S128x8x4x8x1 : Shape := ⟨5, ![128, 8, 4, 8, 1]⟩
abbrev S128x4x8x64x128 : Shape := ⟨5, ![128, 4, 8, 64, 128]⟩
abbrev S128x4x8 : Shape := ⟨3, ![128, 4, 8]⟩
abbrev S128x4x8x1x1 : Shape := ⟨5, ![128, 4, 8, 1, 1]⟩
abbrev S128x2048x128 : Shape := ⟨3, ![128, 2048, 128]⟩
abbrev S1x128x2048x128 : Shape := ⟨4, ![1, 128, 2048, 128]⟩
abbrev S2x128x2048x128 : Shape := ⟨4, ![2, 128, 2048, 128]⟩

abbrev nBuf : Space → Nat
  | .hbm => 107
  | .vmem => 0
  | .smem => 0
  | _ => 0

abbrev bufTy : (tb : Table) → Fin (tcTables nBuf tb) → BufTy
  | .hbm, ⟨0, _⟩ => ⟨S17408x3072, .bf16⟩
  | .hbm, ⟨1, _⟩ => ⟨S17408x128, .f32⟩
  | .hbm, ⟨2, _⟩ => ⟨S17408x2048, .bf16⟩
  | .hbm, ⟨3, _⟩ => ⟨S17408x2048, .bf16⟩
  | .hbm, ⟨4, _⟩ => ⟨S2x128x3x3072, .f32⟩
  | .hbm, ⟨5, _⟩ => ⟨S2x128x32x64x128, .f32⟩
  | .hbm, ⟨6, _⟩ => ⟨S2x32, .f32⟩
  | .hbm, ⟨7, _⟩ => ⟨S2x4x3072, .f32⟩
  | .hbm, ⟨8, _⟩ => ⟨S2x3072, .f32⟩
  | .hbm, ⟨9, _⟩ => ⟨S2x32, .f32⟩
  | .hbm, ⟨10, _⟩ => ⟨S2x2048, .f32⟩
  | .hbm, ⟨11, _⟩ => ⟨S1024x3072, .bf16⟩
  | .hbm, ⟨12, _⟩ => ⟨S128x8x3072, .bf16⟩
  | .hbm, ⟨13, _⟩ => ⟨S128x8x3072, .f32⟩
  | .hbm, ⟨14, _⟩ => ⟨S1x128x3x3072, .f32⟩
  | .hbm, ⟨15, _⟩ => ⟨S128x3x3072, .f32⟩
  | .hbm, ⟨16, _⟩ => ⟨S1x4x3072, .f32⟩
  | .hbm, ⟨17, _⟩ => ⟨S4x3072, .f32⟩
  | .hbm, ⟨18, _⟩ => ⟨S1x3072, .f32⟩
  | .hbm, ⟨19, _⟩ => ⟨S3072, .f32⟩
  | .hbm, ⟨20, _⟩ => ⟨S128x11x3072, .f32⟩
  | .hbm, ⟨21, _⟩ => ⟨S128x8x3072, .f32⟩
  | .hbm, ⟨22, _⟩ => ⟨S1x3072, .f32⟩
  | .hbm, ⟨23, _⟩ => ⟨S3072, .f32⟩
  | .hbm, ⟨24, _⟩ => ⟨S1x1x3072, .f32⟩
  | .hbm, ⟨25, _⟩ => ⟨S128x8x3072, .f32⟩
  | .hbm, ⟨26, _⟩ => ⟨S128x8x3072, .f32⟩
  | .hbm, ⟨27, _⟩ => ⟨S1x1x3072, .f32⟩
  | .hbm, ⟨28, _⟩ => ⟨S128x8x3072, .f32⟩
  | .hbm, ⟨29, _⟩ => ⟨S128x8x3072, .f32⟩
  | .hbm, ⟨30, _⟩ => ⟨S128x8x3072, .f32⟩
  | .hbm, ⟨31, _⟩ => ⟨S1x3072, .f32⟩
  | .hbm, ⟨32, _⟩ => ⟨S3072, .f32⟩
  | .hbm, ⟨33, _⟩ => ⟨S1x1x3072, .f32⟩
  | .hbm, ⟨34, _⟩ => ⟨S128x8x3072, .f32⟩
  | .hbm, ⟨35, _⟩ => ⟨S128x8x3072, .f32⟩
  | .hbm, ⟨36, _⟩ => ⟨S128x8x3072, .f32⟩
  | .hbm, ⟨37, _⟩ => ⟨S128x8x3072, .f32⟩
  | .hbm, ⟨38, _⟩ => ⟨S1x3072, .f32⟩
  | .hbm, ⟨39, _⟩ => ⟨S3072, .f32⟩
  | .hbm, ⟨40, _⟩ => ⟨S1x1x3072, .f32⟩
  | .hbm, ⟨41, _⟩ => ⟨S128x8x3072, .f32⟩
  | .hbm, ⟨42, _⟩ => ⟨S128x8x3072, .f32⟩
  | .hbm, ⟨43, _⟩ => ⟨S128x8x3072, .f32⟩
  | .hbm, ⟨44, _⟩ => ⟨S128x8x3072, .f32⟩
  | .hbm, ⟨45, _⟩ => ⟨S1x3072, .f32⟩
  | .hbm, ⟨46, _⟩ => ⟨S3072, .f32⟩
  | .hbm, ⟨47, _⟩ => ⟨S1x1x3072, .f32⟩
  | .hbm, ⟨48, _⟩ => ⟨S128x8x3072, .f32⟩
  | .hbm, ⟨49, _⟩ => ⟨S128x8x3072, .f32⟩
  | .hbm, ⟨50, _⟩ => ⟨S128x8x3072, .f32⟩
  | .hbm, ⟨51, _⟩ => ⟨S128x3x3072, .f32⟩
  | .hbm, ⟨52, _⟩ => ⟨S128x8x3072, .f32⟩
  | .hbm, ⟨53, _⟩ => ⟨S128x8x3072, .f32⟩
  | .hbm, ⟨54, _⟩ => ⟨S_, .f32⟩
  | .hbm, ⟨55, _⟩ => ⟨S128x8x3072, .f32⟩
  | .hbm, ⟨56, _⟩ => ⟨S128x8x3072, .f32⟩
  | .hbm, ⟨57, _⟩ => ⟨S_, .f32⟩
  | .hbm, ⟨58, _⟩ => ⟨S128x8x3072, .f32⟩
  | .hbm, ⟨59, _⟩ => ⟨S128x8x3072, .f32⟩
  | .hbm, ⟨60, _⟩ => ⟨S128x8x3072, .f32⟩
  | .hbm, ⟨61, _⟩ => ⟨S128x8x2048, .f32⟩
  | .hbm, ⟨62, _⟩ => ⟨S128x8x512, .f32⟩
  | .hbm, ⟨63, _⟩ => ⟨S128x8x512, .f32⟩
  | .hbm, ⟨64, _⟩ => ⟨S128x8x32x64, .f32⟩
  | .hbm, ⟨65, _⟩ => ⟨S1024x32, .f32⟩
  | .hbm, ⟨66, _⟩ => ⟨S128x8x32, .f32⟩
  | .hbm, ⟨67, _⟩ => ⟨S1x32, .f32⟩
  | .hbm, ⟨68, _⟩ => ⟨S32, .f32⟩
  | .hbm, ⟨69, _⟩ => ⟨S32, .f32⟩
  | .hbm, ⟨70, _⟩ => ⟨S32, .f32⟩
  | .hbm, ⟨71, _⟩ => ⟨S128x8x4x128, .f32⟩
  | .hbm, ⟨72, _⟩ => ⟨S1x128x32x64x128, .f32⟩
  | .hbm, ⟨73, _⟩ => ⟨S128x32x64x128, .f32⟩
  | .hbm, ⟨74, _⟩ => ⟨S128x8x32x1, .f32⟩
  | .hbm, ⟨75, _⟩ => ⟨S128x8x32x64, .f32⟩
  | .hbm, ⟨76, _⟩ => ⟨S128x8x32x64, .f32⟩
  | .hbm, ⟨77, _⟩ => ⟨S128x8x4x8x64, .f32⟩
  | .hbm, ⟨78, _⟩ => ⟨S1x1x32, .f32⟩
  | .hbm, ⟨79, _⟩ => ⟨S128x8x32, .f32⟩
  | .hbm, ⟨80, _⟩ => ⟨S128x8x32, .f32⟩
  | .hbm, ⟨81, _⟩ => ⟨S128x8x4x8, .f32⟩
  | .hbm, ⟨82, _⟩ => ⟨S128x4x8x8, .f32⟩
  | .hbm, ⟨83, _⟩ => ⟨S_, .f32⟩
  | .hbm, ⟨84, _⟩ => ⟨S_, .f32⟩
  | .hbm, ⟨85, _⟩ => ⟨S128x4x8x8, .f32⟩
  | .hbm, ⟨86, _⟩ => ⟨S128x4x8x1, .f32⟩
  | .hbm, ⟨87, _⟩ => ⟨S128x4x8x8, .f32⟩
  | .hbm, ⟨88, _⟩ => ⟨S128x4x8x8, .f32⟩
  | .hbm, ⟨89, _⟩ => ⟨S128x4x8x8, .f32⟩
  | .hbm, ⟨90, _⟩ => ⟨S128x8x4x8, .f32⟩
  | .hbm, ⟨91, _⟩ => ⟨S128x8x4x8x1, .f32⟩
  | .hbm, ⟨92, _⟩ => ⟨S128x8x4x8x64, .f32⟩
  | .hbm, ⟨93, _⟩ => ⟨S128x8x4x8x64, .f32⟩
  | .hbm, ⟨94, _⟩ => ⟨S128x4x8x64x128, .f32⟩
  | .hbm, ⟨95, _⟩ => ⟨S128x4x8x64x128, .f32⟩
  | .hbm, ⟨96, _⟩ => ⟨S128x4x8x1, .f32⟩
  | .hbm, ⟨97, _⟩ => ⟨S128x4x8, .f32⟩
  | .hbm, ⟨98, _⟩ => ⟨S128x4x8, .f32⟩
  | .hbm, ⟨99, _⟩ => ⟨S128x4x8x1x1, .f32⟩
  | .hbm, ⟨100, _⟩ => ⟨S128x4x8x64x128, .f32⟩
  | .hbm, ⟨101, _⟩ => ⟨S128x4x8x64x128, .f32⟩
  | .hbm, ⟨102, _⟩ => ⟨S128x4x8x64x128, .f32⟩
  | .hbm, ⟨103, _⟩ => ⟨S128x2048x128, .f32⟩
  | .hbm, ⟨104, _⟩ => ⟨S1x128x2048x128, .f32⟩
  | .hbm, ⟨105, _⟩ => ⟨S1x128x2048x128, .f32⟩
  | .hbm, ⟨106, _⟩ => ⟨S2x128x2048x128, .f32⟩
  | _, _ => ⟨S17408x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_call1_call0_cst : Ref sig .tc := ⟨.hbm, 83, rfl⟩
abbrev main_call1_call0_v0 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩

abbrev nD : Nat := 1
abbrev τ : Topo := Topo.v7x

variable {F : FTy → Type} [FloatOps F]
-- ==== Proof.InV.lean ====
/- The value of the in_v call (a projection window of `w_in` read through element windows, gelu, layer norm). -/
module

public import proofs.«01_k».proof.Proof.Gen.KernelIdeal.Value
public import proofs.«01_k».proof.Proof.Gen.ReferenceIdeal.Run
public import Idealize.ShloMosaic.Lib.StableHlo.Run
public import Idealize.ShloMosaic.Lib.Tactic
public import Idealize.ShloMosaic.Lib.Pointwise
public import Idealize.ShloMosaic.Lib.Tactic.CleanTypes

@[expose] public section

noncomputable section

open Idealize.ShloMosaic Idealize.ShloMosaic.TcCoe Idealize.SL.Sem

namespace Cert.InV

open Cert.KernelIdeal Cert.KernelIdeal.Gen Cert.KernelIdeal.Value

variable {F : FTy → Type} [FloatOps F]
variable (m : (ℓ : Loc nD τ sig) → Buf (Elt F) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- What a point stores, over its row block `x`, the weights `s` in the scratch and the two rows. -/
def blockOf (x s : Vec F S1024x1024 .bf16) (g b : Vec F S1x1024 .f32) : Vec F S1024x1024 .f32 :=
  k0_pay1 (k0_pay2 g) (k0_pay3 b) (k0_pay5 x s) (k0_pay6 x s)

theorem scratch_A (c : Dev nD) (i : grid0.Coords) (a2 : Memref sig .tc .vmem S1024x1024 .bf16) (h2 : a2.IsWhole)
    (a3 : Memref sig .tc .vmem S1x1024x1024 .f32) (h3 : a3.IsWhole) (a4 : Memref sig .tc .vmem S1x1024 .f32) (h4 : a4.IsWhole)
    (a5 : Memref sig .tc .vmem S1x1024 .f32) (h5 : a5.IsWhole) (a6 : Memref sig .tc .vmem S1024x1024 .f32) (h6 : a6.IsWhole)
    (a7 : Memref sig .tc .vmem S1024x1024 .bf16) (h7 : a7.IsWhole) (hc : cond0_0 i)
    (x : Vec F S1024x1024 .bf16) (w : Vec F S1x1024x1024 .f32) (g b : Vec F S1x1024 .f32) :
    sout0_A_0 c i a2 h2 a3 h3 a4 h4 a5 h5 a6 h6 a7 h7 hc x w g b = k0_pay4 w := by
  unfold sout0_A_0
  rw [View.read_writes_eq_canon _ _ _ (scover0_A_0 c i a2 h2 a3 h3 a4 h4 a5 h5 a6 h6 a7 h7 hc x w g b)]
  unfold kernelRun0_A
  dsimp only
  sl_unfold_words
  rw [View.canon_unit_zero zero2]
  simp only [View.readAt_eq_ld, h3.read_unread, View.ld_unit_zero (S := S1x1024x1024) zero3]

theorem out_A (c : Dev nD) (i : grid0.Coords) (a2 : Memref sig .tc .vmem S1024x1024 .bf16) (h2 : a2.IsWhole)
    (a3 : Memref sig .tc .vmem S1x1024x1024 .f32) (h3 : a3.IsWhole) (a4 : Memref sig .tc .vmem S1x1024 .f32) (h4 : a4.IsWhole)
    (a5 : Memref sig .tc .vmem S1x1024 .f32) (h5 : a5.IsWhole) (a6 : Memref sig .tc .vmem S1024x1024 .f32) (h6 : a6.IsWhole)
    (a7 : Memref sig .tc .vmem S1024x1024 .bf16) (h7 : a7.IsWhole) (hc : cond0_0 i)
    (x : Vec F S1024x1024 .bf16) (w : Vec F S1x1024x1024 .f32) (g b : Vec F S1x1024 .f32) :
    out0_A_4 c i a2 h2 a3 h3 a4 h4 a5 h5 a6 h6 a7 h7 hc x w g b = blockOf x (k0_pay4 w) g b := by
  unfold out0_A_4
  rw [View.read_writes_eq_canon _ _ _ (cover0_A_4 c i a2 h2 a3 h3 a4 h4 a5 h5 a6 h6 a7 h7 hc x w g b)]
  unfold kernelRun0_A
  dsimp only
  sl_unfold_words
  rw [View.canon_unit_zero zero2]
  rw [View.readCov_unit_zero (S := S1024x1024) _ zero2]
  simp only [View.readAt_eq_ld, h2.read_unread, h3.read_unread, h4.read_unread, h5.read_unread, View.ld_unit_zero (S := S1x1024x1024) zero3,
    View.ld_unit_zero (S := S1024x1024) zero2, View.ld_unit_zero (S := S1x1024) zero2]
  rfl

theorem out_B (c : Dev nD) (i : grid0.Coords) (a2 : Memref sig .tc .vmem S1024x1024 .bf16) (h2 : a2.IsWhole)
    (a3 : Memref sig .tc .vmem S1x1024x1024 .f32) (h3 : a3.IsWhole) (a4 : Memref sig .tc .vmem S1x1024 .f32) (h4 : a4.IsWhole)
    (a5 : Memref sig .tc .vmem S1x1024 .f32) (h5 : a5.IsWhole) (a6 : Memref sig .tc .vmem S1024x1024 .f32) (h6 : a6.IsWhole)
    (a7 : Memref sig .tc .vmem S1024x1024 .bf16) (h7 : a7.IsWhole) (hc : ¬cond0_0 i)
    (x : Vec F S1024x1024 .bf16) (w : Vec F S1x1024x1024 .f32) (g b : Vec F S1x1024 .f32) (s : Vec F S1024x1024 .bf16) :
    out0_B_4 c i a2 h2 a3 h3 a4 h4 a5 h5 a6 h6 a7 h7 hc x w g b s = blockOf x s g b := by
  unfold out0_B_4
  rw [View.read_writes_eq_canon _ _ _ (cover0_B_4 c i a2 h2 a3 h3 a4 h4 a5 h5 a6 h6 a7 h7 hc x w g b s)]
  unfold kernelRun0_B
  dsimp only
  sl_unfold_words
  rw [View.canon_unit_zero zero2]
  simp only [View.readAt_eq_ld, h2.read_unread, h4.read_unread, h5.read_unread, h7.read_unread,
    View.ld_unit_zero (S := S1024x1024) zero2, View.ld_unit_zero (S := S1x1024) zero2]
  rfl

/-! ## The blocks of the windows, read out of the arguments -/

theorem V_v0 (c : Dev nD) : V m c main_v0 = transpose S2x11296x1024 [0, 2, 1] (m ((c : Thread nD τ).loc main_arg1)) transposes_S2x1024x11296_S2x11296x1024_0_2_1 := by
  unfold V; rfl

theorem V_v3 (c : Dev nD) : V m c main_v3 = shapeCast S1x1024 (shapeCast S1024 (extractStridedSlice S1x1024 ![0, 0] (m ((c : Thread nD τ).loc main_arg2)) slices_S2x1024_S1x1024_0_0) shapeCasts_S1x1024_S1024) shapeCasts_S1024_S1x1024 := by
  unfold V; rfl

theorem V_v6 (c : Dev nD) : V m c main_v6 = shapeCast S1x1024 (shapeCast S1024 (extractStridedSlice S1x1024 ![0, 0] (m ((c : Thread nD τ).loc main_arg3)) slices_S2x1024_S1x1024_0_0) shapeCasts_S1x1024_S1024) shapeCasts_S1024_S1x1024 := by
  unfold V; rfl

theorem idx_0 : ∀ t : Fin cfg0.N, win0_0.index t (0 : Fin 2) = t.val ∧ win0_0.index t (1 : Fin 2) = 0 :=
  (by decide +kernel : ∀ t : Fin grid0.N, _)

theorem idx_1 : ∀ t : Fin cfg0.N, cc0_transform_1 (grid0.coords t) (0 : Fin 3) = 0 ∧ cc0_transform_1 (grid0.coords t) (1 : Fin 3) = 1024
    ∧ cc0_transform_1 (grid0.coords t) (2 : Fin 3) = 0 :=
  (by decide +kernel : ∀ t : Fin grid0.N, _)

theorem idx_2 : ∀ t : Fin cfg0.N, win0_2.index t (0 : Fin 2) = 0 ∧ win0_2.index t (1 : Fin 2) = 0 :=
  (by decide +kernel : ∀ t : Fin grid0.N, _)

theorem idx_3 : ∀ t : Fin cfg0.N, win0_3.index t (0 : Fin 2) = 0 ∧ win0_3.index t (1 : Fin 2) = 0 :=
  (by decide +kernel : ∀ t : Fin grid0.N, _)

theorem blk_0 (c : Dev nD) (t : Fin cfg0.N) (r k : Fin 1024) :
    iblk m c 0 t (ix2 r k) = m ((c : Thread nD τ).loc main_arg0) (ix2 ⟨t.val * 1024 + r.val, by have := t.isLt; have : cfg0.N = 17 := N_0; omega⟩ k) := by
  unfold iblk
  rw [View.read_apply]
  show V m c main_arg0 _ = _
  rw [V_main_arg0]
  congr 1
  obtain ⟨e0, e1⟩ := idx_0 t
  funext a; apply Fin.ext
  match a with
  | ⟨0, _⟩ => show win0_0.index t (0 : Fin 2) * 1024 + 1 * r.val = t.val * 1024 + r.val; omega
  | ⟨1, _⟩ => show win0_0.index t (1 : Fin 2) * 1024 + 1 * k.val = k.val; omega

theorem blk_1 (c : Dev nD) (t : Fin cfg0.N) (q k : Fin 1024) :
    iblk m c 1 t (ix3 0 q k) = m ((c : Thread nD τ).loc main_arg1) (ix3 0 k ⟨1024 + q.val, by omega⟩) := by
  unfold iblk
  rw [View.read_apply]
  show V m c main_v0 _ = _
  rw [V_v0]
  pointwise
  congr 1
  obtain ⟨e0, e1, e2⟩ := idx_1 t
  funext a; apply Fin.ext
  match a with
  | ⟨0, _⟩ => show cc0_transform_1 (grid0.coords t) (0 : Fin 3) + 1 * 0 = 0; omega
  | ⟨1, _⟩ => show cc0_transform_1 (grid0.coords t) (2 : Fin 3) + 1 * k.val = k.val; omega
  | ⟨2, _⟩ => show cc0_transform_1 (grid0.coords t) (1 : Fin 3) + 1 * q.val = 1024 + q.val; omega

theorem blk_2 (c : Dev nD) (t : Fin cfg0.N) (q : Fin 1024) :
    iblk m c 2 t (ix2 0 q) = m ((c : Thread nD τ).loc main_arg2) (ix2 0 q) := by
  unfold iblk
  rw [View.read_apply]
  show V m c main_v3 _ = _
  rw [V_v3]
  pointwise
  congr 1
  obtain ⟨e0, e1⟩ := idx_2 t
  funext a; apply Fin.ext
  match a with
  | ⟨0, _⟩ => rfl
  | ⟨1, _⟩ => show win0_2.index t (1 : Fin 2) * 1024 + 1 * q.val = q.val; omega

theorem blk_3 (c : Dev nD) (t : Fin cfg0.N) (q : Fin 1024) :
    iblk m c 3 t (ix2 0 q) = m ((c : Thread nD τ).loc main_arg3) (ix2 0 q) := by
  unfold iblk
  rw [View.read_apply]
  show V m c main_v6 _ = _
  rw [V_v6]
  pointwise
  congr 1
  obtain ⟨e0, e1⟩ := idx_3 t
  funext a; apply Fin.ext
  match a with
  | ⟨0, _⟩ => rfl
  | ⟨1, _⟩ => show win0_3.index t (1 : Fin 2) * 1024 + 1 * q.val = q.val; omega

/-! ## The points -/

/-- The weight block is one and the same at every point. -/
theorem weights_eq (c : Dev nD) (t t' : Fin cfg0.N) : iblk m c 1 t = iblk m c 1 t' := by
  funext (j : S1x1024x1024.Idx)
  obtain ⟨a, q, k, rfl⟩ : ∃ (a : Fin 1) (q k : Fin 1024), j = ix3 a q k := ⟨j 0, j 1, j 2, eq_ix3 j⟩
  obtain rfl : a = 0 := Subsingleton.elim _ _
  rw [blk_1, blk_1]

theorem point_eq (c : Dev nD) : ∀ (n : ℕ) (h : n < cfg0.N), outsAt0 m c n h
    = (blockOf (iblk m c 0 ⟨n, h⟩) (k0_pay4 (iblk m c 1 ⟨n, h⟩)) (iblk m c 2 ⟨n, h⟩) (iblk m c 3 ⟨n, h⟩), k0_pay4 (iblk m c 1 ⟨n, h⟩))
  | 0, h => by
    rw [outsAt0_A m c ⟨0, h⟩ rfl, out_A, scratch_A]
  | n + 1, h => by
    have hN : cfg0.N = 17 := N_0
    have hB : ¬(⟨n + 1, h⟩ : Fin cfg0.N).val % 17 = 0 := by dsimp only; omega
    rw [outsAt0_B m c ⟨n + 1, h⟩ hB, out_B]
    unfold sout0_B_0
    simp only [Nat.add_sub_cancel, point_eq c n]
    rw [weights_eq m c ⟨n, _⟩ ⟨n + 1, h⟩]

/-- The result array at an index: the block of the row's point. -/
theorem result_at (c : Dev nD) (t : Fin 17) (r q : Fin 1024) :
    G4 m c (ix2 ⟨t.val * 1024 + r.val, by omega⟩ q)
      = blockOf (iblk m c 0 (t.cast N_0.symm)) (k0_pay4 (iblk m c 1 (t.cast N_0.symm))) (iblk m c 2 (t.cast N_0.symm)) (iblk m c 3 (t.cast N_0.symm)) (ix2 r q) := by
  have hp : pt4Of (ix2 ⟨t.val * 1024 + r.val, by omega⟩ q) = t.val := by
    show 1 * ((t.val * 1024 + r.val) / 1024 - 0) + 1 * (q.val / 1024 - 0) = t.val
    omega
  have hl : loc4Of (ix2 ⟨t.val * 1024 + r.val, by omega⟩ q) = ix2 r q := by
    funext a; apply Fin.ext
    match a with
    | ⟨0, _⟩ => show (t.val * 1024 + r.val) % 1024 = r.val; omega
    | ⟨1, _⟩ => show q.val % 1024 = q.val; omega
  have hN : t.val < cfg0.N := (t.cast N_0.symm).isLt
  unfold G4
  rw [dif_pos (by rw [hp]; exact hN), hl, fold0_congr m c _ _ t.val (by rw [Nat.zero_add]; exact hN) hp, ← outsAt0_sweep m c t.val hN, point_eq]
  rfl

end Cert.InV

namespace Cert.InV

open Cert.KernelIdeal.Gen

/-- gelu by its tanh form, on one extended real. -/
def gelu (v : Ideal .f32) : Ideal .f32 :=
  v * (Ideal.ofBits .f32 1056964608#32 * (1 + Ideal.tanh (Ideal.ofBits .f32 1061962282#32 * (v + Ideal.ofBits .f32 1027024659#32 * (v * v * v)))))

/-- A row less its mean, entry `q`. -/
def centred (u : Fin 1024 → Ideal .f32) (q : Fin 1024) : Ideal .f32 :=
  u q - Ideal.div (∑ k, u k) (Ideal.ofBits .f32 1149239296#32)

/-- A row normalised, entry `q`. -/
def normed (u : Fin 1024 → Ideal .f32) (q : Fin 1024) : Ideal .f32 :=
  centred u q * Ideal.rsqrt (Ideal.div (∑ k, centred u k * centred u k) (Ideal.ofBits .f32 1149239296#32) + Ideal.ofBits .f32 925353388#32)

theorem blockOf_at (x : Vec Ideal Cert.KernelIdeal.S1024x1024 .bf16) (w : Vec Ideal Cert.KernelIdeal.S1x1024x1024 .f32)
    (g b : Vec Ideal Cert.KernelIdeal.S1x1024 .f32) (r q : Fin 1024) :
    blockOf x (k0_pay4 w) g b (ix2 r q)
      = normed (fun j => gelu (∑ k : Fin 1024, x (ix2 r k) * w (ix3 0 j k))) q * g (ix2 0 q) + b (ix2 0 q) := by
  pointwise [blockOf, k0_pay1, k0_pay2, k0_pay3, k0_pay4, k0_pay5, k0_pay6]
  rfl

/-- The two results, index by index, on memories that agree on the arguments. -/
theorem tie (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v45 m' c = Cert.KernelIdeal.Value.G4 m c := by
  unfold Cert.ReferenceIdeal.Value.res_main_v45
  rw [h0, h1, h2, h3]
  clean_types
  funext (i : Cert.KernelIdeal.S17408x1024.Idx)
  obtain ⟨t, r, q, rfl⟩ : ∃ (t : Fin 17) (r q : Fin 1024), i = ix2 ⟨t.val * 1024 + r.val, by omega⟩ q :=
    ⟨⟨(i 0).val / 1024, by have : (i 0).val < 17408 := (i 0).isLt; omega⟩, ⟨(i 0).val % 1024, by omega⟩, i 1, by
      rw [eq_ix2 i]; congr 1; apply Fin.ext; show (i 0).val = (i 0).val / 1024 * 1024 + (i 0).val % 1024; omega⟩
  rw [result_at, blockOf_at]
  simp only [blk_0, blk_1, blk_2, blk_3]
  pointwise
  rfl

end Cert.InV

end
-- ==== Proof.ExpertRun.lean ====
/- The expert FFN's body, run in each of its four cases, and the frame of the call: which tile is live is a word of a
   prefetched table, so the schedule of the weights' windows and the body's branches are read off the tables. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Kit
public import Idealize.ShloMosaic.Lib.Pipeline.Value
public import Idealize.ShloMosaic.Lib.Tactic
public import Idealize.ShloMosaic.Lib.WordCmp
public import Idealize.ShloMosaic.Lib.Ring

@[expose] public section

set_option maxRecDepth 16384

noncomputable section

namespace Cert.Expert

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

theorem zero2 : (![0, 0] : Fin 2 → Nat) = fun _ => 0 := funext fun a => by fin_cases a <;> rfl
theorem zero4 : (![0, 0, 0, 0] : Fin 4 → Nat) = fun _ => 0 := funext fun a => by fin_cases a <;> rfl

/-! ## The body -/

/-- The two tables as the body is handed them. -/
abbrev tabE : Memref sig .tc .smem S42 .i32 := Memref.whole main_v11
abbrev tabN : Memref sig .tc .smem S1 .i32 := Memref.whole main_arg1

/-- A table's buffer held at half the full share (the pipeline keeps the other half). -/
abbrev half (c : Dev nD) {S : Shape} {e : EltTy} (M : Memref sig .tc .smem S e) (f : Buf (Elt F) (M.view.loc (c : Thread nD τ))) : sProp 𝕄 :=
  M.view.loc (c : Thread nD τ) ↦{fullShare.right} f

/-- The number of live tiles, as the body reads it. -/
abbrev word (f : IVec S1 32) : BitVec 32 := f (fun a => ⟨(![0] : Fin 1 → Nat) a, by fin_cases a; decide⟩)

section Runs

variable (c : Dev nD) (i : grid0.Coords)
  (a4 : Memref sig .tc .vmem S1024x1024 .f32) (h4 : a4.IsWhole) (a5 : Memref sig .tc .vmem S1x1x1024x512 .f32) (h5 : a5.IsWhole)
  (a6 : Memref sig .tc .vmem S1x1x1024x512 .f32) (h6 : a6.IsWhole) (a7 : Memref sig .tc .vmem S1x1x512x1024 .f32) (h7 : a7.IsWhole)
  (a8 : Memref sig .tc .vmem S1024x1024 .f32) (h8 : a8.IsWhole) (a9 : Memref sig .tc .vmem S1024x1024 .bf16) (h9 : a9.IsWhole)
  (nv : IVec S1 32)
  (x : Vec F S1024x1024 .f32) (wg wu : Vec F S1x1x1024x512 .f32) (wd : Vec F S1x1x512x1024 .f32)

/-- The body as the pipeline calls it, on these memrefs. -/
abbrev body : Prog (TpuEff nD τ sig (Elt F) Λ₀ .tc) PUnit :=
  cc0_moe_expert_ffn i tabE (Memref.isWhole_whole _) tabN (Memref.isWhole_whole _) a4 h4 a5 h5 a6 h6 a7 h7 a8 h8 a9 h9

/-- What the body holds at every point beside the scratch and the output's buffer, and hands back as it was. -/
abbrev held : sProp 𝕄 :=
  iprop(owns (c : Thread nD τ) a4 fullShare x ∗ owns (c : Thread nD τ) a5 fullShare wg ∗ owns (c : Thread nD τ) a6 fullShare wu
    ∗ owns (c : Thread nD τ) a7 fullShare wd ∗ half c tabN nv)

/-- A live tile's first chunk: the scratch takes the rounded rows, the output the first chunk's product. -/
theorem run_first (hc1 : k0_cond1 i (word nv) = 1#1) (hc2 : k0_cond2 i = 1#1) (hc3 : ¬k0_cond3 i (word nv) = 1#1)
    (E : Set ℕ) (K : PUnit → sProp 𝕄) :
    iprop(held c a4 a5 a6 a7 nv x wg wu wd ∗ (∃ d, owns (c : Thread nD τ) a8 fullShare d) ∗ (∃ d, owns (c : Thread nD τ) a9 fullShare d)
        ∗ (iprop(held c a4 a5 a6 a7 nv x wg wu wd ∗ owns (c : Thread nD τ) a8 fullShare (k0_pay3 (k0_pay1 x) wg wu k0_pay2 wd)
            ∗ owns (c : Thread nD τ) a9 fullShare (k0_pay1 x)) -∗ K ⟨⟩))
      ⊢ wp frame (wpE (defs₀ (F := F)) Variants.none c none) E (body i a4 h4 a5 h5 a6 h6 a7 h7 a8 h8 a9 h9) K := by
  unfold body
  simp only [cc0_moe_expert_ffn_eq_skeleton]; unfold cc0_moe_expert_ffn_skel
  unfold held owns
  iintro ⟨⟨⟨%f4, %hf4, H4⟩, ⟨%f5, %hf5, H5⟩, ⟨%f6, %hf6, H6⟩, ⟨%f7, %hf7, H7⟩, HT⟩, ⟨%d8, %f8, -, H8⟩, ⟨%d9, %f9, -, H9⟩, Hk⟩
  obtain rfl := h4.eq_unread hf4; obtain rfl := h5.eq_unread hf5; obtain rfl := h6.eq_unread hf6; obtain rfl := h7.eq_unread hf7
  sl_exec (disch := first | sl_exact hc1 | sl_exact hc2 | sl_exact hc3)
  sl_step
  iapply Hk
  isplitl [H4 H5 H6 H7 HT]
  · isplitl [H4]; · iexists _; isplitr; · ipureintro; exact h4.read_unread _
                    iexact H4
    isplitl [H5]; · iexists _; isplitr; · ipureintro; exact h5.read_unread _
                    iexact H5
    isplitl [H6]; · iexists _; isplitr; · ipureintro; exact h6.read_unread _
                    iexact H6
    isplitl [H7]; · iexists _; isplitr; · ipureintro; exact h7.read_unread _
                    iexact H7
    iexact HT
  isplitl [H8]
  · iexists _; isplitr
    swap; · iexact H8
    ipureintro
    rw [View.read_writes_eq_canon _ _ _ (View.cover_of_tiledL _ S1024x1024.size (by sl_kernel_rfl))]
    sl_unfold_words
    rw [View.canon_cons_unit_zero zero2]
    simp only [View.readCov_unit_zero (S := S1024x1024) _ zero2]
    simp only [View.readAt_eq_ld, hf4, hf5, hf6, hf7, View.ld_unit_zero (S := S1024x1024) zero2,
      View.ld_unit_zero (S := S1x1x1024x512) zero4, View.ld_unit_zero (S := S1x1x512x1024) zero4]
  · iexists _; isplitr
    swap; · iexact H9
    ipureintro
    rw [View.read_writes_eq_canon _ _ _ (View.cover_of_tiledL _ S1024x1024.size (by sl_kernel_rfl))]
    sl_unfold_words
    rw [View.canon_cons_unit_zero zero2]
    simp only [View.readAt_eq_ld, hf4, View.ld_unit_zero (S := S1024x1024) zero2]

/-- A live tile's later chunk: the chunk's product is added. -/
theorem run_next (acc : Vec F S1024x1024 .f32) (xb : Vec F S1024x1024 .bf16)
    (hc1 : k0_cond1 i (word nv) = 1#1) (hc2 : ¬k0_cond2 i = 1#1) (hc3 : ¬k0_cond3 i (word nv) = 1#1)
    (E : Set ℕ) (K : PUnit → sProp 𝕄) :
    iprop(held c a4 a5 a6 a7 nv x wg wu wd ∗ owns (c : Thread nD τ) a8 fullShare acc ∗ owns (c : Thread nD τ) a9 fullShare xb
        ∗ (iprop(held c a4 a5 a6 a7 nv x wg wu wd ∗ owns (c : Thread nD τ) a8 fullShare (k0_pay3 xb wg wu acc wd)
            ∗ owns (c : Thread nD τ) a9 fullShare xb) -∗ K ⟨⟩))
      ⊢ wp frame (wpE (defs₀ (F := F)) Variants.none c none) E (body i a4 h4 a5 h5 a6 h6 a7 h7 a8 h8 a9 h9) K := by
  unfold body
  simp only [cc0_moe_expert_ffn_eq_skeleton]; unfold cc0_moe_expert_ffn_skel
  unfold held owns
  iintro ⟨⟨⟨%f4, %hf4, H4⟩, ⟨%f5, %hf5, H5⟩, ⟨%f6, %hf6, H6⟩, ⟨%f7, %hf7, H7⟩, HT⟩, ⟨%f8, %hf8, H8⟩, ⟨%f9, %hf9, H9⟩, Hk⟩
  obtain rfl := h4.eq_unread hf4; obtain rfl := h5.eq_unread hf5; obtain rfl := h6.eq_unread hf6; obtain rfl := h7.eq_unread hf7
  obtain rfl := h8.eq_unread hf8; obtain rfl := h9.eq_unread hf9
  sl_exec (disch := first | sl_exact hc1 | sl_exact hc2 | sl_exact hc3)
  sl_step
  iapply Hk
  isplitl [H4 H5 H6 H7 HT]
  · isplitl [H4]; · iexists _; isplitr; · ipureintro; exact h4.read_unread _
                    iexact H4
    isplitl [H5]; · iexists _; isplitr; · ipureintro; exact h5.read_unread _
                    iexact H5
    isplitl [H6]; · iexists _; isplitr; · ipureintro; exact h6.read_unread _
                    iexact H6
    isplitl [H7]; · iexists _; isplitr; · ipureintro; exact h7.read_unread _
                    iexact H7
    iexact HT
  isplitl [H8]
  · iexists _; isplitr
    swap; · iexact H8
    ipureintro
    rw [View.read_writes_eq_canon _ _ _ (View.cover_of_tiledL _ S1024x1024.size (by sl_kernel_rfl))]
    sl_unfold_words
    rw [View.canon_cons_unit_zero zero2]
    simp only [View.readAt_eq_ld, hf5, hf6, hf7, hf8, hf9, View.ld_unit_zero (S := S1024x1024) zero2,
      View.ld_unit_zero (S := S1x1x1024x512) zero4, View.ld_unit_zero (S := S1x1x512x1024) zero4]
  · iexists _; isplitr; · ipureintro; exact hf9
    iexact H9

/-- A dead tile's first point: the output's buffer is zeroed. -/
theorem run_zero (hc1 : ¬k0_cond1 i (word nv) = 1#1) (hc3 : k0_cond3 i (word nv) = 1#1) (E : Set ℕ) (K : PUnit → sProp 𝕄) :
    iprop(half c tabN nv ∗ (∃ d, owns (c : Thread nD τ) a8 fullShare d)
        ∗ (iprop(half c tabN nv ∗ owns (c : Thread nD τ) a8 fullShare k0_pay4) -∗ K ⟨⟩))
      ⊢ wp frame (wpE (defs₀ (F := F)) Variants.none c none) E (body i a4 h4 a5 h5 a6 h6 a7 h7 a8 h8 a9 h9) K := by
  unfold body
  simp only [cc0_moe_expert_ffn_eq_skeleton]; unfold cc0_moe_expert_ffn_skel
  unfold owns
  iintro ⟨HT, ⟨%d8, %f8, -, H8⟩, Hk⟩
  sl_exec (disch := first | sl_exact hc1 | sl_exact hc3)
  sl_step
  iapply Hk
  isplitl [HT]; · iexact HT
  iexists _; isplitr
  swap; · iexact H8
  ipureintro
  rw [View.read_writes_eq_canon _ _ _ (View.cover_of_tiledL _ S1024x1024.size (by sl_kernel_rfl))]
  sl_unfold_words
  rw [View.canon_cons_unit_zero zero2]

/-- A dead tile's later point: the body reads the table and stores nothing. -/
theorem run_skip (hc1 : ¬k0_cond1 i (word nv) = 1#1) (hc3 : ¬k0_cond3 i (word nv) = 1#1) (E : Set ℕ) (K : PUnit → sProp 𝕄) :
    iprop(half c tabN nv ∗ (half c tabN nv -∗ K ⟨⟩))
      ⊢ wp frame (wpE (defs₀ (F := F)) Variants.none c none) E (body i a4 h4 a5 h5 a6 h6 a7 h7 a8 h8 a9 h9) K := by
  unfold body
  simp only [cc0_moe_expert_ffn_eq_skeleton]; unfold cc0_moe_expert_ffn_skel
  iintro ⟨HT, Hk⟩
  sl_exec (disch := first | sl_exact hc1 | sl_exact hc3)
  sl_step
  iapply Hk
  iexact HT

end Runs

end Cert.Expert

end
-- ==== Proof.ExpertFrame.lean ====
/- The frame of the expert FFN's call at any float values, under the side condition of its tables: what the scratch and
   the output's buffer hold at every point in closed form, the body's obligation from the four runs, the launch. -/
module

public import proofs.«01_k».proof.Proof.ExpertRun

@[expose] public section

set_option maxRecDepth 16384

noncomputable section

namespace Cert.Expert

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory the call starts from -/

/-- What a core's buffers hold when the call starts: the host's operations have run. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- What the host's operations write. -/
abbrev hostWrites : List (Ref sig .tc) :=
  [main_v0, main_v1, main_c, main_v2, main_v3, main_v4, main_c_0, main_v5, main_v6, main_c_1, main_v7, main_v8, main_v9, main_v10, main_v11]

/-- A buffer none of them writes is found as launched. -/
theorem V_kept (c : Dev nD) {b : Ref sig .tc} (hb : b ∉ hostWrites) : V m c b = m ((c : Thread nD τ).loc b) :=
  StableHlo.after_of_forall_not_mem (b := Proc.devRef .tc b) _ _ (List.forall_iff_forall_mem.mp (by
    simp only [hostWrites, List.mem_cons, List.not_mem_nil, or_false, not_or] at hb
    simp only [hostOps0, List.Forall, StableHlo.nullary_writes, StableHlo.unary_writes, StableHlo.binary_writes,
      StableHlo.ternary_writes, StableHlo.reshape_writes, Finset.mem_singleton]
    repeat' apply And.intro
    all_goals first | exact StableHlo.devRef_ne_of_ne (by tauto)))

/-- The tables the call prefetches (there is one device). -/
@[irreducible] def tbl : pre0.Contents (Elt F) := fun j => V m (0 : Dev nD) (pre0.ref j)
theorem V_pre (c : Dev nD) (j : Fin 2) : V m c (pre0.ref j) = tbl m j := by
  obtain rfl : c = 0 := Subsingleton.elim _ _; unfold tbl; rfl

/-- The side condition of the tables: the blocks they name are inside the arrays. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The number of live tiles. -/
abbrev nv : BitVec 32 := word (tbl m 1)
/-- Whether tile `T` is live. -/
def live (T : ℕ) : Prop := (BitVec.ofNat 32 T).slt (nv m) = true

theorem tables_eq (c : Dev nD) : (Pipeline.ΦT pre0 (tbl m) c : sProp 𝕄) = iprop(half c tabE (tbl m 0) ∗ half c tabN (tbl m 1)) := by
  unfold Pipeline.ΦT Pipeline.prefHeld
  rw [show (Finset.univ : Finset (Fin 2)) = insert (0 : Fin 2) {(1 : Fin 2)} from by decide, bigSep_insert (by decide), bigSep_singleton]
  rfl

/-! ## The conditions of the body at a point -/

section Conds

variable (t : Fin grid0.N)

theorem coord0 : (grid0.coords t 0).val = t.val / 7 := by
  have ht : t.val < 294 := Nat.lt_of_lt_of_eq t.isLt N_0
  rw [show (grid0.coords t 0).val = t.val / 7 % 42 from Pipeline.Grid.coords_val t 0 (by decide) rfl]; omega
theorem coord1 : (grid0.coords t 1).val = t.val % 7 := by
  rw [show (grid0.coords t 1).val = t.val / 1 % 7 from Pipeline.Grid.coords_val t 1 (by decide) rfl]; omega

theorem cond1_iff : k0_cond1 (grid0.coords t) (nv m) = 1#1 ↔ live m (t.val / 7) := by
  unfold k0_cond1 live
  rw [coord0]
  simp only [Scalar.cmpi, Scalar.extui, IntOp.cmpi]
  generalize (BitVec.ofNat 32 (t.val / 7)).slt (nv m) = b
  revert b; decide

/-- The innermost coordinate compared with zero, as the body's word. -/
theorem eqz : ∀ k : Fin 7, IntOp.cmpi .eq (BitVec.ofNat 32 k.val) 0#32 = BitVec.ofBool (decide (k.val = 0)) := by decide

theorem eqz' : IntOp.cmpi .eq (BitVec.ofNat 32 (t.val % 7)) 0#32 = BitVec.ofBool (decide (t.val % 7 = 0)) :=
  eqz ⟨t.val % 7, Nat.mod_lt _ (by decide)⟩

theorem cond2_iff : k0_cond2 (grid0.coords t) = 1#1 ↔ t.val % 7 = 0 := by
  unfold k0_cond2
  rw [coord1]
  simp only [Scalar.cmpi, Scalar.extui]
  rw [eqz' t]
  by_cases h : t.val % 7 = 0 <;> simp only [h, decide_true, decide_false] <;> decide

theorem cond3_iff : k0_cond3 (grid0.coords t) (nv m) = 1#1 ↔ ¬live m (t.val / 7) ∧ t.val % 7 = 0 := by
  unfold k0_cond3 live
  rw [coord0, coord1]
  simp only [Scalar.cmpi, Scalar.extui, Scalar.andi]
  rw [eqz' t]
  simp only [IntOp.cmpi, BitVec.sle_eq_not_slt]
  generalize (BitVec.ofNat 32 (t.val / 7)).slt (nv m) = b
  by_cases h : t.val % 7 = 0 <;> simp only [h, decide_true, decide_false] <;> revert b <;> decide

end Conds

/-! ## What the buffers hold, point by point -/

variable (hO : Ok m)

/-- Window `w`'s block of its array at point `t`. -/
def iblk (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- Point `k` of tile `T`. -/
def pt (T k : ℕ) : Fin (cfgM m hO).N := ⟨(7 * T + k) % 294, Nat.mod_lt _ (by decide)⟩

theorem pt_self (t : Fin (cfgM m hO).N) : pt m hO (t.val / 7) (t.val % 7) = t := by
  have ht : t.val < 294 := Nat.lt_of_lt_of_eq t.isLt N_0
  apply Fin.ext; show (7 * (t.val / 7) + t.val % 7) % 294 = t.val; omega

abbrev blkX (c : Dev nD) (t : Fin (cfgM m hO).N) : Vec F S1024x1024 .f32 := iblk m hO c 0 t
abbrev blkG (c : Dev nD) (t : Fin (cfgM m hO).N) : Vec F S1x1x1024x512 .f32 := iblk m hO c 1 t
abbrev blkU (c : Dev nD) (t : Fin (cfgM m hO).N) : Vec F S1x1x1024x512 .f32 := iblk m hO c 2 t
abbrev blkD (c : Dev nD) (t : Fin (cfgM m hO).N) : Vec F S1x1x512x1024 .f32 := iblk m hO c 3 t

/-- A live tile's rows in the scratch. -/
def rows (c : Dev nD) (T : ℕ) : Vec F S1024x1024 .bf16 := k0_pay1 (blkX m hO c (pt m hO T 0))

/-- A live tile's output after its point `k`. -/
def part (c : Dev nD) (T : ℕ) : ℕ → Vec F S1024x1024 .f32
  | 0 => k0_pay3 (rows m hO c T) (blkG m hO c (pt m hO T 0)) (blkU m hO c (pt m hO T 0)) k0_pay2 (blkD m hO c (pt m hO T 0))
  | k + 1 => k0_pay3 (rows m hO c T) (blkG m hO c (pt m hO T (k + 1))) (blkU m hO c (pt m hO T (k + 1))) (part c T k) (blkD m hO c (pt m hO T (k + 1)))

open Classical in
/-- The output's buffer after point `n`. -/
def outAt (c : Dev nD) (n : ℕ) : Vec F S1024x1024 .f32 :=
  if live m (n / 7) then part m hO c (n / 7) (n % 7) else k0_pay4

theorem outAt_first (c : Dev nD) (t : Fin (cfgM m hO).N) (hl : live m (t.val / 7)) (h0 : t.val % 7 = 0) :
    outAt m hO c t.val = k0_pay3 (k0_pay1 (blkX m hO c t)) (blkG m hO c t) (blkU m hO c t) k0_pay2 (blkD m hO c t)
      ∧ rows m hO c (t.val / 7) = k0_pay1 (blkX m hO c t) := by
  have e : pt m hO (t.val / 7) 0 = t := by rw [← h0]; exact pt_self m hO t
  constructor
  · rw [outAt, if_pos hl, h0, part, rows, e]
  · rw [rows, e]

theorem outAt_next (c : Dev nD) (t : Fin (cfgM m hO).N) (hl : live m (t.val / 7)) (h0 : t.val % 7 ≠ 0) :
    outAt m hO c t.val = k0_pay3 (rows m hO c (t.val / 7)) (blkG m hO c t) (blkU m hO c t) (outAt m hO c (t.val - 1)) (blkD m hO c t) := by
  obtain ⟨k, hk⟩ := Nat.exists_eq_succ_of_ne_zero h0
  have e : pt m hO (t.val / 7) (k + 1) = t := by rw [← Nat.succ_eq_add_one, ← hk]; exact pt_self m hO t
  have e1 : (t.val - 1) / 7 = t.val / 7 := by omega
  have e2 : (t.val - 1) % 7 = k := by omega
  rw [outAt, outAt, e1, e2, if_pos hl, if_pos hl, hk, Nat.succ_eq_add_one, part, e]

theorem outAt_dead (c : Dev nD) (n : ℕ) (hl : ¬live m (n / 7)) : outAt m hO c n = k0_pay4 := by rw [outAt, if_neg hl]

/-! ## The proof data -/

/-- The scratch as a memref. -/
abbrev scM : Memref sig .tc .vmem S1024x1024 .bf16 := Memref.whole cc0_scratch0

/-- Before position `n` the scratch holds the tile's rows if the tile is live and begun, anything else otherwise. -/
def Inv (c : Dev nD) (n : ℕ) : sProp 𝕄 :=
  iprop((∃ d, ⌜n % 7 ≠ 0 → live m (n / 7) → d = rows m hO c (n / 7)⌝ ∗ owns (c : Thread nD τ) scM fullShare d)
    ∗ (∃ r, prngReg c r) ∗ half c tabE (tbl m 0) ∗ half c tabN (tbl m 1))

def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t.val
  Φ t := Inv m hO c t.val
  q _ := fullShare
  owed _ := 0

theorem A_eq (c : Dev nD) (w : Fin (cfgM m hO).W) : (dats m hO 0 c).A w = V m c (Pipeline.arrRef spec0 w) := by dsimp only [dats]

section Before

variable (c : Dev nD) (t : Fin (cfgM m hO).N)

/-- An input's buffer holds its block at every point, whether fetched there or not. -/
theorem before_0 (d) : (dats m hO 0 c).before 0 t d = blkX m hO c t :=
  ((dats m hO 0 c).before_in_eq_fetched 0 rfl (fun _ => rfl) (fun _ _ _ => rfl) (fun _ => rfl) t d).trans rfl
theorem before_1 (d) : (dats m hO 0 c).before 1 t d = blkG m hO c t :=
  ((dats m hO 0 c).before_in_eq_fetched 1 rfl (fun _ => rfl) (fun _ _ _ => rfl) (fun _ => rfl) t d).trans rfl
theorem before_2 (d) : (dats m hO 0 c).before 2 t d = blkU m hO c t :=
  ((dats m hO 0 c).before_in_eq_fetched 2 rfl (fun _ => rfl) (fun _ _ _ => rfl) (fun _ => rfl) t d).trans rfl
theorem before_3 (d) : (dats m hO 0 c).before 3 t d = blkD m hO c t :=
  ((dats m hO 0 c).before_in_eq_fetched 3 rfl (fun _ => rfl) (fun _ _ _ => rfl) (fun _ => rfl) t d).trans rfl

/-- The output is written back at a tile's last point. -/
theorem flush_iff : ((cfgM m hO).win 4).flush t = true ↔ t.val % 7 = 6 :=
  (fun t => Pipeline.Window.flushOf_reads cc0_transform_4 reads0_4 hreads0_4 0 (by decide) (by decide)
    (Pipeline.Window.sep_of_coord cc0_transform_4 0 0 (fun _ => rfl) (by decide)) (P := 7) (m := 6) (by decide) rfl t :
      ∀ t : Fin grid0.N, Pipeline.Window.flushOf grid0 true cc0_transform_4 t = true ↔ t.val % 7 = 6) t

theorem idle_eq (a : (pcfg0 (F := F)).Adm) (i : grid0.Coords) : (cfg0 a).idle 4 i
    = (!(k0_cond1 i (word (a.1 1)) == 1#1 && k0_cond2 i == 1#1) && !(k0_cond1 i (word (a.1 1)) == 1#1) && !(k0_cond3 i (word (a.1 1)) == 1#1)) := rfl

/-- The points at which the body stores nothing: a dead tile's, all but the first. -/
theorem idle_imp (h : (cfgM m hO).idle 4 ((cfgM m hO).grid.coords t) = true) : ¬live m (t.val / 7) ∧ t.val % 7 ≠ 0 := by
  replace h := (idle_eq (adm m hO) (grid0.coords t)).symm.trans h
  rw [Bool.and_eq_true, Bool.and_eq_true, Bool.not_eq_true', Bool.not_eq_true', Bool.not_eq_true', beq_eq_false_iff_ne, beq_eq_false_iff_ne,
    ne_eq, ne_eq, cond1_iff, cond3_iff] at h
  exact ⟨h.1.2, fun h0 => h.2 ⟨h.1.2, h0⟩⟩

/-- Past a tile's first point the output's buffer holds what the point before left. -/
theorem before_4 (h0 : t.val % 7 ≠ 0) (d) : (dats m hO 0 c).before 4 t d = outAt m hO c (t.val - 1) := by
  obtain ⟨n, hn⟩ := t
  induction n with
  | zero => exact absurd rfl h0
  | succ n ih =>
    have hn' : n < (cfgM m hO).N := Nat.lt_of_succ_lt hn
    have hf : ((cfgM m hO).win 4).flush ⟨n, hn'⟩ = false := by
      rw [Bool.eq_false_iff]; intro h
      have := (flush_iff m hO _).mp h
      dsimp only at this h0; omega
    rw [(dats m hO 0 c).before_of_pos 4 _ (Nat.succ_ne_zero n) (((cfgM m hO).win 4).fetch_out rfl _)]
    show (if ((cfgM m hO).win 4).flush ⟨n, hn'⟩ then d else (dats m hO 0 c).left 4 ⟨n, hn'⟩ d) = outAt m hO c n
    rw [hf, if_neg Bool.false_ne_true]
    unfold Dat.left
    split
    · rename_i hi
      obtain ⟨hl, h1⟩ := idle_imp m hO ⟨n, hn'⟩ hi
      rw [ih hn' h1, outAt_dead m hO c _ hl, outAt_dead]
      dsimp only at h1 hl ⊢
      rw [show (n - 1) / 7 = n / 7 by omega]; exact hl
    · unfold Dat.kept
      rw [Pipeline.fill_of_clip_none (cfg := cfgM m hO) 4 _ (fun _ => rfl) d ((dats m hO 0 c).after 4 _), Window.fill_cut]
      rfl

end Before

/-! ## The body's obligation -/

/-- The body at a point, on what the pipeline calls it with. -/
abbrev bodyAt (t : Fin (cfgM m hO).N) : Prog (TpuEff nD τ sig (Elt F) Λ₀ .tc) PUnit :=
  body (grid0.coords t) (spec0_0.stage ((cfgM m hO).slots t 0)) (hstage0_0 (((cfgM m hO).slots t 0).cast nbuf0_0))
    (spec0_1.stage ((cfgM m hO).slots t 1)) (hstage0_1 (((cfgM m hO).slots t 1).cast nbuf0_1))
    (spec0_2.stage ((cfgM m hO).slots t 2)) (hstage0_2 (((cfgM m hO).slots t 2).cast nbuf0_2))
    (spec0_3.stage ((cfgM m hO).slots t 3)) (hstage0_3 (((cfgM m hO).slots t 3).cast nbuf0_3))
    (spec0_4.stage ((cfgM m hO).slots t 4)) (hstage0_4 (((cfgM m hO).slots t 4).cast nbuf0_4)) scM (Memref.isWhole_whole _)

/-- The windows' buffers at a point, the inputs at their blocks. -/
def ins (c : Dev nD) (t : Fin (cfgM m hO).N) : sProp 𝕄 :=
  iprop(owns (c : Thread nD τ) (spec0_0.stage ((cfgM m hO).slots t 0)) fullShare (blkX m hO c t)
    ∗ owns (c : Thread nD τ) (spec0_1.stage ((cfgM m hO).slots t 1)) fullShare (blkG m hO c t)
    ∗ owns (c : Thread nD τ) (spec0_2.stage ((cfgM m hO).slots t 2)) fullShare (blkU m hO c t)
    ∗ owns (c : Thread nD τ) (spec0_3.stage ((cfgM m hO).slots t 3)) fullShare (blkD m hO c t))

/-- The output's buffer at `outAt` is what the obligation asks of it, stored at the point or not. -/
theorem leaves_out (c : Dev nD) (t : Fin (cfgM m hO).N) :
    (owns (c : Thread nD τ) (spec0_4.stage ((cfgM m hO).slots t 4)) fullShare (outAt m hO c t.val) : sProp 𝕄)
      ⊢ (dats m hO 0 c).leavesExact 4 t := by
  unfold Dat.leavesExact
  split
  · rename_i hi
    split
    · obtain ⟨hl, h0⟩ := idle_imp m hO t hi
      have e : (dats m hO 0 c).before 4 t (outAt m hO c t.val) = outAt m hO c t.val := by
        refine (before_4 m hO c t h0 _).trans ?_
        rw [outAt_dead m hO c _ hl, outAt_dead m hO c (t.val - 1) (by rw [show (t.val - 1) / 7 = t.val / 7 by omega]; exact hl)]
      refine (Entails.of_eq (congrArg (owns (c : Thread nD τ) (((cfgM m hO).win 4).stage ((cfgM m hO).slots t 4)) fullShare) e.symm)).trans ?_
      iintro H
      iexists outAt m hO c t.val
      iexact H
    · exact .rfl
  · exact .rfl

set_option maxHeartbeats 3200000 in
theorem sound_body (c : Dev nD) (t : Fin (cfgM m hO).N) (d4) :
    iprop(Inv m hO c t.val ∗ ins m hO c t ∗ owns (c : Thread nD τ) (spec0_4.stage ((cfgM m hO).slots t 4)) fullShare ((dats m hO 0 c).before 4 t d4))
      ⊢ wp frame (wpE (defs₀ (F := F)) Variants.none c none) Set.univ (bodyAt m hO t) fun _ =>
        iprop(Inv m hO c (t.val + 1) ∗ ins m hO c t ∗ owns (c : Thread nD τ) (spec0_4.stage ((cfgM m hO).slots t 4)) fullShare (outAt m hO c t.val)) := by
  unfold Inv ins bodyAt
  by_cases hl : live m (t.val / 7) <;> by_cases h0 : t.val % 7 = 0
  · obtain ⟨eo, er⟩ := outAt_first m hO c t hl h0
    rw [eo]
    iintro ⟨⟨⟨%d, -, HS⟩, Hg, HE, HN⟩, ⟨H0, H1, H2, H3⟩, H4⟩
    iapply (run_first c (grid0.coords t) _ _ _ _ _ _ _ _ _ _ _ _ (tbl m 1) (blkX m hO c t) (blkG m hO c t) (blkU m hO c t) (blkD m hO c t)
      ((cond1_iff m t).mpr hl) ((cond2_iff t).mpr h0) (fun h => ((cond3_iff m t).mp h).1 hl) Set.univ _)
    unfold held
    isplitl [H0 H1 H2 H3 HN]
    · isplitl [H0]; · iexact H0
      isplitl [H1]; · iexact H1
      isplitl [H2]; · iexact H2
      isplitl [H3]; · iexact H3
      iexact HN
    isplitl [H4]; · iexists _; iexact H4
    isplitl [HS]; · iexists _; iexact HS
    iintro ⟨⟨H0, H1, H2, H3, HN⟩, H4, HS⟩
    isplitl [HS Hg HE HN]
    · isplitl [HS]
      · iexists k0_pay1 (blkX m hO c t); isplitr
        · ipureintro; intro h1 _; rw [show (t.val + 1) / 7 = t.val / 7 by omega, er]
        · iexact HS
      isplitl [Hg]; · iexact Hg
      isplitl [HE]; · iexact HE
      iexact HN
    isplitl [H0 H1 H2 H3]
    · isplitl [H0]; · iexact H0
      isplitl [H1]; · iexact H1
      isplitl [H2]; · iexact H2
      iexact H3
    iexact H4
  · rw [outAt_next m hO c t hl h0, before_4 m hO c t h0]
    iintro ⟨⟨⟨%d, %hd, HS⟩, Hg, HE, HN⟩, ⟨H0, H1, H2, H3⟩, H4⟩
    obtain rfl := hd h0 hl
    iapply (run_next c (grid0.coords t) _ _ _ _ _ _ _ _ _ _ _ _ (tbl m 1) (blkX m hO c t) (blkG m hO c t) (blkU m hO c t) (blkD m hO c t)
      (outAt m hO c (t.val - 1)) (rows m hO c (t.val / 7))
      ((cond1_iff m t).mpr hl) (fun h => h0 ((cond2_iff t).mp h)) (fun h => ((cond3_iff m t).mp h).1 hl) Set.univ _)
    unfold held
    isplitl [H0 H1 H2 H3 HN]
    · isplitl [H0]; · iexact H0
      isplitl [H1]; · iexact H1
      isplitl [H2]; · iexact H2
      isplitl [H3]; · iexact H3
      iexact HN
    isplitl [H4]; · iexact H4
    isplitl [HS]; · iexact HS
    iintro ⟨⟨H0, H1, H2, H3, HN⟩, H4, HS⟩
    isplitl [HS Hg HE HN]
    · isplitl [HS]
      · iexists rows m hO c (t.val / 7); isplitr
        · ipureintro; intro h1 _; rw [show (t.val + 1) / 7 = t.val / 7 by omega]
        · iexact HS
      isplitl [Hg]; · iexact Hg
      isplitl [HE]; · iexact HE
      iexact HN
    isplitl [H0 H1 H2 H3]
    · isplitl [H0]; · iexact H0
      isplitl [H1]; · iexact H1
      isplitl [H2]; · iexact H2
      iexact H3
    iexact H4
  · rw [outAt_dead m hO c _ hl]
    iintro ⟨⟨⟨%d, -, HS⟩, Hg, HE, HN⟩, Hi, H4⟩
    iapply (run_zero c (grid0.coords t) _ _ _ _ _ _ _ _ _ _ _ _ (tbl m 1)
      (fun h => hl ((cond1_iff m t).mp h)) ((cond3_iff m t).mpr ⟨hl, h0⟩) Set.univ _)
    isplitl [HN]; · iexact HN
    isplitl [H4]; · iexists _; iexact H4
    iintro ⟨HN, H4⟩
    isplitl [HS Hg HE HN]
    · isplitl [HS]
      · iexists d; isplitr
        · ipureintro; intro h1 h2; rw [show (t.val + 1) / 7 = t.val / 7 by omega] at h2; exact absurd h2 hl
        · iexact HS
      isplitl [Hg]; · iexact Hg
      isplitl [HE]; · iexact HE
      iexact HN
    isplitl [Hi]; · iexact Hi
    iexact H4
  · rw [before_4 m hO c t h0, outAt_dead m hO c _ hl, outAt_dead m hO c (t.val - 1) (by rw [show (t.val - 1) / 7 = t.val / 7 by omega]; exact hl)]
    iintro ⟨⟨⟨%d, -, HS⟩, Hg, HE, HN⟩, Hi, H4⟩
    iapply (run_skip c (grid0.coords t) _ _ _ _ _ _ _ _ _ _ _ _ (tbl m 1)
      (fun h => hl ((cond1_iff m t).mp h)) (fun h => h0 ((cond3_iff m t).mp h).2) Set.univ _)
    isplitl [HN]; · iexact HN
    iintro HN
    isplitl [HS Hg HE HN]
    · isplitl [HS]
      · iexists d; isplitr
        · ipureintro; intro h1 h2; rw [show (t.val + 1) / 7 = t.val / 7 by omega] at h2; exact absurd h2 hl
        · iexact HS
      isplitl [Hg]; · iexact Hg
      isplitl [HE]; · iexact HE
      iexact HN
    isplitl [Hi]; · iexact Hi
    iexact H4

/-- The windows one by one: the obligation of the body. -/
theorem sound_point (c : Dev nD) (t : Fin (cfgM m hO).N) :
    iprop(Inv m hO c t.val ∗ (dats m hO 0 c).owesAt () t.castSucc
      ∗ (∃ d, owns (c : Thread nD τ) (spec0_0.stage ((cfgM m hO).slots t 0)) fullShare ((dats m hO 0 c).before 0 t d))
      ∗ (∃ d, owns (c : Thread nD τ) (spec0_1.stage ((cfgM m hO).slots t 1)) fullShare ((dats m hO 0 c).before 1 t d))
      ∗ (∃ d, owns (c : Thread nD τ) (spec0_2.stage ((cfgM m hO).slots t 2)) fullShare ((dats m hO 0 c).before 2 t d))
      ∗ (∃ d, owns (c : Thread nD τ) (spec0_3.stage ((cfgM m hO).slots t 3)) fullShare ((dats m hO 0 c).before 3 t d))
      ∗ (∃ d, owns (c : Thread nD τ) (spec0_4.stage ((cfgM m hO).slots t 4)) fullShare ((dats m hO 0 c).before 4 t d)))
    ⊢ wp frame (wpE (defs₀ (F := F)) Variants.none c none) Set.univ (bodyAt m hO t) fun _ =>
      iprop(Inv m hO c (t.val + 1) ∗ (dats m hO 0 c).owesAt () t.castSucc
      ∗ owns (c : Thread nD τ) (spec0_0.stage ((cfgM m hO).slots t 0)) fullShare (blkX m hO c t)
      ∗ owns (c : Thread nD τ) (spec0_1.stage ((cfgM m hO).slots t 1)) fullShare (blkG m hO c t)
      ∗ owns (c : Thread nD τ) (spec0_2.stage ((cfgM m hO).slots t 2)) fullShare (blkU m hO c t)
      ∗ owns (c : Thread nD τ) (spec0_3.stage ((cfgM m hO).slots t 3)) fullShare (blkD m hO c t)
      ∗ (dats m hO 0 c).leavesExact 4 t) := by
  simp only [before_0, before_1, before_2, before_3]
  iintro ⟨HI, Ho, ⟨%d0, H0⟩, ⟨%d1, H1⟩, ⟨%d2, H2⟩, ⟨%d3, H3⟩, ⟨%d4, H4⟩⟩
  iapply (wp_wand_r frame _ Set.univ)
  isplitl [HI H0 H1 H2 H3 H4]
  · iapply (sound_body m hO c t d4)
    isplitl [HI]; · iexact HI
    isplitl [H0 H1 H2 H3]
    · unfold ins
      isplitl [H0]; · iexact H0
      isplitl [H1]; · iexact H1
      isplitl [H2]; · iexact H2
      iexact H3
    iexact H4
  · iintro %_
    unfold ins
    iintro ⟨HI, ⟨H0, H1, H2, H3⟩, H4⟩
    isplitl [HI]; · iexact HI
    isplitl [Ho]; · iexact Ho
    isplitl [H0]; · iexact H0
    isplitl [H1]; · iexact H1
    isplitl [H2]; · iexact H2
    isplitl [H3]; · iexact H3
    iapply (leaves_out m hO c t)
    iexact H4

theorem defs₀_row (t : Fin (cfgM m hO).N) :
    defs₀ (F := F) .tc (cfgM m hO).body ((cfgM m hO).bodyArgs t ((cfgM m hO).slots t)) = bodyAt m hO t := by
  unfold defs₀; rw [Defs.onTc_tc]

set_option maxHeartbeats 1600000 in
theorem obligation (c : Dev nD) : BodyObligation (dats (F := F) m hO 0 c) (defs₀ (F := F)) Variants.none () Set.univ := fun t => by
  rw [bigSep_W0, bigSep_W0, defs₀_row m hO]
  exact triple_restated (sound_point m hO c t) rfl .rfl fun _ => .rfl

/-! ## The launch -/

theorem anything_eq (c : Dev nD) :
    (Pipeline.ΦA spec0 c : sProp 𝕄) = iprop(iprop(∃ d, owns (c : Thread nD τ) scM fullShare d) ∗ (∃ r, prngReg c r)) := by
  unfold Pipeline.ΦA; rw [scopedRest0_eq]; simp only [scM, owns_whole]; try rfl

theorem hin (c : Dev nD) : iprop(Pipeline.ΦA spec0 c ∗ Pipeline.ΦT pre0 (tbl m) c) ⊢ (dats m hO 0 c).Φ 0 := by
  rw [show (dats m hO 0 c).Φ 0 = Inv m hO c 0 from rfl, anything_eq, tables_eq]
  unfold Inv
  iintro ⟨⟨⟨%d, HS⟩, Hg⟩, HE, HN⟩
  isplitl [HS]
  · iexists d; isplitr
    · ipureintro; intro h; exact absurd rfl h
    · iexact HS
  isplitl [Hg]; · iexact Hg
  isplitl [HE]; · iexact HE
  iexact HN

theorem hout (c : Dev nD) : (dats m hO 0 c).Φ (Fin.last (cfgM m hO).N) ⊢ Pipeline.ΦA spec0 c := by
  rw [show (dats m hO 0 c).Φ (Fin.last (cfgM m hO).N) = Inv m hO c (cfgM m hO).N from rfl, anything_eq]
  unfold Inv
  iintro ⟨⟨%d, -, HS⟩, Hg, -⟩
  isplitl [HS]
  · iexists d; iexact HS
  iexact Hg

set_option backward.isDefEq.respectTransparency.types false in
/-- Every execution from any memory ends, with every array at what the pipeline's data say and every semaphore at zero. -/
theorem run : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The result's array as the pipeline's data leave it. -/
abbrev final (c : Dev nD) : Buf (Elt F) ((c : Thread nD τ).loc main_v12) := (dats m hO 0 c).arrAt 4 (cfgM m hO).N

/-- The result, the arguments as launched, the semaphores at zero. -/
theorem run_final : θ_run defs (onTc (τ := τ) (main (F := F))) ⟨m, fun _ => 0, ρ⟩ (fun r => (∀ c : Dev nD,
      r.2.mem ((c.tc : Thread nD τ).loc main_v12) = final m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨(h.1 c).1 4,
      ((h.1 c).2 main_arg0 (by decide : main_arg0 ∈ Pipeline.restRefs sig spec0)).trans (V_kept m c (by decide)),
      ((h.1 c).2 main_arg1 (by decide : main_arg1 ∈ Pipeline.restRefs sig spec0)).trans (V_kept m c (by decide)),
      ((h.1 c).1 0).trans (((dats m hO 0 c).arrAt_in 0 rfl _).trans ((A_eq m hO c 0).trans (V_kept m c (b := main_arg2) (by decide)))),
      ((h.1 c).1 1).trans (((dats m hO 0 c).arrAt_in 1 rfl _).trans ((A_eq m hO c 1).trans (V_kept m c (b := main_arg3) (by decide)))),
      ((h.1 c).1 2).trans (((dats m hO 0 c).arrAt_in 2 rfl _).trans ((A_eq m hO c 2).trans (V_kept m c (b := main_arg4) (by decide)))),
      ((h.1 c).1 3).trans (((dats m hO 0 c).arrAt_in 3 rfl _).trans ((A_eq m hO c 3).trans (V_kept m c (b := main_arg5) (by decide))))⟩, h.2⟩)
    (run m ρ hO)

end Cert.Expert

end
-- ==== Proof.ExpertTables.lean ====
/- The tables of the expert FFN's call: what the precondition says of the number of live tiles and of the live tiles' experts,
   the prefetched table of experts the host gathers, the blocks the index maps name, and that they are inside the arrays. -/
module

public import proofs.«01_k».proof.Proof.ExpertFrame
public import proofs.«01_k».proof.Proof.Gen.Pre_tables_in_range
public import Idealize.ShloMosaic.Lib.Pointwise
public import Idealize.ShloMosaic.Lib.ValueIdxCore
public import Idealize.ShloMosaic.Lib.StableHlo.Predicate

@[expose] public section

set_option maxRecDepth 16384

noncomputable section

namespace Cert.Expert

open Cert.Kernel2Ideal Cert.Kernel2Ideal.Gen
open Idealize.ShloMosaic Idealize.ShloMosaic.TcCoe

variable {F : FTy → Type} [FloatOps F]

/-- At least one tile is live, and every live tile's expert is one of the eight. -/
structure InRange (te : IVec S42 32) (n : IVec S1 32) : Prop where
  pos : 1 ≤ (word n).toNat
  lt : (word n).toNat < 2147483648
  expert : ∀ T : Fin 42, T.val < (word n).toNat → (te (ix1 T)).toNat < 8

theorem andi_ofBool (p q : Bool) : IntOp.andi (BitVec.ofBool p) (BitVec.ofBool q) = BitVec.ofBool (p && q) := by
  cases p <;> cases q <;> decide
theorem ori_ofBool (p q : Bool) : IntOp.ori (BitVec.ofBool p) (BitVec.ofBool q) = BitVec.ofBool (p || q) := by
  cases p <;> cases q <;> decide
theorem ofBool_one (p : Bool) : (BitVec.ofBool p = 1#1) ↔ p = true := by cases p <;> decide

/-- The one index of a one-element array. -/
theorem word_at (n : IVec S1 32) (j : S1.Idx) : n j = word n := by
  unfold word
  congr 1
  funext a
  apply Fin.ext
  match a with
  | ⟨0, _⟩ => have h : (j 0).val < 1 := (j 0).isLt; show (j 0).val = 0; omega

theorem toInt_small (T : ℕ) (hT : T < 2147483648) : (BitVec.ofNat 32 T).toInt = T := by
  have h : (BitVec.ofNat 32 T).toNat = T := by rw [BitVec.toNat_ofNat]; omega
  have := BitVec.toInt_eq_toNat_cond (BitVec.ofNat 32 T)
  rw [h] at this
  split at this <;> omega

/-- The printed precondition says so. -/
theorem inRange_of_pre (te : IVec S42 32) (n : IVec S1 32) (xs : FVec F S43008x1024 .f32) (wg wu : FVec F S1x8x1024x3584 .f32)
    (wd : FVec F S1x8x3584x1024 .f32) (h1 : (Cert.Pre_tables_in_range.fn te n xs wg wu wd).1 = fun _ => 1#1)
    (h2 : (Cert.Pre_tables_in_range.fn te n xs wg wu wd).2 = fun _ => 1#1) : InRange te n := by
  have e1 := congrFun h1 (fun a => ⟨(![0] : Fin 1 → Nat) a, by fin_cases a; decide⟩)
  have hw : (1 : ℤ) ≤ (word n).toInt := by
    simp only [Pre_tables_in_range.fn, cmpi, broadcastInDim, constantI, IntOp.cmpi, ofBool_one] at e1
    simp only [BitVec.sle, decide_eq_true_eq] at e1
    exact e1
  have hn : (word n).toInt = (word n).toNat := by
    have := BitVec.toInt_eq_toNat_cond (word n); have := (word n).isLt; split at * <;> omega
  refine ⟨by omega, ?_, fun T hT => ?_⟩
  · have := BitVec.toInt_eq_toNat_cond (word n); have := (word n).isLt; split at * <;> omega
  · have e2 := congrFun h2 (ix1 T)
    simp only [Pre_tables_in_range.fn, cmpi, broadcastInDim, constantI, IntOp.cmpi, andi, ori, andi_ofBool, ori_ofBool, ofBool_one,
      Bool.or_eq_true, Bool.and_eq_true] at e2
    rcases e2 with e2 | ⟨ha, hb⟩
    · exfalso
      have e2' : (word n).sle (BitVec.ofNat 32 T.val) = true := by rw [word_at n] at e2; exact e2
      have := T.isLt
      simp only [BitVec.sle, decide_eq_true_eq, toInt_small _ (by omega : T.val < 2147483648), hn] at e2'
      omega
    · simp only [BitVec.sle, BitVec.slt, decide_eq_true_eq, BitVec.toInt, BitVec.toNat_ofNat] at ha hb
      omega

/-- The smaller of a tile and the last live one, as a word. -/
theorem min_word (T : ℕ) (hT : T < 42) (n : BitVec 32) (h1 : 1 ≤ n.toNat) (h2 : n.toNat < 2147483648) :
    IntOp.minsi (BitVec.ofNat 32 T) (IntOp.subi n 1#32) = BitVec.ofNat 32 (min T (n.toNat - 1)) := by
  have hn : n.toInt = n.toNat := by
    have := BitVec.toInt_eq_toNat_cond n; split at * <;> omega
  have hm : (n - 1#32).toNat = n.toNat - 1 := by
    rw [BitVec.toNat_sub]; simp only [BitVec.toNat_ofNat]; omega
  have hm' : (n - 1#32).toInt = (n.toNat - 1 : ℕ) := by
    have := BitVec.toInt_eq_toNat_cond (n - 1#32); rw [hm] at this; split at * <;> omega
  have ht : (BitVec.ofNat 32 T).toInt = T := toInt_small T (by omega)
  show (if (BitVec.ofNat 32 T).slt (n - 1#32) then _ else _) = _
  simp only [BitVec.slt, ht, hm', decide_eq_true_eq]
  split
  · rw [show min T (n.toNat - 1) = T by omega]
  · rw [show min T (n.toNat - 1) = n.toNat - 1 by omega]
    apply BitVec.eq_of_toNat_eq
    rw [BitVec.toNat_ofNat, Nat.mod_eq_of_lt (by omega)]; exact hm

section Maps

variable (pf : pre0.Contents (Elt F)) (i : grid0.Coords)

/-- The point's tile. -/
def tile : Fin 42 := ⟨(i 0).val, (i 0).isLt⟩

/-- The tile's word of the table of experts. -/
def expertAt : BitVec 32 := (pf 0 : IVec S42 32) (ix1 (tile i))

/-- Whether the point's tile is live, by a table's word. -/
def liveAt (n : BitVec 32) (T : ℕ) : Bool := (BitVec.ofNat 32 T).slt n

theorem map_0 : cc0_transform_0 inb_S1_S1_0 numel1_S1 pf i = ![(IntOp.minsi (BitVec.ofNat 32 (i 0).val) (IntOp.subi (word (pf 1)) 1#32)).toNat, 0] := by
  rfl

theorem at_tile : (pf.at 0 (Rect.unit (s := S42) ![(Scalar.indexCast (BitVec.ofNat 32 (i 0).val)).toNat] S1.size (k0_off1_inb i)) numel1_S1)
    = expertAt pf i := by
  show (pf 0 : IVec S42 32) _ = (pf 0 : IVec S42 32) _
  congr 1
  funext a
  apply Fin.ext
  match a with
  | ⟨0, _⟩ =>
    have : (i 0).val < 42 := (i 0).isLt
    show (BitVec.ofNat 32 (i 0).val).toNat + _ = (i 0).val
    rw [BitVec.toNat_ofNat, Nat.mod_eq_of_lt (by omega)]
    exact Nat.add_zero _

/-- The chunk of columns a point takes. -/
def chunk : ℕ := if liveAt (word (pf 1)) (i 0).val then (i 1).val else 6

theorem chunk_word : (Scalar.select (Scalar.cmpi .slt (BitVec.ofNat 32 (i 0).val) (word (pf 1))) (BitVec.ofNat 32 (i 1).val) 6#32).toNat = chunk pf i := by
  have : (i 1).val < 7 := (i 1).isLt
  unfold chunk liveAt
  show (if BitVec.ofBool ((BitVec.ofNat 32 (i 0).val).slt (word (pf 1))) = 1#1 then _ else _ : BitVec 32).toNat = _
  cases (BitVec.ofNat 32 (i 0).val).slt (word (pf 1))
  · rfl
  · show (BitVec.ofNat 32 (i 1).val).toNat = _
    rw [BitVec.toNat_ofNat, Nat.mod_eq_of_lt (by omega)]; rfl

theorem map_1 : cc0_transform_1 k0_off1_inb numel1_S1 inb_S1_S1_0 pf i = ![0, (expertAt pf i).toNat, 0, chunk pf i] :=
  congrArg₂ (fun a b => (![0, a, 0, b] : Fin 4 → ℕ)) (congrArg BitVec.toNat (at_tile pf i)) (chunk_word pf i)
theorem map_2 : cc0_transform_2 k0_off1_inb numel1_S1 inb_S1_S1_0 pf i = ![0, (expertAt pf i).toNat, 0, chunk pf i] :=
  congrArg₂ (fun a b => (![0, a, 0, b] : Fin 4 → ℕ)) (congrArg BitVec.toNat (at_tile pf i)) (chunk_word pf i)
theorem map_3 : cc0_transform_3 k0_off1_inb numel1_S1 inb_S1_S1_0 pf i = ![0, (expertAt pf i).toNat, chunk pf i, 0] :=
  congrArg₂ (fun a b => (![0, a, b, 0] : Fin 4 → ℕ)) (congrArg BitVec.toNat (at_tile pf i)) (chunk_word pf i)

end Maps

/-! ## The tables of a launch -/

variable (m : (ℓ : Loc nD τ sig) → Buf (Elt F) ℓ)

/-- The tile's experts and the number of live tiles, as launched. -/
abbrev te : IVec S42 32 := m (((0 : Dev nD) : Thread nD τ).loc main_arg0)
abbrev nn : IVec S1 32 := m (((0 : Dev nD) : Thread nD τ).loc main_arg1)

theorem tbl_1 : tbl m 1 = nn m := by
  unfold tbl; exact V_kept m 0 (by decide : main_arg1 ∉ hostWrites)

theorem nv_eq : nv m = word (nn m) := congrArg word (tbl_1 m)

theorem tbl_0_host : tbl m 0 = Host.gather gather_S42_S42x1_S42_n_0_n_n_0_1_1 (te m) (broadcastInDim S42x1 ![0] bcast_S42_S42x1_0
    (let v := minsi (iotaInDim S42 32 0) (broadcastInDim S42 ![] bcast_S_S42 (subi (shapeCast S_ (nn m) shapeCasts_S1_S_) (constantI S_ 32 1#32)))
     select (cmpi .slt v (broadcastInDim S42 ![] bcast_S_S42 (constantI S_ 32 0#32))) (addi v (broadcastInDim S42 ![] bcast_S_S42 (constantI S_ 32 42#32))) v)) := by
  unfold tbl V
  sl_kernel_rfl

/-- The prefetched table: a tile's expert, past the last live tile that one's. -/
theorem tbl_0 (h : InRange (te m) (nn m)) (T : Fin 42) :
    (tbl m 0 : IVec S42 32) (ix1 T) = te m (ix1 ⟨min T.val ((word (nn m)).toNat - 1), by omega⟩) := by
  have hT := T.isLt
  have hk : min T.val ((word (nn m)).toNat - 1) < 42 := by omega
  have e (x : IVec S42x1 32) (hx : x (StableHlo.Predicate.ixP T) = BitVec.ofNat 32 (min T.val ((word (nn m)).toNat - 1))) :
      Host.gather gather_S42_S42x1_S42_n_0_n_n_0_1_1 (te m) x (ix1 T) = te m (ix1 ⟨min T.val ((word (nn m)).toNat - 1), hk⟩) := by
    have h1 : (ix1 T : S42.Idx) = Shape.Idx.ofFin T := by funext a; match a with | ⟨0, _⟩ => rfl
    rw [h1]
    refine (StableHlo.Predicate.gather_take gather_S42_S42x1_S42_n_0_n_n_0_1_1 rfl rfl rfl rfl (te m) x T (by decide)).trans ?_
    congr 1
    funext a
    apply Fin.ext
    match a with
    | ⟨0, _⟩ =>
      show min (x (StableHlo.Predicate.ixP T)).toInt.toNat (42 - 1) = min T.val ((word (nn m)).toNat - 1)
      rw [hx, toInt_small _ (by omega)]; omega
  rw [tbl_0_host]
  refine e _ ?_
  have hw := min_word T.val hT (word (nn m)) h.pos h.lt
  have h0 : (BitVec.ofNat 32 (min T.val ((word (nn m)).toNat - 1))).slt 0#32 = false := by
    simp only [BitVec.slt, toInt_small _ (by omega : min T.val ((word (nn m)).toNat - 1) < 2147483648), decide_eq_false_iff_not]
    show ¬ ((_ : ℤ) < 0); omega
  have hs (v : BitVec 32) (hv : v.slt 0#32 = false) : Scalar.select (IntOp.cmpi .slt v 0#32) (IntOp.addi v 42#32) v = v := by
    simp only [IntOp.cmpi, hv]; rfl
  have hv : IntOp.minsi (BitVec.ofNat 32 T.val) (IntOp.subi (word (nn m)) 1#32) = BitVec.ofNat 32 (min T.val ((word (nn m)).toNat - 1)) := hw
  rw [← hv] at h0
  refine (Eq.trans ?_ (hs _ h0)).trans hv
  have hn : shapeCast S_ (nn m) shapeCasts_S1_S_ = fun _ => word (nn m) := funext fun _ => word_at _ _
  rw [hn]
  rfl

/-! ## The blocks are inside the arrays -/

theorem in_gate (e k : ℕ) (he : e < 8) (hk : k < 7) (a : Fin 4) : ((![0, e, 0, k] : Fin 4 → ℕ) a + 1) * S1x1x1024x512.size a ≤ S1x8x1024x3584.size a :=
  match a with
  | ⟨0, _⟩ => (by decide : (0 + 1) * 1 ≤ 1)
  | ⟨1, _⟩ => (by omega : (e + 1) * 1 ≤ 8)
  | ⟨2, _⟩ => (by decide : (0 + 1) * 1024 ≤ 1024)
  | ⟨3, _⟩ => (by omega : (k + 1) * 512 ≤ 3584)
theorem in_down (e k : ℕ) (he : e < 8) (hk : k < 7) (a : Fin 4) : ((![0, e, k, 0] : Fin 4 → ℕ) a + 1) * S1x1x512x1024.size a ≤ S1x8x3584x1024.size a :=
  match a with
  | ⟨0, _⟩ => (by decide : (0 + 1) * 1 ≤ 1)
  | ⟨1, _⟩ => (by omega : (e + 1) * 1 ≤ 8)
  | ⟨2, _⟩ => (by omega : (k + 1) * 512 ≤ 3584)
  | ⟨3, _⟩ => (by decide : (0 + 1) * 1024 ≤ 1024)

theorem ok (h : InRange (te m) (nn m)) : Ok m := by
  have h1 (i : grid0.Coords) : (expertAt (tbl m) i).toNat < 8 := by
    unfold expertAt; rw [tbl_0 m h]; refine h.expert _ ?_
    show min _ _ < _; have := h.pos; omega
  have h2 (i : grid0.Coords) : chunk (tbl m) i < 7 := by
    have : (i 1).val < 7 := (i 1).isLt
    unfold chunk; split <;> omega
  refine ⟨fun i => ⟨fun a => ?_, Or.inl rfl⟩, fun i => ⟨fun a => ?_, Or.inl rfl⟩, fun i => ⟨fun a => ?_, Or.inl rfl⟩, fun i => ⟨fun a => ?_, Or.inl rfl⟩⟩
  · rw [map_0, show word (tbl m 1) = word (nn m) from nv_eq m, min_word (i 0).val (i 0).isLt _ h.pos h.lt]
    have h0 : (i 0).val < 42 := (i 0).isLt
    match a with
    | ⟨0, _⟩ =>
      show ((BitVec.ofNat 32 (min (i 0).val ((word (nn m)).toNat - 1))).toNat + 1) * 1024 ≤ 43008
      rw [BitVec.toNat_ofNat]; omega
    | ⟨1, _⟩ => show (0 + 1) * 1024 ≤ 1024; decide
  · rw [map_1]; exact in_gate _ _ (h1 i) (h2 i) a
  · rw [map_2]; exact in_gate _ _ (h1 i) (h2 i) a
  · rw [map_3]; exact in_down _ _ (h1 i) (h2 i) a

end Cert.Expert

end
-- ==== Proof.ExpertValue.lean ====
/- The value of the experts' call: a live tile's rows through its expert's gated layer, a dead tile's zero. -/
module

public import proofs.«01_k».proof.Proof.ExpertTables
public import proofs.«01_k».proof.Proof.Gen.Reference2Ideal.Run
public import Idealize.ShloMosaic.Lib.Pipeline.Value
public import Idealize.ShloMosaic.Lib.StableHlo.Run

@[expose] public section

noncomputable section

open Idealize.ShloMosaic Idealize.ShloMosaic.TcCoe Idealize.SL.Sem

namespace Cert.Expert

section Blocks

open Cert.Kernel2Ideal Cert.Kernel2Ideal.Gen

variable {F : FTy → Type} [FloatOps F]
variable (m : (ℓ : Loc nD τ sig) → Buf (Elt F) ℓ) (hI : InRange (te m) (nn m)) (hO : Ok m)

include hI in
theorem live_iff (T : ℕ) (hT : T < 42) : live m T ↔ T < (word (nn m)).toNat := by
  have h1 := hI.lt
  have hn : (word (nn m)).toInt = (word (nn m)).toNat := by
    have := BitVec.toInt_eq_toNat_cond (word (nn m)); split at * <;> omega
  unfold live
  rw [nv_eq]
  simp only [BitVec.slt, toInt_small T (by omega), hn, decide_eq_true_eq]
  omega

include hI in
/-- A live tile reads its own rows and its own expert's weights, its points the chunks in order. -/
theorem at_live (T : Fin 42) (k : Fin 7) (hl : live m T.val) :
    cc0_transform_0 inb_S1_S1_0 numel1_S1 (tbl m) (grid0.coords (pt m hO T.val k.val)) = ![T.val, 0]
      ∧ (expertAt (tbl m) (grid0.coords (pt m hO T.val k.val))).toNat = (te m (ix1 T)).toNat
      ∧ chunk (tbl m) (grid0.coords (pt m hO T.val k.val)) = k.val := by
  have hn := (live_iff m hI T.val T.isLt).mp hl
  have hT := T.isLt
  have hp : (pt m hO T.val k.val).val = 7 * T.val + k.val := Nat.mod_eq_of_lt (by omega)
  have h0 : (grid0.coords (pt m hO T.val k.val) 0).val = T.val := by rw [coord0, hp]; omega
  have h1 : (grid0.coords (pt m hO T.val k.val) 1).val = k.val := by rw [coord1, hp]; omega
  have hm : min T.val ((word (nn m)).toNat - 1) = T.val := by omega
  refine ⟨?_, ?_, ?_⟩
  · rw [map_0, h0, tbl_1, min_word T.val hT _ hI.pos hI.lt, hm, BitVec.toNat_ofNat, Nat.mod_eq_of_lt (by omega)]
  · have e : tile (grid0.coords (pt m hO T.val k.val)) = T := Fin.ext h0
    unfold expertAt
    rw [e, tbl_0 m hI]
    congr 3
    exact Fin.ext hm
  · unfold chunk liveAt
    rw [h0, h1]
    exact if_pos hl

variable (T : Fin 42) (k : Fin 7) (hl : live m T.val) (c : Dev nD)

/-- A live tile's expert. -/
def expert (T : Fin 42) (hl : live m T.val) : Fin 8 :=
  ⟨(te m (ix1 T)).toNat, hI.expert T ((live_iff m hI T.val T.isLt).mp hl)⟩

include hI hl in
theorem blkX_at (r j : Fin 1024) : blkX m hO c (pt m hO T.val k.val) (ix2 r j)
    = m ((c : Thread nD τ).loc main_arg2) (ix2 ⟨T.val * 1024 + r.val, by omega⟩ j) := by
  show V m c main_arg2 ((((cfgM m hO).win 0).blk (pt m hO T.val k.val)).view.emb (ix2 r j)) = _
  rw [V_kept m c (b := main_arg2) (by decide)]
  congr 1
  have e := (at_live m hI hO T k hl).1
  funext a; apply Fin.ext
  match a with
  | ⟨0, _⟩ =>
    show cc0_transform_0 inb_S1_S1_0 numel1_S1 (tbl m) (grid0.coords (pt m hO T.val k.val)) (0 : Fin 2) * 1024 + 1 * r.val = T.val * 1024 + r.val
    rw [e]; show T.val * 1024 + 1 * r.val = _; omega
  | ⟨1, _⟩ =>
    show cc0_transform_0 inb_S1_S1_0 numel1_S1 (tbl m) (grid0.coords (pt m hO T.val k.val)) (1 : Fin 2) * 1024 + 1 * j.val = j.val
    rw [e]; show 0 * 1024 + 1 * j.val = _; omega

theorem blkG_at (i : Fin 1024) (f : Fin 512) : blkG m hO c (pt m hO T.val k.val) (ix4 0 0 i f)
    = m ((c : Thread nD τ).loc main_arg3) (ix4 0 (expert m hI T hl) i ⟨k.val * 512 + f.val, by omega⟩) := by
  show V m c main_arg3 ((((cfgM m hO).win 1).blk (pt m hO T.val k.val)).view.emb (ix4 0 0 i f)) = _
  rw [V_kept m c (b := main_arg3) (by decide)]
  congr 1
  obtain ⟨-, e1, e2⟩ := at_live m hI hO T k hl
  have e := map_1 (tbl m) (grid0.coords (pt m hO T.val k.val))
  rw [e1, e2] at e
  funext a; apply Fin.ext
  match a with
  | ⟨0, _⟩ =>
    show cc0_transform_1 k0_off1_inb numel1_S1 inb_S1_S1_0 (tbl m) (grid0.coords (pt m hO T.val k.val)) (0 : Fin 4) * 1 + 1 * 0 = 0
    rw [e]; rfl
  | ⟨1, _⟩ =>
    show cc0_transform_1 k0_off1_inb numel1_S1 inb_S1_S1_0 (tbl m) (grid0.coords (pt m hO T.val k.val)) (1 : Fin 4) * 1 + 1 * 0 = (te m (ix1 T)).toNat
    rw [e]; show (te m (ix1 T)).toNat * 1 + 1 * 0 = _; omega
  | ⟨2, _⟩ =>
    show cc0_transform_1 k0_off1_inb numel1_S1 inb_S1_S1_0 (tbl m) (grid0.coords (pt m hO T.val k.val)) (2 : Fin 4) * 1024 + 1 * i.val = i.val
    rw [e]; show 0 * 1024 + 1 * i.val = _; omega
  | ⟨3, _⟩ =>
    show cc0_transform_1 k0_off1_inb numel1_S1 inb_S1_S1_0 (tbl m) (grid0.coords (pt m hO T.val k.val)) (3 : Fin 4) * 512 + 1 * f.val = k.val * 512 + f.val
    rw [e]; show k.val * 512 + 1 * f.val = _; omega

theorem blkU_at (i : Fin 1024) (f : Fin 512) : blkU m hO c (pt m hO T.val k.val) (ix4 0 0 i f)
    = m ((c : Thread nD τ).loc main_arg4) (ix4 0 (expert m hI T hl) i ⟨k.val * 512 + f.val, by omega⟩) := by
  show V m c main_arg4 ((((cfgM m hO).win 2).blk (pt m hO T.val k.val)).view.emb (ix4 0 0 i f)) = _
  rw [V_kept m c (b := main_arg4) (by decide)]
  congr 1
  obtain ⟨-, e1, e2⟩ := at_live m hI hO T k hl
  have e := map_2 (tbl m) (grid0.coords (pt m hO T.val k.val))
  rw [e1, e2] at e
  funext a; apply Fin.ext
  match a with
  | ⟨0, _⟩ =>
    show cc0_transform_2 k0_off1_inb numel1_S1 inb_S1_S1_0 (tbl m) (grid0.coords (pt m hO T.val k.val)) (0 : Fin 4) * 1 + 1 * 0 = 0
    rw [e]; rfl
  | ⟨1, _⟩ =>
    show cc0_transform_2 k0_off1_inb numel1_S1 inb_S1_S1_0 (tbl m) (grid0.coords (pt m hO T.val k.val)) (1 : Fin 4) * 1 + 1 * 0 = (te m (ix1 T)).toNat
    rw [e]; show (te m (ix1 T)).toNat * 1 + 1 * 0 = _; omega
  | ⟨2, _⟩ =>
    show cc0_transform_2 k0_off1_inb numel1_S1 inb_S1_S1_0 (tbl m) (grid0.coords (pt m hO T.val k.val)) (2 : Fin 4) * 1024 + 1 * i.val = i.val
    rw [e]; show 0 * 1024 + 1 * i.val = _; omega
  | ⟨3, _⟩ =>
    show cc0_transform_2 k0_off1_inb numel1_S1 inb_S1_S1_0 (tbl m) (grid0.coords (pt m hO T.val k.val)) (3 : Fin 4) * 512 + 1 * f.val = k.val * 512 + f.val
    rw [e]; show k.val * 512 + 1 * f.val = _; omega

theorem blkD_at (f : Fin 512) (j : Fin 1024) : blkD m hO c (pt m hO T.val k.val) (ix4 0 0 f j)
    = m ((c : Thread nD τ).loc main_arg5) (ix4 0 (expert m hI T hl) ⟨k.val * 512 + f.val, by omega⟩ j) := by
  show V m c main_arg5 ((((cfgM m hO).win 3).blk (pt m hO T.val k.val)).view.emb (ix4 0 0 f j)) = _
  rw [V_kept m c (b := main_arg5) (by decide)]
  congr 1
  obtain ⟨-, e1, e2⟩ := at_live m hI hO T k hl
  have e := map_3 (tbl m) (grid0.coords (pt m hO T.val k.val))
  rw [e1, e2] at e
  funext a; apply Fin.ext
  match a with
  | ⟨0, _⟩ =>
    show cc0_transform_3 k0_off1_inb numel1_S1 inb_S1_S1_0 (tbl m) (grid0.coords (pt m hO T.val k.val)) (0 : Fin 4) * 1 + 1 * 0 = 0
    rw [e]; rfl
  | ⟨1, _⟩ =>
    show cc0_transform_3 k0_off1_inb numel1_S1 inb_S1_S1_0 (tbl m) (grid0.coords (pt m hO T.val k.val)) (1 : Fin 4) * 1 + 1 * 0 = (te m (ix1 T)).toNat
    rw [e]; show (te m (ix1 T)).toNat * 1 + 1 * 0 = _; omega
  | ⟨2, _⟩ =>
    show cc0_transform_3 k0_off1_inb numel1_S1 inb_S1_S1_0 (tbl m) (grid0.coords (pt m hO T.val k.val)) (2 : Fin 4) * 512 + 1 * f.val = k.val * 512 + f.val
    rw [e]; show k.val * 512 + 1 * f.val = _; omega
  | ⟨3, _⟩ =>
    show cc0_transform_3 k0_off1_inb numel1_S1 inb_S1_S1_0 (tbl m) (grid0.coords (pt m hO T.val k.val)) (3 : Fin 4) * 1024 + 1 * j.val = j.val
    rw [e]; show 0 * 1024 + 1 * j.val = _; omega

/-! ## The result array, opened -/

theorem out_index (t : Fin (cfgM m hO).N) (a : Fin 2) : cc0_transform_4 (grid0.coords t) a = ![t.val / 7, 0] a := by
  have ht : t.val < 294 := Nat.lt_of_lt_of_eq t.isLt N_0
  match a with
  | ⟨0, _⟩ =>
    show (BitVec.ofNat 32 (grid0.coords t 0).val).toNat = t.val / 7
    rw [coord0, BitVec.toNat_ofNat, Nat.mod_eq_of_lt (by omega)]
  | ⟨1, _⟩ => rfl

theorem disjoint (t t' : Fin (cfgM m hO).N) (h : ((cfgM m hO).win 4).flush t = true) (h' : ((cfgM m hO).win 4).flush t' = true) (hne : t ≠ t') :
    Disjoint (((cfgM m hO).win 4).blk t).view.set (((cfgM m hO).win 4).blk t').view.set := by
  refine ((cfgM m hO).win 4).disjoint_blk fun e => hne ?_
  have e0 : cc0_transform_4 (grid0.coords t) (0 : Fin 2) = cc0_transform_4 (grid0.coords t') (0 : Fin 2) := congrFun e (0 : Fin 2)
  rw [out_index m hO t 0, out_index m hO t' 0] at e0
  have e1 : t.val / 7 = t'.val / 7 := e0
  have f := (flush_iff m hO t).mp h
  have f' := (flush_iff m hO t').mp h'
  apply Fin.ext; omega

theorem flushed_eq (t : Fin (cfgM m hO).N) : (dats m hO 0 c).flushed 4 t = outAt m hO c t.val := rfl

/-- The array element under a point's output block. -/
theorem out_emb (t : Fin (cfgM m hO).N) (r j : Fin 1024) (h : t.val / 7 * 1024 + r.val < 43008) :
    (((cfgM m hO).win 4).blk t).view.emb (ix2 r j) = ix2 ⟨t.val / 7 * 1024 + r.val, h⟩ j := by
  funext a; apply Fin.ext
  match a with
  | ⟨0, _⟩ =>
    show cc0_transform_4 (grid0.coords t) (0 : Fin 2) * 1024 + 1 * r.val = t.val / 7 * 1024 + r.val
    rw [out_index m hO t 0]; show t.val / 7 * 1024 + 1 * r.val = _; omega
  | ⟨1, _⟩ =>
    show cc0_transform_4 (grid0.coords t) (1 : Fin 2) * 1024 + 1 * j.val = j.val
    rw [out_index m hO t 1]; show 0 * 1024 + 1 * j.val = _; omega

theorem final_emb (t : Fin (cfgM m hO).N) (ht : t.val % 7 = 6) (r j : Fin 1024) :
    final m hO c ((((cfgM m hO).win 4).blk t).view.emb (ix2 r j)) = outAt m hO c t.val (ix2 r j) :=
  by
  have hb := ((dats m hO 0 c).read_blk_arrAt_eq_flushed 4 (disjoint m hO) (cfgM m hO).N t t.isLt ((flush_iff m hO t).mpr ht)).trans (flushed_eq m hO c t)
  refine Eq.trans ?_ (congrFun hb (ix2 r j))
  unfold final
  generalize (dats m hO 0 c).arrAt 4 (cfgM m hO).N = A
  rfl

theorem final_at (r j : Fin 1024) : final m hO c (ix2 ⟨T.val * 1024 + r.val, by omega⟩ j) = outAt m hO c (7 * T.val + 6) (ix2 r j) := by
  have ht : 7 * T.val + 6 < 294 := by omega
  have hd : (7 * T.val + 6) / 7 = T.val := by omega
  have e := final_emb m hO c ⟨7 * T.val + 6, Nat.lt_of_lt_of_eq ht N_0.symm⟩ (by show (7 * T.val + 6) % 7 = 6; omega) r j
  refine Eq.trans (congrArg (final m hO c) (Eq.symm ((out_emb m hO ⟨7 * T.val + 6, Nat.lt_of_lt_of_eq ht N_0.symm⟩ r j (by show (7 * T.val + 6) / 7 * 1024 + r.val < 43008; omega)).trans ?_))) e
  funext a; apply Fin.ext
  match a with
  | ⟨0, _⟩ => show (7 * T.val + 6) / 7 * 1024 + r.val = T.val * 1024 + r.val; rw [hd]
  | ⟨1, _⟩ => rfl

end Blocks

/-- One gated entry: `silu g · u`. -/
def act (g u : Ideal .f32) : Ideal .f32 := g * Ideal.div 1 (1 + Ideal.exp (-g)) * u

section Ref
open Cert.Reference2Ideal Cert.Reference2Ideal.Gen Cert.Reference2Ideal.Value

/-- Column `f`'s term of the gated layer of expert `e` on row `i` of the rows, entry `j`. -/
def term (x : FVec Ideal S43008x1024 .f32) (g u : FVec Ideal S1x8x1024x3584 .f32) (d : FVec Ideal S1x8x3584x1024 .f32) (e : Fin 8) (i : Fin 43008)
    (j : Fin 1024) (f : Fin 3584) : Ideal .f32 :=
  act (∑ k : Fin 1024, x (ix2 i k) * g (ix4 0 e k f)) (∑ k : Fin 1024, x (ix2 i k) * u (ix4 0 e k f)) * d (ix4 0 e f j)

/-- The gated layer of expert `e` on row `i` of the rows, entry `j`. -/
def layer (x : FVec Ideal S43008x1024 .f32) (g u : FVec Ideal S1x8x1024x3584 .f32) (d : FVec Ideal S1x8x3584x1024 .f32) (e : Fin 8) (i : Fin 43008)
    (j : Fin 1024) : Ideal .f32 := ∑ f : Fin 3584, term x g u d e i j f

theorem slicesG (e : Fin 8) : S1x8x1024x3584.Slices ![0, e.val, 0, 0] S1x1x1024x3584 := by revert e; decide
theorem slicesD (e : Fin 8) : S1x8x3584x1024.Slices ![0, e.val, 0, 0] S1x1x3584x1024 := by revert e; decide

section Steps

variable (te : IVec S42 32) (n : IVec S1 32) (x : FVec Ideal S43008x1024 .f32) (wg wu : FVec Ideal S1x8x1024x3584 .f32) (wd : FVec Ideal S1x8x3584x1024 .f32)

def mask (e : BitVec 32) : IVec S42x1x1 1 :=
  broadcastInDim S42x1x1 ![0] bcast_S42_S42x1x1_0 (andi (cmpi .slt (iotaInDim S42 32 0) (broadcastInDim S42 ![0] bcast_S1_S42_0 n)) (cmpi .eq te (broadcastInDim S42 ![] bcast_S_S42 (constantI S_ 32 e))))

def gateOf (e : Fin 8) : FVec Ideal S42x1024x3584 .f32 :=
  Host.dotGeneral dot_S42x1024x1024_S1024x3584_S42x1024x3584_2_0_01_1_n_n none (shapeCast S42x1024x1024 x shapeCasts_S43008x1024_S42x1024x1024)
    (shapeCast S1024x3584 (extractStridedSlice (s := S1x8x1024x3584) S1x1x1024x3584 ![0, e.val, 0, 0] wg (slicesG e)) shapeCasts_S1x1x1024x3584_S1024x3584)

def siluOf (g : FVec Ideal S42x1024x3584 .f32) : FVec Ideal S42x1024x3584 .f32 :=
  mulf g (Host.divf (broadcastInDim S42x1024x3584 ![] bcast_S_S42x1024x3584 (constant S_ .f32 0x3F800000#32))
    (addf (broadcastInDim S42x1024x3584 ![] bcast_S_S42x1024x3584 (constant S_ .f32 0x3F800000#32)) (Host.exp (Host.negf g))))

def layerOf (e : Fin 8) : FVec Ideal S42x1024x1024 .f32 :=
  Host.dotGeneral dot_S42x1024x3584_S3584x1024_S42x1024x1024_2_0_01_1_n_n none (mulf (siluOf (gateOf x wg e)) (gateOf x wu e))
    (shapeCast S3584x1024 (extractStridedSlice (s := S1x8x3584x1024) S1x1x3584x1024 ![0, e.val, 0, 0] wd (slicesD e)) shapeCasts_S1x1x3584x1024_S3584x1024)

/-- The reference's result after its first experts. -/
def upTo : (e : ℕ) → e ≤ 8 → FVec Ideal S42x1024x1024 .f32
  | 0, _ => broadcastInDim S42x1024x1024 ![] bcast_S_S42x1024x1024 (constant S_ .f32 0#32)
  | e + 1, h => select (broadcastInDim S42x1024x1024 ![0, 1, 2] bcast_S42x1x1_S42x1024x1024_0_1_2 (mask te n (BitVec.ofNat 32 e)))
      (layerOf x wg wu wd ⟨e, h⟩) (upTo e (Nat.le_of_lt h))

theorem mask_at (T : Fin 42) (e : BitVec 32) : mask te n e (ix3 T 0 0)
    = IntOp.andi (BitVec.ofBool ((BitVec.ofNat 32 T.val).slt (word n))) (BitVec.ofBool (te (ix1 T) == e)) := by
  pointwise [mask]
  rw [word_at n (ix1 0)]
  rfl

theorem layerOf_at (e : Fin 8) (T : Fin 42) (r j : Fin 1024) : layerOf x wg wu wd e (ix3 T r j) = layer x wg wu wd e ⟨T.val * 1024 + r.val, by omega⟩ j := by
  pointwise [layerOf, siluOf, gateOf, layer, term, act]

theorem spread_at (k : IVec S42x1x1 1) (T : Fin 42) (r j : Fin 1024) :
    broadcastInDim S42x1024x1024 ![0, 1, 2] bcast_S42x1x1_S42x1024x1024_0_1_2 k (ix3 T r j) = k (ix3 T 0 0) := by
  pointwise

theorem upTo_succ (e : ℕ) (h : e < 8) (T : Fin 42) (r j : Fin 1024) : upTo te n x wg wu wd (e + 1) h (ix3 T r j)
    = if (BitVec.ofNat 32 T.val).slt (word n) = true ∧ te (ix1 T) = BitVec.ofNat 32 e then layer x wg wu wd ⟨e, h⟩ ⟨T.val * 1024 + r.val, by omega⟩ j
      else upTo te n x wg wu wd e (Nat.le_of_lt h) (ix3 T r j) := by
  show Scalar.select (broadcastInDim S42x1024x1024 ![0, 1, 2] bcast_S42x1x1_S42x1024x1024_0_1_2 (mask te n (BitVec.ofNat 32 e)) (ix3 T r j))
    (layerOf x wg wu wd ⟨e, h⟩ (ix3 T r j)) (upTo te n x wg wu wd e (Nat.le_of_lt h) (ix3 T r j)) = _
  rw [spread_at, mask_at, layerOf_at]
  by_cases h1 : (BitVec.ofNat 32 T.val).slt (word n) = true
  · by_cases h2 : te (ix1 T) = BitVec.ofNat 32 e
    · rw [if_pos ⟨h1, h2⟩, h1, h2, beq_self_eq_true]; rfl
    · rw [if_neg (fun h => h2 h.2), h1, beq_eq_false_iff_ne.mpr h2]; rfl
  · rw [if_neg (fun h => h1 h.1), Bool.eq_false_of_not_eq_true h1]
    cases te (ix1 T) == BitVec.ofNat 32 e <;> rfl

theorem upTo_dead (T : Fin 42) (r j : Fin 1024) (hl : ¬(BitVec.ofNat 32 T.val).slt (word n) = true) :
    ∀ (e : ℕ) (h : e ≤ 8), upTo te n x wg wu wd e h (ix3 T r j) = 0
  | 0, _ => by unfold upTo; pointwise
  | e + 1, h => by rw [upTo_succ, if_neg (fun h => hl h.1), upTo_dead T r j hl e]

theorem upTo_live (T : Fin 42) (r j : Fin 1024) (hl : (BitVec.ofNat 32 T.val).slt (word n) = true) (E : Fin 8) (hE : te (ix1 T) = BitVec.ofNat 32 E.val) :
    ∀ (e : ℕ) (h : e ≤ 8), E.val < e → upTo te n x wg wu wd e h (ix3 T r j) = layer x wg wu wd E ⟨T.val * 1024 + r.val, by omega⟩ j
  | 0, _, h0 => absurd h0 (Nat.not_lt_zero _)
  | e + 1, h, h0 => by
    rw [upTo_succ]
    by_cases he : E.val = e
    · subst he; rw [if_pos ⟨hl, hE⟩]
    · rw [if_neg, upTo_live T r j hl E hE e _ (by omega)]
      rintro ⟨-, h2⟩
      rw [hE] at h2
      have h3 := congrArg BitVec.toNat h2
      simp only [BitVec.toNat_ofNat] at h3
      have := E.isLt; omega

end Steps

theorem ref_eq (V0 : Valuation τ sig (Elt Ideal)) : res_main_v132 V0
    = upTo (V0 (Proc.devRef .tc main_arg0)) (V0 (Proc.devRef .tc main_arg1)) (V0 (Proc.devRef .tc main_arg2)) (V0 (Proc.devRef .tc main_arg3))
        (V0 (Proc.devRef .tc main_arg4)) (V0 (Proc.devRef .tc main_arg5)) 8 le_rfl := by
  sl_kernel_rfl

end Ref

section Tie
open Cert.Kernel2Ideal Cert.Kernel2Ideal.Gen

theorem pay3_at (x : Vec Ideal S1024x1024 .bf16) (g u : Vec Ideal S1x1x1024x512 .f32) (a : Vec Ideal S1024x1024 .f32) (d : Vec Ideal S1x1x512x1024 .f32)
    (r j : Fin 1024) : k0_pay3 x g u a d (ix2 r j)
      = a (ix2 r j) + ∑ f : Fin 512, act (∑ k : Fin 1024, x (ix2 r k) * g (ix4 0 0 k f)) (∑ k : Fin 1024, x (ix2 r k) * u (ix4 0 0 k f)) * d (ix4 0 0 f j) := by
  pointwise [k0_pay3, act]
  simp only [zero_sub]

theorem pay1_at (x : Vec Ideal S1024x1024 .f32) (r j : Fin 1024) : k0_pay1 x (ix2 r j) = x (ix2 r j) := by
  pointwise [k0_pay1]

theorem pay2_at (r j : Fin 1024) : k0_pay2 (F := Ideal) (ix2 r j) = 0 := by
  pointwise [k0_pay2]

theorem pay4_at (r j : Fin 1024) : k0_pay4 (F := Ideal) (ix2 r j) = 0 := by
  pointwise [k0_pay4]

/-- A sum over the columns is the sum of the sums over the chunks. -/
theorem sum_chunks (t : Fin 3584 → Ideal .f32) : ∑ f, t f = ∑ k : Fin 7, ∑ f : Fin 512, t ⟨k.val * 512 + f.val, by omega⟩ := by
  rw [← Fintype.sum_prod_type' (fun (k : Fin 7) (f : Fin 512) => t ⟨k.val * 512 + f.val, by omega⟩)]
  exact ((finProdFinEquiv (m := 7) (n := 512)).sum_comp t).symm.trans (Finset.sum_congr rfl fun p _ => congrArg t (Fin.ext (by
    show p.2.val + 512 * p.1.val = p.1.val * 512 + p.2.val; omega)))

variable (m : (ℓ : Loc nD τ sig) → Buf (Elt Ideal) ℓ) (hI : InRange (te m) (nn m)) (hO : Ok m)
variable (T : Fin 42) (hl : live m T.val) (c : Dev nD)

/-- One column's term of a live tile's row. -/
abbrev col (r j : Fin 1024) (f : Fin 3584) : Ideal .f32 :=
  term (m ((c : Thread nD τ).loc main_arg2)) (m ((c : Thread nD τ).loc main_arg3)) (m ((c : Thread nD τ).loc main_arg4)) (m ((c : Thread nD τ).loc main_arg5))
    (expert m hI T hl) ⟨T.val * 1024 + r.val, by omega⟩ j f

theorem chunk_at (k : Fin 7) (a : Vec Ideal S1024x1024 .f32) (r j : Fin 1024) :
    k0_pay3 (rows m hO c T.val) (blkG m hO c (pt m hO T.val k.val)) (blkU m hO c (pt m hO T.val k.val)) a (blkD m hO c (pt m hO T.val k.val)) (ix2 r j)
      = a (ix2 r j) + ∑ f : Fin 512, col m hI T hl c r j ⟨k.val * 512 + f.val, by omega⟩ := by
  rw [pay3_at]
  have hx (q : Fin 1024) : rows m hO c T.val (ix2 r q) = m ((c : Thread nD τ).loc main_arg2) (ix2 ⟨T.val * 1024 + r.val, by omega⟩ q) :=
    (pay1_at _ r q).trans (blkX_at m hI hO T 0 hl c r q)
  refine congrArg (a (ix2 r j) + ·) (Finset.sum_congr rfl fun f _ => ?_)
  exact congrArg₂ (· * ·)
    (congrArg₂ act (Finset.sum_congr rfl fun q _ => congrArg₂ (· * ·) (hx q) (blkG_at m hI hO T k hl c q f))
      (Finset.sum_congr rfl fun q _ => congrArg₂ (· * ·) (hx q) (blkU_at m hI hO T k hl c q f)))
    (blkD_at m hI hO T k hl c f j)

theorem part_at (r j : Fin 1024) : ∀ (k : ℕ) (hk : k < 7), part m hO c T.val k (ix2 r j)
    = ∑ i : Fin (k + 1), ∑ f : Fin 512, col m hI T hl c r j ⟨i.val * 512 + f.val, by omega⟩
  | 0, hk => by
    have e := chunk_at m hI hO T hl c 0 (k0_pay2 (F := Ideal)) r j
    rw [Fin.sum_univ_one]
    refine e.trans ?_
    rw [pay2_at, zero_add]
    rfl
  | k + 1, hk => by
    rw [Fin.sum_univ_castSucc]
    have e := chunk_at m hI hO T hl c ⟨k + 1, hk⟩ (part m hO c T.val k) r j
    rw [part_at r j k (Nat.lt_of_succ_lt hk)] at e
    exact e

theorem result_live (r j : Fin 1024) : final m hO c (ix2 ⟨T.val * 1024 + r.val, by omega⟩ j)
    = layer (m ((c : Thread nD τ).loc main_arg2)) (m ((c : Thread nD τ).loc main_arg3)) (m ((c : Thread nD τ).loc main_arg4)) (m ((c : Thread nD τ).loc main_arg5))
        (expert m hI T hl) ⟨T.val * 1024 + r.val, by omega⟩ j := by
  have h1 : (7 * T.val + 6) / 7 = T.val := by omega
  have h2 : (7 * T.val + 6) % 7 = 6 := by omega
  rw [final_at, outAt, h1, h2, if_pos hl, part_at m hI hO T hl c r j 6 (by decide)]
  exact (sum_chunks (col m hI T hl c r j)).symm

theorem result_dead (hd : ¬live m T.val) (r j : Fin 1024) : final m hO c (ix2 ⟨T.val * 1024 + r.val, by omega⟩ j) = (0 : Ideal .f32) := by
  have h1 : (7 * T.val + 6) / 7 = T.val := by omega
  rw [final_at, outAt, h1, if_neg hd, pay4_at]

include hI in
/-- The two results, on memories that agree on the arguments. -/
theorem tie (m' : (ℓ : Loc Cert.Reference2Ideal.nD Cert.Reference2Ideal.τ Cert.Reference2Ideal.sig) → Buf (Elt Ideal) ℓ)
    (h0 : m' ((c.tc : Thread Cert.Reference2Ideal.nD Cert.Reference2Ideal.τ).loc Cert.Reference2Ideal.main_arg0) = m ((c.tc : Thread nD τ).loc main_arg0))
    (h1 : m' ((c.tc : Thread Cert.Reference2Ideal.nD Cert.Reference2Ideal.τ).loc Cert.Reference2Ideal.main_arg1) = m ((c.tc : Thread nD τ).loc main_arg1))
    (h2 : m' ((c.tc : Thread Cert.Reference2Ideal.nD Cert.Reference2Ideal.τ).loc Cert.Reference2Ideal.main_arg2) = m ((c.tc : Thread nD τ).loc main_arg2))
    (h3 : m' ((c.tc : Thread Cert.Reference2Ideal.nD Cert.Reference2Ideal.τ).loc Cert.Reference2Ideal.main_arg3) = m ((c.tc : Thread nD τ).loc main_arg3))
    (h4 : m' ((c.tc : Thread Cert.Reference2Ideal.nD Cert.Reference2Ideal.τ).loc Cert.Reference2Ideal.main_arg4) = m ((c.tc : Thread nD τ).loc main_arg4))
    (h5 : m' ((c.tc : Thread Cert.Reference2Ideal.nD Cert.Reference2Ideal.τ).loc Cert.Reference2Ideal.main_arg5) = m ((c.tc : Thread nD τ).loc main_arg5)) :
    shapeCast S43008x1024 (Cert.Reference2Ideal.Value.res_main_v132 (StableHlo.launchContents m' c)) Cert.Reference2Ideal.Gen.shapeCasts_S42x1024x1024_S43008x1024
      = final m hO c := by
  obtain rfl : c = 0 := Subsingleton.elim _ _
  have e0 : StableHlo.launchContents m' 0 (Proc.devRef .tc Cert.Reference2Ideal.main_arg0) = te m := h0
  have e1 : StableHlo.launchContents m' 0 (Proc.devRef .tc Cert.Reference2Ideal.main_arg1) = nn m := h1
  have e2 : StableHlo.launchContents m' 0 (Proc.devRef .tc Cert.Reference2Ideal.main_arg2) = _ := h2
  have e3 : StableHlo.launchContents m' 0 (Proc.devRef .tc Cert.Reference2Ideal.main_arg3) = _ := h3
  have e4 : StableHlo.launchContents m' 0 (Proc.devRef .tc Cert.Reference2Ideal.main_arg4) = _ := h4
  have e5 : StableHlo.launchContents m' 0 (Proc.devRef .tc Cert.Reference2Ideal.main_arg5) = _ := h5
  rw [ref_eq, e0, e1, e2, e3, e4, e5]
  funext (i : S43008x1024.Idx)
  obtain ⟨T, r, j, rfl⟩ : ∃ (T : Fin 42) (r j : Fin 1024), i = ix2 ⟨T.val * 1024 + r.val, by omega⟩ j :=
    ⟨⟨(i 0).val / 1024, by have : (i 0).val < 43008 := (i 0).isLt; omega⟩, ⟨(i 0).val % 1024, by omega⟩, i 1, by
      rw [eq_ix2 i]; congr 1; apply Fin.ext; show (i 0).val = (i 0).val / 1024 * 1024 + (i 0).val % 1024; omega⟩
  have hc (u : FVec Ideal Cert.Reference2Ideal.S42x1024x1024 .f32) : shapeCast S43008x1024 u Cert.Reference2Ideal.Gen.shapeCasts_S42x1024x1024_S43008x1024
      (ix2 ⟨T.val * 1024 + r.val, by omega⟩ j) = u (ix3 T r j) := by
    pointwise
  refine (hc _).trans ?_
  by_cases hl : live m T.val
  · rw [result_live m hI hO T hl 0 r j]
    refine upTo_live _ _ _ _ _ _ T r j ?_ (expert m hI T hl) ?_ 8 le_rfl (expert m hI T hl).isLt
    · rw [← nv_eq]; exact hl
    · apply BitVec.eq_of_toNat_eq
      have := (te m (ix1 T)).isLt
      rw [BitVec.toNat_ofNat]; exact (Nat.mod_eq_of_lt this).symm
  · rw [result_dead m hO T 0 hl r j]
    refine upTo_dead _ _ _ _ _ _ T r j ?_ 8 le_rfl
    rw [← nv_eq]; exact hl

end Tie

end Cert.Expert

end
-- ==== Proof.MemKv.lean ====
/- The value of the mem_kv call (keys and values of the memory rows, both layers, by head and by row). -/
module

public import proofs.«01_k».proof.Proof.Gen.Kernel3Ideal.Value
public import proofs.«01_k».proof.Proof.Gen.Reference3Ideal.Run
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.SL.Sem

namespace Cert.MemKv

/-- One entry of the product of the memory rows and a layer's weights: sequence `b`, row `n`, column `j`. -/
def entry (mem : FVec Ideal ⟨3, ![8, 256, 1024]⟩ .f32) (w : FVec Ideal ⟨3, ![2, 1024, 1024]⟩ .f32) (l : Fin 2) (b : Fin 8) (n : Fin 256) (j : Fin 1024) : Ideal .f32 :=
  ∑ k : Fin 1024, mem (ix3 b n k) * w (ix3 l k j)

section Kernel

open Cert.Kernel3Ideal Cert.Kernel3Ideal.Gen Cert.Kernel3Ideal.Value

variable (m : (ℓ : Loc nD τ sig) → Buf (Elt Ideal) ℓ) (c : Dev nD)

theorem zero2 : (![0, 0] : Fin 2 → Nat) = fun _ => 0 := funext fun a => by fin_cases a <;> rfl
theorem zero3 : (![0, 0, 0] : Fin 3 → Nat) = fun _ => 0 := funext fun a => by fin_cases a <;> rfl

abbrev mem : FVec Ideal S8x256x1024 .f32 := m ((c : Thread nD τ).loc main_arg0)
abbrev wk : FVec Ideal S2x1024x1024 .f32 := m ((c : Thread nD τ).loc main_arg1)
abbrev wv : FVec Ideal S2x1024x1024 .f32 := m ((c : Thread nD τ).loc main_arg2)

theorem V_v1 : V m c main_v1 = truncf .bf16 (shapeCast S2048x1024 (mem m c) shapeCasts_S8x256x1024_S2048x1024) bitsLt_bf16_f32 := by
  unfold V; rfl

theorem four (t : Fin cfg0.N) : t.val < 4 := lt_of_lt_of_eq t.isLt N_0

/-! ## The index maps, at the four points -/

theorem idx_0 : ∀ t : Fin cfg0.N, win0_0.index t (0 : Fin 2) = t.val % 2 ∧ win0_0.index t (1 : Fin 2) = 0 :=
  (by decide +kernel : ∀ t : Fin grid0.N, _)
theorem idx_1 : ∀ t : Fin cfg0.N, win0_1.index t (0 : Fin 3) = t.val / 2 ∧ win0_1.index t (1 : Fin 3) = 0 ∧ win0_1.index t (2 : Fin 3) = 0 :=
  (by decide +kernel : ∀ t : Fin grid0.N, _)
theorem idx_2 : ∀ t : Fin cfg0.N, win0_2.index t (0 : Fin 3) = t.val / 2 ∧ win0_2.index t (1 : Fin 3) = 0 ∧ win0_2.index t (2 : Fin 3) = 0 :=
  (by decide +kernel : ∀ t : Fin grid0.N, _)
theorem idx_3 : ∀ t : Fin cfg0.N, win0_3.index t (0 : Fin 5) = t.val / 2 ∧ win0_3.index t (1 : Fin 5) = t.val % 2
    ∧ win0_3.index t (2 : Fin 5) = 0 ∧ win0_3.index t (3 : Fin 5) = 0 ∧ win0_3.index t (4 : Fin 5) = 0 :=
  (by decide +kernel : ∀ t : Fin grid0.N, _)
theorem idx_4 : ∀ t : Fin cfg0.N, win0_4.index t = win0_3.index t := fun _ => rfl
theorem idx_5 : ∀ t : Fin cfg0.N, win0_5.index t (0 : Fin 3) = t.val / 2 ∧ win0_5.index t (1 : Fin 3) = t.val % 2 ∧ win0_5.index t (2 : Fin 3) = 0 :=
  (by decide +kernel : ∀ t : Fin grid0.N, _)
theorem idx_6 : ∀ t : Fin cfg0.N, win0_6.index t = win0_5.index t := fun _ => rfl

/-! ## The blocks of the windows -/

theorem blk_0 (t : Fin cfg0.N) (b : Fin 4) (n : Fin 256) (k : Fin 1024) :
    iblk m c 0 t (ix2 ⟨b.val * 256 + n.val, by omega⟩ k) = mem m c (ix3 ⟨t.val % 2 * 4 + b.val, by omega⟩ n k) := by
  unfold iblk
  rw [View.read_apply]
  show V m c main_v1 _ = _
  rw [V_v1]
  obtain ⟨e0, e1⟩ := idx_0 t
  have e : ((cfg0.win 0).blk t).view.emb (ix2 ⟨b.val * 256 + n.val, by omega⟩ k) = ix2 ⟨(t.val % 2 * 4 + b.val) * 256 + n.val, by omega⟩ k := by
    funext a; apply Fin.ext
    match a with
    | ⟨0, _⟩ => show win0_0.index t (0 : Fin 2) * 1024 + 1 * (b.val * 256 + n.val) = (t.val % 2 * 4 + b.val) * 256 + n.val; omega
    | ⟨1, _⟩ => show win0_0.index t (1 : Fin 2) * 1024 + 1 * k.val = k.val; omega
  refine (congrArg _ e).trans ?_
  pointwise
  exact congrArg (fun q => mem m c (ix3 q n k)) (Fin.ext (by show ((t.val % 2 * 4 + b.val) * 256 + n.val) / 256 = t.val % 2 * 4 + b.val; omega))

theorem blk_1 (t : Fin cfg0.N) (k j : Fin 1024) :
    iblk m c 1 t (ix3 0 k j) = wk m c (ix3 ⟨t.val / 2, by have := four t; omega⟩ k j) := by
  unfold iblk
  rw [View.read_apply]
  show V m c main_arg1 _ = _
  rw [V_main_arg1]
  congr 1
  obtain ⟨e0, e1, e2⟩ := idx_1 t
  funext a; apply Fin.ext
  match a with
  | ⟨0, _⟩ => show win0_1.index t (0 : Fin 3) * 1 + 1 * 0 = t.val / 2; omega
  | ⟨1, _⟩ => show win0_1.index t (1 : Fin 3) * 1024 + 1 * k.val = k.val; omega
  | ⟨2, _⟩ => show win0_1.index t (2 : Fin 3) * 1024 + 1 * j.val = j.val; omega

theorem blk_2 (t : Fin cfg0.N) (k j : Fin 1024) :
    iblk m c 2 t (ix3 0 k j) = wv m c (ix3 ⟨t.val / 2, by have := four t; omega⟩ k j) := by
  unfold iblk
  rw [View.read_apply]
  show V m c main_arg2 _ = _
  rw [V_main_arg2]
  congr 1
  obtain ⟨e0, e1, e2⟩ := idx_2 t
  funext a; apply Fin.ext
  match a with
  | ⟨0, _⟩ => show win0_2.index t (0 : Fin 3) * 1 + 1 * 0 = t.val / 2; omega
  | ⟨1, _⟩ => show win0_2.index t (1 : Fin 3) * 1024 + 1 * k.val = k.val; omega
  | ⟨2, _⟩ => show win0_2.index t (2 : Fin 3) * 1024 + 1 * j.val = j.val; omega

/-! ## What a point leaves -/

theorem product_at (x : FVec Ideal S1024x1024 .bf16) (w : FVec Ideal S1x1024x1024 .f32) (r j : Fin 1024) :
    k0_pay3 (F := Ideal) x w (ix2 r j) = ∑ k : Fin 1024, x (ix2 r k) * w (ix3 0 k j) := by
  pointwise [k0_pay2, k0_pay3]

theorem second_eq (x : FVec Ideal S1024x1024 .bf16) (w : FVec Ideal S1x1024x1024 .f32) : k0_pay24 (F := Ideal) (k0_pay2 x) w = k0_pay3 (F := Ideal) x w := rfl

theorem out_3 (x : FVec Ideal S1024x1024 .bf16) (w v : FVec Ideal S1x1024x1024 .f32) (b : Fin 4) (n : Fin 256) (h : Fin 4) (e : Fin 256) :
    out0_3 (F := Ideal) x w v (ix5 0 b n h e) = k0_pay3 (F := Ideal) x w (ix2 ⟨b.val * 256 + n.val, by omega⟩ ⟨h.val * 256 + e.val, by omega⟩) := by
  unfold_out out0_3
  rw [View.ld_unit_zero (S := S1024x1024) zero2, View.ld_unit_zero (S := S1x1024x1024) zero3]
  rw [canon3_eq (F := Ideal) x w]
  show k0_pay3 (F := Ideal) x w (ix3_0 (ix5 0 b n h e)) = _
  congr 1; funext a; apply Fin.ext
  match a with
  | ⟨0, _⟩ => rfl
  | ⟨1, _⟩ => rfl

theorem out_4 (x : FVec Ideal S1024x1024 .bf16) (w v : FVec Ideal S1x1024x1024 .f32) (b : Fin 4) (n : Fin 256) (h : Fin 4) (e : Fin 256) :
    out0_4 (F := Ideal) x w v (ix5 0 b n h e) = k0_pay3 (F := Ideal) x v (ix2 ⟨b.val * 256 + n.val, by omega⟩ ⟨h.val * 256 + e.val, by omega⟩) := by
  unfold_out out0_4
  rw [View.ld_unit_zero (S := S1024x1024) zero2, View.ld_unit_zero (S := S1x1024x1024) zero3]
  rw [canon4_eq (F := Ideal) x v]
  show k0_pay24 (F := Ideal) (k0_pay2 x) v (ix4_0 (ix5 0 b n h e)) = _
  refine (congrFun (second_eq x v) _).trans ?_
  congr 1; funext a; apply Fin.ext
  match a with
  | ⟨0, _⟩ => rfl
  | ⟨1, _⟩ => rfl

theorem out_5 (x : FVec Ideal S1024x1024 .bf16) (w v : FVec Ideal S1x1024x1024 .f32) (r j : Fin 1024) :
    out0_5 (F := Ideal) x w v (ix3 0 r j) = k0_pay3 (F := Ideal) x w (ix2 r j) := by
  unfold_out out0_5
  rw [View.ld_unit_zero (S := S1024x1024) zero2, View.ld_unit_zero (S := S1x1024x1024) zero3]
  rw [canon5_eq (F := Ideal) x w]
  show k0_pay3 (F := Ideal) x w (ix5_0 (ix3 0 r j)) = _
  congr 1; funext a; apply Fin.ext
  match a with
  | ⟨0, _⟩ => rfl
  | ⟨1, _⟩ => rfl

theorem out_6 (x : FVec Ideal S1024x1024 .bf16) (w v : FVec Ideal S1x1024x1024 .f32) (r j : Fin 1024) :
    out0_6 (F := Ideal) x w v (ix3 0 r j) = k0_pay3 (F := Ideal) x v (ix2 r j) := by
  unfold_out out0_6
  rw [View.ld_unit_zero (S := S1024x1024) zero2, View.ld_unit_zero (S := S1x1024x1024) zero3]
  rw [canon6_eq (F := Ideal) x v]
  show k0_pay24 (F := Ideal) (k0_pay2 x) v (ix6_0 (ix3 0 r j)) = _
  refine (congrFun (second_eq x v) _).trans ?_
  congr 1; funext a; apply Fin.ext
  match a with
  | ⟨0, _⟩ => rfl
  | ⟨1, _⟩ => rfl

/-- The product a point forms over the keys' weights, at the layer and the sequences the point carries. -/
theorem keys_at (t : Fin cfg0.N) (b : Fin 4) (n : Fin 256) (j : Fin 1024) :
    k0_pay3 (F := Ideal) (iblk m c 0 t) (iblk m c 1 t) (ix2 ⟨b.val * 256 + n.val, by omega⟩ j)
      = entry (mem m c) (wk m c) ⟨t.val / 2, by have := four t; omega⟩ ⟨t.val % 2 * 4 + b.val, by omega⟩ n j := by
  refine (product_at _ _ _ _).trans (Finset.sum_congr rfl fun k _ => ?_)
  exact congrArg₂ (fun a b : Ideal .f32 => a * b) (blk_0 m c t b n k) (blk_1 m c t k j)

/-- The same over the values' weights. -/
theorem values_at (t : Fin cfg0.N) (b : Fin 4) (n : Fin 256) (j : Fin 1024) :
    k0_pay3 (F := Ideal) (iblk m c 0 t) (iblk m c 2 t) (ix2 ⟨b.val * 256 + n.val, by omega⟩ j)
      = entry (mem m c) (wv m c) ⟨t.val / 2, by have := four t; omega⟩ ⟨t.val % 2 * 4 + b.val, by omega⟩ n j := by
  refine (product_at _ _ _ _).trans (Finset.sum_congr rfl fun k _ => ?_)
  exact congrArg₂ (fun a b : Ideal .f32 => a * b) (blk_0 m c t b n k) (blk_2 m c t k j)

/-! ## The four arrays after the launch -/

theorem cells_3 (t : Fin cfg0.N) (b : Fin 4) (n : Fin 256) (h : Fin 4) (e : Fin 256) :
    ((cfg0.win 3).blk t).view.emb (ix5 0 b n h e) = ix5 ⟨t.val / 2, by have := four t; omega⟩ ⟨t.val % 2 * 4 + b.val, by omega⟩ n h e := by
  obtain ⟨e0, e1, e2, e3, e4⟩ := idx_3 t
  funext a; apply Fin.ext
  match a with
  | ⟨0, _⟩ => show win0_3.index t (0 : Fin 5) * 1 + 1 * 0 = t.val / 2; omega
  | ⟨1, _⟩ => show win0_3.index t (1 : Fin 5) * 4 + 1 * b.val = t.val % 2 * 4 + b.val; omega
  | ⟨2, _⟩ => show win0_3.index t (2 : Fin 5) * 256 + 1 * n.val = n.val; omega
  | ⟨3, _⟩ => show win0_3.index t (3 : Fin 5) * 4 + 1 * h.val = h.val; omega
  | ⟨4, _⟩ => show win0_3.index t (4 : Fin 5) * 256 + 1 * e.val = e.val; omega

theorem cells_5 (t : Fin cfg0.N) (r j : Fin 1024) :
    ((cfg0.win 5).blk t).view.emb (ix3 0 r j) = ix3 ⟨t.val / 2, by have := four t; omega⟩ ⟨t.val % 2 * 1024 + r.val, by omega⟩ j := by
  obtain ⟨e0, e1, e2⟩ := idx_5 t
  funext a; apply Fin.ext
  match a with
  | ⟨0, _⟩ => show win0_5.index t (0 : Fin 3) * 1 + 1 * 0 = t.val / 2; omega
  | ⟨1, _⟩ => show win0_5.index t (1 : Fin 3) * 1024 + 1 * r.val = t.val % 2 * 1024 + r.val; omega
  | ⟨2, _⟩ => show win0_5.index t (2 : Fin 3) * 1024 + 1 * j.val = j.val; omega

/-- The point that carries layer `l` and the half of the sequences `q`. -/
def point (l q : Fin 2) : Fin cfg0.N := ⟨l.val * 2 + q.val, by rw [show cfg0.N = 4 from N_0]; omega⟩

theorem heads_3 (t : Fin cfg0.N) (b : Fin 4) (n : Fin 256) (h : Fin 4) (e : Fin 256) :
    (dats m 0 c).arrAt 3 cfg0.N (ix5 ⟨t.val / 2, by have := four t; omega⟩ ⟨t.val % 2 * 4 + b.val, by omega⟩ n h e)
      = entry (mem m c) (wk m c) ⟨t.val / 2, by have := four t; omega⟩ ⟨t.val % 2 * 4 + b.val, by omega⟩ n ⟨h.val * 256 + e.val, by omega⟩ := by
  have hb := (blocks3 m c t (flush0_3 t)).trans (flushed3 m c t)
  refine (congrArg ((dats m 0 c).arrAt 3 cfg0.N) (cells_3 t b n h e).symm).trans ?_
  refine Eq.trans ?_ ((congrFun hb (ix5 0 b n h e)).trans ((out_3 _ _ (iblk m c 2 t) b n h e).trans (keys_at m c t b n _)))
  generalize (dats m 0 c).arrAt 3 cfg0.N = A
  rfl

theorem heads_4 (t : Fin cfg0.N) (b : Fin 4) (n : Fin 256) (h : Fin 4) (e : Fin 256) :
    (dats m 0 c).arrAt 4 cfg0.N (ix5 ⟨t.val / 2, by have := four t; omega⟩ ⟨t.val % 2 * 4 + b.val, by omega⟩ n h e)
      = entry (mem m c) (wv m c) ⟨t.val / 2, by have := four t; omega⟩ ⟨t.val % 2 * 4 + b.val, by omega⟩ n ⟨h.val * 256 + e.val, by omega⟩ := by
  have hb := (blocks4 m c t (flush0_4 t)).trans (flushed4 m c t)
  refine (congrArg ((dats m 0 c).arrAt 4 cfg0.N) (cells_3 t b n h e).symm).trans ?_
  refine Eq.trans ?_ ((congrFun hb (ix5 0 b n h e)).trans ((out_4 _ (iblk m c 1 t) _ b n h e).trans (values_at m c t b n _)))
  generalize (dats m 0 c).arrAt 4 cfg0.N = A
  rfl

theorem rows_5 (t : Fin cfg0.N) (b : Fin 4) (n : Fin 256) (j : Fin 1024) :
    (dats m 0 c).arrAt 5 cfg0.N (ix3 ⟨t.val / 2, by have := four t; omega⟩ ⟨t.val % 2 * 1024 + (b.val * 256 + n.val), by omega⟩ j)
      = entry (mem m c) (wk m c) ⟨t.val / 2, by have := four t; omega⟩ ⟨t.val % 2 * 4 + b.val, by omega⟩ n j := by
  have hb := (blocks5 m c t (flush0_5 t)).trans (flushed5 m c t)
  refine (congrArg ((dats m 0 c).arrAt 5 cfg0.N) (cells_5 t ⟨b.val * 256 + n.val, by omega⟩ j).symm).trans ?_
  refine Eq.trans ?_ ((congrFun hb (ix3 0 ⟨b.val * 256 + n.val, by omega⟩ j)).trans ((out_5 _ _ (iblk m c 2 t) _ j).trans (keys_at m c t b n j)))
  generalize (dats m 0 c).arrAt 5 cfg0.N = A
  rfl

theorem rows_6 (t : Fin cfg0.N) (b : Fin 4) (n : Fin 256) (j : Fin 1024) :
    (dats m 0 c).arrAt 6 cfg0.N (ix3 ⟨t.val / 2, by have := four t; omega⟩ ⟨t.val % 2 * 1024 + (b.val * 256 + n.val), by omega⟩ j)
      = entry (mem m c) (wv m c) ⟨t.val / 2, by have := four t; omega⟩ ⟨t.val % 2 * 4 + b.val, by omega⟩ n j := by
  have hb := (blocks6 m c t (flush0_6 t)).trans (flushed6 m c t)
  refine (congrArg ((dats m 0 c).arrAt 6 cfg0.N) (cells_5 t ⟨b.val * 256 + n.val, by omega⟩ j).symm).trans ?_
  refine Eq.trans ?_ ((congrFun hb (ix3 0 ⟨b.val * 256 + n.val, by omega⟩ j)).trans ((out_6 _ (iblk m c 1 t) _ _ j).trans (values_at m c t b n j)))
  generalize (dats m 0 c).arrAt 6 cfg0.N = A
  rfl

end Kernel

/-! ## The two forms of the result -/

/-- Keys or values by head: layer, sequence, row, head, component. -/
def heads (mem : FVec Ideal ⟨3, ![8, 256, 1024]⟩ .f32) (w : FVec Ideal ⟨3, ![2, 1024, 1024]⟩ .f32) : FVec Ideal ⟨5, ![2, 8, 256, 4, 256]⟩ .f32 :=
  fun y => entry mem w (y 0) (y 1) (y 2) ⟨(y 3).val * 256 + (y 4).val, by
    have h3 : (y 3).val < 4 := (y 3).isLt; have h4 : (y 4).val < 256 := (y 4).isLt; omega⟩

/-- The same by row: layer, row of all the sequences' memory rows, column. -/
def rows (mem : FVec Ideal ⟨3, ![8, 256, 1024]⟩ .f32) (w : FVec Ideal ⟨3, ![2, 1024, 1024]⟩ .f32) : FVec Ideal ⟨3, ![2, 2048, 1024]⟩ .bf16 :=
  fun y => (entry mem w (y 0) ⟨(y 1).val / 256, by have h : (y 1).val < 2048 := (y 1).isLt; omega⟩
    ⟨(y 1).val % 256, by omega⟩ (y 2) :)

section Arrays

open Cert.Kernel3Ideal Cert.Kernel3Ideal.Gen Cert.Kernel3Ideal.Value

variable (m : (ℓ : Loc nD τ sig) → Buf (Elt Ideal) ℓ) (c : Dev nD)

theorem heads_of (A : FVec Ideal ⟨5, ![2, 8, 256, 4, 256]⟩ .f32) (w : FVec Ideal ⟨3, ![2, 1024, 1024]⟩ .f32)
    (hA : ∀ (t : Fin cfg0.N) (b : Fin 4) (n : Fin 256) (h : Fin 4) (e : Fin 256),
      A (ix5 ⟨t.val / 2, by have := four t; omega⟩ ⟨t.val % 2 * 4 + b.val, by omega⟩ n h e)
        = entry (mem m c) w ⟨t.val / 2, by have := four t; omega⟩ ⟨t.val % 2 * 4 + b.val, by omega⟩ n ⟨h.val * 256 + e.val, by omega⟩) :
    A = heads (mem m c) w := by
  funext y
  rw [eq_ix5 y]
  generalize y 0 = l, y 1 = b, y 2 = n, y 3 = h, y 4 = e
  have hl : l.val < 2 := l.isLt
  have hb : b.val < 8 := b.isLt
  have := hA (point ⟨l.val, hl⟩ ⟨b.val / 4, by omega⟩) ⟨b.val % 4, by omega⟩ n h e
  have e0 : (⟨(point ⟨l.val, hl⟩ ⟨b.val / 4, by omega⟩).val / 2, by have := four (point ⟨l.val, hl⟩ ⟨b.val / 4, by omega⟩); omega⟩ : Fin 2) = l :=
    Fin.ext (by show (l.val * 2 + b.val / 4) / 2 = l.val; omega)
  have e1 : (⟨(point ⟨l.val, hl⟩ ⟨b.val / 4, by omega⟩).val % 2 * 4 + b.val % 4, by omega⟩ : Fin 8) = b :=
    Fin.ext (by show (l.val * 2 + b.val / 4) % 2 * 4 + b.val % 4 = b.val; omega)
  simp only [e0, e1] at this
  exact this

theorem rows_of (A : FVec Ideal ⟨3, ![2, 2048, 1024]⟩ .bf16) (w : FVec Ideal ⟨3, ![2, 1024, 1024]⟩ .f32)
    (hA : ∀ (t : Fin cfg0.N) (b : Fin 4) (n : Fin 256) (j : Fin 1024),
      A (ix3 ⟨t.val / 2, by have := four t; omega⟩ ⟨t.val % 2 * 1024 + (b.val * 256 + n.val), by omega⟩ j)
        = entry (mem m c) w ⟨t.val / 2, by have := four t; omega⟩ ⟨t.val % 2 * 4 + b.val, by omega⟩ n j) :
    A = rows (mem m c) w := by
  funext y
  rw [eq_ix3 y]
  generalize y 0 = l, y 1 = r, y 2 = j
  have hl : l.val < 2 := l.isLt
  have hr : r.val < 2048 := r.isLt
  have := hA (point ⟨l.val, hl⟩ ⟨r.val / 1024, by omega⟩) ⟨r.val / 256 % 4, by omega⟩ ⟨r.val % 256, by omega⟩ j
  have e0 : (⟨(point ⟨l.val, hl⟩ ⟨r.val / 1024, by omega⟩).val / 2, by have := four (point ⟨l.val, hl⟩ ⟨r.val / 1024, by omega⟩); omega⟩ : Fin 2) = l :=
    Fin.ext (by show (l.val * 2 + r.val / 1024) / 2 = l.val; omega)
  have e1 : (⟨(point ⟨l.val, hl⟩ ⟨r.val / 1024, by omega⟩).val % 2 * 1024 + (r.val / 256 % 4 * 256 + r.val % 256), by omega⟩ : Fin 2048) = r :=
    Fin.ext (by show (l.val * 2 + r.val / 1024) % 2 * 1024 + (r.val / 256 % 4 * 256 + r.val % 256) = r.val; omega)
  have e2 : (⟨(point ⟨l.val, hl⟩ ⟨r.val / 1024, by omega⟩).val % 2 * 4 + r.val / 256 % 4, by omega⟩ : Fin 8) = ⟨r.val / 256, by omega⟩ :=
    Fin.ext (by show (l.val * 2 + r.val / 1024) % 2 * 4 + r.val / 256 % 4 = r.val / 256; omega)
  simp only [e0, e1, e2] at this
  exact this

theorem final_3 : (dats m 0 c).arrAt 3 cfg0.N = heads (mem m c) (wk m c) := heads_of m c _ _ (heads_3 m c)
theorem final_4 : (dats m 0 c).arrAt 4 cfg0.N = heads (mem m c) (wv m c) := heads_of m c _ _ (heads_4 m c)
theorem final_5 : (dats m 0 c).arrAt 5 cfg0.N = rows (mem m c) (wk m c) := rows_of m c _ _ (rows_5 m c)
theorem final_6 : (dats m 0 c).arrAt 6 cfg0.N = rows (mem m c) (wv m c) := rows_of m c _ _ (rows_6 m c)

end Arrays

section Reference

open Cert.Reference3Ideal Cert.Reference3Ideal.Gen

/-- The product of the rows and the weights with the columns turned last. -/
def turned (mem : FVec Ideal S8x256x1024 .f32) (w : FVec Ideal S2x1024x1024 .f32) : FVec Ideal S2x8x256x1024 .f32 :=
  transpose S2x8x256x1024 [0, 2, 3, 1] (Host.dotGeneral dot_S2x1024x1024_S8x256x1024_S2x1024x8x256_1_2_02_01_n_n none w mem)
    transposes_S2x1024x8x256_S2x8x256x1024_0_2_3_1

theorem turned_at (mem : FVec Ideal S8x256x1024 .f32) (w : FVec Ideal S2x1024x1024 .f32) (l : Fin 2) (b : Fin 8) (n : Fin 256) (j : Fin 1024) :
    turned mem w (ix4 l b n j) = entry mem w l b n j := by
  pointwise [turned]
  refine Finset.sum_congr rfl fun k _ => ?_
  generalize w (ix3 l k j) = p, mem (ix3 b n k) = q
  exact mul_comm (p : EReal) q

/-- The reference's result by head. -/
theorem by_head (mem : FVec Ideal S8x256x1024 .f32) (w : FVec Ideal S2x1024x1024 .f32) :
    (shapeCast S2x8x256x4x256 (turned mem w) shapeCasts_S2x8x256x1024_S2x8x256x4x256 : FVec Ideal S2x8x256x4x256 .f32) = heads mem w := by
  funext y
  refine (congrArg _ (eq_ix5 y)).trans (Eq.trans ?_ (congrArg (heads mem w) (eq_ix5 y).symm))
  generalize y 0 = l, y 1 = b, y 2 = n, y 3 = h, y 4 = e
  change Fin 2 at l; change Fin 8 at b; change Fin 256 at n; change Fin 4 at h; change Fin 256 at e
  refine Eq.trans ?_ (turned_at mem w l b n ⟨h.val * 256 + e.val, by omega⟩)
  generalize turned mem w = x
  pointwise

/-- The reference's result by row. -/
theorem by_row (mem : FVec Ideal S8x256x1024 .f32) (w : FVec Ideal S2x1024x1024 .f32) :
    (truncf .bf16 (shapeCast S2x2048x1024 (turned mem w) shapeCasts_S2x8x256x1024_S2x2048x1024) bitsLt_bf16_f32 : FVec Ideal S2x2048x1024 .bf16) = rows mem w := by
  funext y
  refine (congrArg _ (eq_ix3 y)).trans (Eq.trans ?_ (congrArg (rows mem w) (eq_ix3 y).symm))
  generalize y 0 = l, y 1 = r, y 2 = j
  change Fin 2 at l; change Fin 2048 at r; change Fin 1024 at j
  refine Eq.trans ?_ (turned_at mem w l ⟨r.val / 256, by omega⟩ ⟨r.val % 256, by omega⟩ j)
  generalize turned mem w = x
  pointwise

end Reference

end Cert.MemKv

end
-- ==== Proof.InXbc.lean ====
/- The value of the in_xbc call (a projection window of `w_in` read through element windows). -/
module

public import proofs.«01_k».proof.Proof.Gen.Kernel4Ideal.Value
public import proofs.«01_k».proof.Proof.Gen.Reference4Ideal.Run
public import Idealize.ShloMosaic.Lib.StableHlo.Run
public import Idealize.ShloMosaic.Lib.Tactic
public import Idealize.ShloMosaic.Lib.Pointwise
public import Idealize.ShloMosaic.Lib.Tactic.CleanTypes

@[expose] public section

noncomputable section

open Idealize.ShloMosaic Idealize.ShloMosaic.TcCoe Idealize.SL.Sem

namespace Cert.InXbc

section Kernel

open Cert.Kernel4Ideal Cert.Kernel4Ideal.Gen Cert.Kernel4Ideal.Value

variable {F : FTy → Type} [FloatOps F]
variable (m : (ℓ : Loc nD τ sig) → Buf (Elt F) ℓ)

theorem zero2 : (![0, 0] : Fin 2 → Nat) = fun _ => 0 := funext fun a => by fin_cases a <;> rfl
theorem zero3 : (![0, 0, 0] : Fin 3 → Nat) = fun _ => 0 := funext fun a => by fin_cases a <;> rfl

theorem scratch_A (c : Dev nD) (i : grid0.Coords) (a2 : Memref sig .tc .vmem S2176x1024 .bf16) (h2 : a2.IsWhole)
    (a3 : Memref sig .tc .vmem S1x1024x1024 .f32) (h3 : a3.IsWhole) (a4 : Memref sig .tc .vmem S2176x1024 .bf16) (h4 : a4.IsWhole)
    (a5 : Memref sig .tc .vmem S1024x1024 .bf16) (h5 : a5.IsWhole) (hc : cond0_0 i)
    (x : Vec F S2176x1024 .bf16) (w : Vec F S1x1024x1024 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero zero2]
  simp only [View.readAt_eq_ld, h3.read_unread, View.ld_unit_zero (S := S1x1024x1024) zero3]

theorem out_A (c : Dev nD) (i : grid0.Coords) (a2 : Memref sig .tc .vmem S2176x1024 .bf16) (h2 : a2.IsWhole)
    (a3 : Memref sig .tc .vmem S1x1024x1024 .f32) (h3 : a3.IsWhole) (a4 : Memref sig .tc .vmem S2176x1024 .bf16) (h4 : a4.IsWhole)
    (a5 : Memref sig .tc .vmem S1024x1024 .bf16) (h5 : a5.IsWhole) (hc : cond0_0 i)
    (x : Vec F S2176x1024 .bf16) (w : Vec F S1x1024x1024 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero zero2, View.readCov_unit_zero (S := S1024x1024) _ zero2]
  simp only [View.readAt_eq_ld, h2.read_unread, h3.read_unread, View.ld_unit_zero (S := S1x1024x1024) zero3,
    View.ld_unit_zero (S := S2176x1024) zero2]

theorem out_B (c : Dev nD) (i : grid0.Coords) (a2 : Memref sig .tc .vmem S2176x1024 .bf16) (h2 : a2.IsWhole)
    (a3 : Memref sig .tc .vmem S1x1024x1024 .f32) (h3 : a3.IsWhole) (a4 : Memref sig .tc .vmem S2176x1024 .bf16) (h4 : a4.IsWhole)
    (a5 : Memref sig .tc .vmem S1024x1024 .bf16) (h5 : a5.IsWhole) (hc : ¬cond0_0 i)
    (x : Vec F S2176x1024 .bf16) (w : Vec F S1x1024x1024 .f32) (s : Vec F S1024x1024 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  sl_unfold_words
  rw [View.canon_unit_zero zero2]
  simp only [View.readAt_eq_ld, h2.read_unread, h5.read_unread, View.ld_unit_zero (S := S2176x1024) zero2,
    View.ld_unit_zero (S := S1024x1024) zero2]

/-! ## The blocks of the windows, read out of the arguments -/

theorem V_v0 (c : Dev nD) : V m c main_v0 = transpose S2x11296x1024 [0, 2, 1] (m ((c : Thread nD τ).loc main_arg1)) transposes_S2x1024x11296_S2x11296x1024_0_2_1 := by
  unfold V; rfl

theorem idx_0 : ∀ t : Fin cfg0.N, win0_0.index t (0 : Fin 2) = t.val % 8 ∧ win0_0.index t (1 : Fin 2) = 0 :=
  (by decide +kernel : ∀ t : Fin grid0.N, _)

theorem idx_1 : ∀ t : Fin cfg0.N, cc0_transform_1 (grid0.coords t) (0 : Fin 3) = 0
    ∧ cc0_transform_1 (grid0.coords t) (1 : Fin 3) = 4096 + t.val / 8 * 1024 ∧ cc0_transform_1 (grid0.coords t) (2 : Fin 3) = 0 :=
  (by decide +kernel : ∀ t : Fin grid0.N, _)

theorem blk_0 (c : Dev nD) (t : Fin cfg0.N) (r : Fin 2176) (k : Fin 1024) :
    iblk m c 0 t (ix2 r k) = m ((c : Thread nD τ).loc main_arg0) (ix2 ⟨t.val % 8 * 2176 + r.val, by omega⟩ k) := by
  unfold iblk
  rw [View.read_apply]
  show V m c main_arg0 _ = _
  rw [V_main_arg0]
  congr 1
  obtain ⟨e0, e1⟩ := idx_0 t
  funext a; apply Fin.ext
  match a with
  | ⟨0, _⟩ => show win0_0.index t (0 : Fin 2) * 2176 + 1 * r.val = t.val % 8 * 2176 + r.val; omega
  | ⟨1, _⟩ => show win0_0.index t (1 : Fin 2) * 1024 + 1 * k.val = k.val; omega

theorem blk_1 (c : Dev nD) (t : Fin cfg0.N) (q k : Fin 1024) :
    iblk m c 1 t (ix3 0 q k) = m ((c : Thread nD τ).loc main_arg1)
      (ix3 0 k ⟨4096 + t.val / 8 * 1024 + q.val, by have := t.isLt; have : cfg0.N = 24 := N_0; omega⟩) := by
  unfold iblk
  rw [View.read_apply]
  show V m c main_v0 _ = _
  rw [V_v0]
  pointwise
  congr 1
  obtain ⟨e0, e1, e2⟩ := idx_1 t
  funext a; apply Fin.ext
  match a with
  | ⟨0, _⟩ => show cc0_transform_1 (grid0.coords t) (0 : Fin 3) + 1 * 0 = 0; omega
  | ⟨1, _⟩ => show cc0_transform_1 (grid0.coords t) (2 : Fin 3) + 1 * k.val = k.val; omega
  | ⟨2, _⟩ => show cc0_transform_1 (grid0.coords t) (1 : Fin 3) + 1 * q.val = 4096 + t.val / 8 * 1024 + q.val; omega

/-! ## The points -/

/-- The weight block is one and the same at the eight points of a column block. -/
theorem weights_eq (c : Dev nD) (t t' : Fin cfg0.N) (h : t.val / 8 = t'.val / 8) : iblk m c 1 t = iblk m c 1 t' := by
  funext (j : S1x1024x1024.Idx)
  obtain ⟨a, q, k, rfl⟩ : ∃ (a : Fin 1) (q k : Fin 1024), j = ix3 a q k := ⟨j 0, j 1, j 2, eq_ix3 j⟩
  obtain rfl : a = 0 := Subsingleton.elim _ _
  rw [blk_1, blk_1]
  simp only [h]

theorem point_eq (c : Dev nD) : ∀ (n : ℕ) (h : n < cfg0.N), outsAt0 m c n h
    = (k0_pay2 (iblk m c 0 ⟨n, h⟩) (k0_pay1 (iblk m c 1 ⟨n, h⟩)), k0_pay1 (iblk m c 1 ⟨n, h⟩))
  | 0, h => by
    rw [outsAt0_A m c ⟨0, h⟩ rfl, out_A, scratch_A]
  | n + 1, h => by
    by_cases hm : (n + 1) % 8 = 0
    · rw [outsAt0_A m c ⟨n + 1, h⟩ hm, out_A, scratch_A]
    · rw [outsAt0_B m c ⟨n + 1, h⟩ hm, out_B]
      unfold sout0_B_0
      simp only [Nat.add_sub_cancel, point_eq c n]
      rw [weights_eq m c ⟨n, _⟩ ⟨n + 1, h⟩ (by dsimp only; omega)]

/-- The result array at an index: the block of the row's and column's point. -/
theorem result_at (c : Dev nD) (j : Fin 3) (i : Fin 8) (r : Fin 2176) (q : Fin 1024) :
    G2 m c (ix2 ⟨i.val * 2176 + r.val, by omega⟩ ⟨j.val * 1024 + q.val, by omega⟩)
      = k0_pay2 (iblk m c 0 ⟨j.val * 8 + i.val, by rw [show cfg0.N = 24 from N_0]; omega⟩)
          (k0_pay1 (iblk m c 1 ⟨j.val * 8 + i.val, by rw [show cfg0.N = 24 from N_0]; omega⟩)) (ix2 r q) := by
  have hp : pt2Of (ix2 ⟨i.val * 2176 + r.val, by omega⟩ ⟨j.val * 1024 + q.val, by omega⟩) = j.val * 8 + i.val := by
    show 1 * ((i.val * 2176 + r.val) / 2176 - 0) + 8 * ((j.val * 1024 + q.val) / 1024 - 0) = j.val * 8 + i.val
    omega
  have hl : loc2Of (ix2 ⟨i.val * 2176 + r.val, by omega⟩ ⟨j.val * 1024 + q.val, by omega⟩) = ix2 r q := by
    funext a; apply Fin.ext
    match a with
    | ⟨0, _⟩ => show (i.val * 2176 + r.val) % 2176 = r.val; omega
    | ⟨1, _⟩ => show (j.val * 1024 + q.val) % 1024 = q.val; omega
  have hN : j.val * 8 + i.val < cfg0.N := by rw [show cfg0.N = 24 from N_0]; omega
  unfold G2
  rw [dif_pos (by rw [hp]; exact hN), hl, fold0_congr m c _ _ (j.val * 8 + i.val) (by rw [Nat.zero_add]; exact hN) hp,
    ← outsAt0_sweep m c (j.val * 8 + i.val) hN, point_eq]

theorem pay_at (x : FVec Ideal S2176x1024 .bf16) (w : FVec Ideal S1x1024x1024 .f32) (r : Fin 2176) (q : Fin 1024) :
    k0_pay2 (F := Ideal) x (k0_pay1 (F := Ideal) w) (ix2 r q) = ∑ k : Fin 1024, x (ix2 r k) * w (ix3 0 q k) := by
  pointwise [k0_pay1, k0_pay2]

end Kernel

section Reference

open Cert.Reference4Ideal Cert.Reference4Ideal.Gen

/-- The reference's array of its two arguments. -/
def projected (x : FVec Ideal S17408x1024 .bf16) (w : FVec Ideal S2x1024x11296 .f32) : FVec Ideal S17408x3072 .bf16 :=
  truncf .bf16 (Host.dotGeneral dot_S17408x1024_S1024x3072_S17408x3072_1_0_0_1_n_n none (extf .f32 x bitsLt_bf16_f32)
    (extractStridedSlice S1024x3072 ![0, 4096] (shapeCast S1024x11296 (extractStridedSlice S1x1024x11296 ![0, 0, 0] w slices_S2x1024x11296_S1x1024x11296_0_0_0) shapeCasts_S1x1024x11296_S1024x11296)
      slices_S1024x11296_S1024x3072_0_4096)) bitsLt_bf16_f32

theorem projected_at (x : FVec Ideal S17408x1024 .bf16) (w : FVec Ideal S2x1024x11296 .f32) (r : Fin 17408) (q : Fin 3072) :
    projected x w (ix2 r q) = ∑ k : Fin 1024, x (ix2 r k) * w (ix3 0 k ⟨4096 + q.val, by omega⟩) := by
  pointwise [projected]

end Reference

/-- The two results, index by index. -/
theorem tie (m : (ℓ : Loc Cert.Kernel4Ideal.nD Cert.Kernel4Ideal.τ Cert.Kernel4Ideal.sig) → Buf (Elt Ideal) ℓ) (c : Dev Cert.Kernel4Ideal.nD) :
    projected (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1)) = Cert.Kernel4Ideal.Value.G2 m c := by
  funext (y : Cert.Kernel4Ideal.S17408x3072.Idx)
  obtain ⟨j, i, r, q, rfl⟩ : ∃ (j : Fin 3) (i : Fin 8) (r : Fin 2176) (q : Fin 1024),
      y = ix2 ⟨i.val * 2176 + r.val, by omega⟩ ⟨j.val * 1024 + q.val, by omega⟩ := by
    have h0 : (y 0).val < 17408 := (y 0).isLt
    have h1 : (y 1).val < 3072 := (y 1).isLt
    refine ⟨⟨(y 1).val / 1024, by omega⟩, ⟨(y 0).val / 2176, by omega⟩, ⟨(y 0).val % 2176, by omega⟩, ⟨(y 1).val % 1024, by omega⟩, ?_⟩
    refine (eq_ix2 y).trans ?_
    congr 1 <;> apply Fin.ext
    · show (y 0).val = (y 0).val / 2176 * 2176 + (y 0).val % 2176; omega
    · show (y 1).val = (y 1).val / 1024 * 1024 + (y 1).val % 1024; omega
  rw [result_at, pay_at, projected_at]
  refine Finset.sum_congr rfl fun k _ => ?_
  rw [blk_0, blk_1]
  refine congrArg₂ (· * ·) (congrArg _ ?_) (congrArg _ ?_)
  · congr 1; apply Fin.ext; show i.val * 2176 + r.val = (j.val * 8 + i.val) % 8 * 2176 + r.val; omega
  · congr 1; apply Fin.ext; show 4096 + (j.val * 1024 + q.val) = 4096 + (j.val * 8 + i.val) / 8 * 1024 + q.val; omega

end Cert.InXbc

end
-- ==== Proof.Ffn.lean ====
/- The value of the feed-forward call (the swiglu of a row added to the row times alpha, layer norm), and its bfloat16 copy. -/
module

public import proofs.«01_k».proof.Proof.Gen.Kernel5Ideal.Value
public import proofs.«01_k».proof.Proof.Gen.Reference5Ideal.Run
public import proofs.«01_k».proof.Proof.InV
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.SL.Sem

namespace Cert.Ffn

open Cert.InV (normed centred)

/-- A number times its logistic, on one extended real. -/
def silu (v : Ideal .f32) : Ideal .f32 := v * Ideal.div 1 (1 + Ideal.exp (-v))

/-- The hidden row: gate and up products of an input row `x`. -/
def hidden (x : Fin 1024 → Ideal .f32) (wg wu : Fin 1024 → Fin 2816 → Ideal .f32) (f : Fin 2816) : Ideal .f32 :=
  silu (∑ k, x k * wg k f) * ∑ k, x k * wu k f

/-- The row before its norm: alpha times `a` and the hidden row of `x` brought back. -/
def added (x a : Fin 1024 → Ideal .f32) (wg wu : Fin 1024 → Fin 2816 → Ideal .f32) (wd : Fin 2816 → Fin 1024 → Ideal .f32) (j : Fin 1024) : Ideal .f32 :=
  Ideal.ofBits .f32 0x3FB504F3#32 * a j + ∑ f, hidden x wg wu f * wd f j

/-- The row after its norm, entry `q`. -/
def row (x a : Fin 1024 → Ideal .f32) (wg wu : Fin 1024 → Fin 2816 → Ideal .f32) (wd : Fin 2816 → Fin 1024 → Ideal .f32)
    (g b : Fin 1024 → Ideal .f32) (q : Fin 1024) : Ideal .f32 :=
  normed (added x a wg wu wd) q * g q + b q

section Kernel

open Cert.Kernel5Ideal Cert.Kernel5Ideal.Gen Cert.Kernel5Ideal.Value

variable (x : FVec Ideal S256x1024 .bf16) (a : FVec Ideal S256x1024 .f32) (wg wu : FVec Ideal S1024x2816 .bf16) (wd : FVec Ideal S2816x1024 .bf16)
  (g b : FVec Ideal S1x1024 .f32)

theorem pay9_at (r : Fin 256) (f : Fin 2816) : k0_pay9 (F := Ideal) x wg wu (ix2 r f)
    = hidden (fun k => x (ix2 r k)) (fun k f => wg (ix2 k f)) (fun k f => wu (ix2 k f)) f := by
  pointwise [k0_pay9]
  simp only [zero_sub]
  rfl

theorem pay1_at (h : FVec Ideal S256x2816 .bf16) (u : FVec Ideal S256x1024 .f32) (r : Fin 256) (q : Fin 1024) :
    k0_pay1 (F := Ideal) h u wd g b (ix2 r q)
      = normed (fun j => u (ix2 r j) + ∑ f : Fin 2816, h (ix2 r f) * wd (ix2 f j)) q * g (ix2 0 q) + b (ix2 0 q) := by
  pointwise [k0_pay1]
  rfl

theorem pay10_at (r : Fin 256) (j : Fin 1024) : k0_pay10 (F := Ideal) a (ix2 r j) = Ideal.ofBits .f32 0x3FB504F3#32 * a (ix2 r j) := by
  pointwise [k0_pay10]

theorem halves : k0_pay7 (F := Ideal) (k0_pay3 g) (k0_pay4 b) (k0_pay5 x wg wu a wd) (k0_pay6 x wg wu a wd) = k0_pay1 (k0_pay9 x wg wu) (k0_pay10 a) wd g b := rfl

theorem half_at (r : Fin 256) (q : Fin 1024) : k0_pay1 (F := Ideal) (k0_pay9 x wg wu) (k0_pay10 a) wd g b (ix2 r q)
    = row (fun k => x (ix2 r k)) (fun k => a (ix2 r k)) (fun k f => wg (ix2 k f)) (fun k f => wu (ix2 k f)) (fun f j => wd (ix2 f j))
        (fun q => g (ix2 0 q)) (fun q => b (ix2 0 q)) q := by
  rw [pay1_at]
  simp only [pay9_at, pay10_at]
  rfl

end Kernel

section Blocks

open Cert.Kernel5Ideal Cert.Kernel5Ideal.Gen Cert.Kernel5Ideal.Value

theorem zero2 : (![0, 0] : Fin 2 → Nat) = fun _ => 0 := funext fun a => by fin_cases a <;> rfl

section Point

variable (x : FVec Ideal S512x1024 .bf16) (a : FVec Ideal S512x1024 .f32) (wg wu : FVec Ideal S1024x2816 .bf16) (wd : FVec Ideal S2816x1024 .bf16)
  (g b : FVec Ideal S1x1024 .f32)

/-- What a point leaves in its block. -/
def block : FVec Ideal S512x1024 .f32 := fun y =>
  row (fun k => x (ix2 (y 0) k)) (fun k => a (ix2 (y 0) k)) (fun k f => wg (ix2 k f)) (fun k f => wu (ix2 k f)) (fun f j => wd (ix2 f j))
    (fun q => g (ix2 0 q)) (fun q => b (ix2 0 q)) (y 1)

theorem upper_emb (r : Fin 256) (k : Fin 1024) : r0_0.emb (ix2 r k : S256x1024.Idx) = (ix2 ⟨r.val, by omega⟩ k : S512x1024.Idx) := by
  funext i; apply Fin.ext
  match i with
  | ⟨0, _⟩ => show 0 + 1 * r.val = r.val; omega
  | ⟨1, _⟩ => show 0 + 1 * k.val = k.val; omega

theorem lower_emb (r : Fin 256) (k : Fin 1024) : r0_4.emb (ix2 r k : S256x1024.Idx) = (ix2 ⟨256 + r.val, by omega⟩ k : S512x1024.Idx) := by
  funext i; apply Fin.ext
  match i with
  | ⟨0, _⟩ => show 256 + 1 * r.val = 256 + r.val; omega
  | ⟨1, _⟩ => show 0 + 1 * k.val = k.val; omega

theorem upper_at (y : S256x1024.Idx) :
    k0_pay1 (F := Ideal) (k0_pay9 (View.ld x r0_0) wg wu) (k0_pay10 (View.ld a r0_0)) wd g b y = block x a wg wu wd g b (r0_0.emb y) := by
  obtain ⟨r, q, rfl⟩ : ∃ (r : Fin 256) (q : Fin 1024), y = ix2 r q := ⟨y 0, y 1, eq_ix2 y⟩
  have hx : ∀ k, View.ld (Val := Elt Ideal) (e' := .bf16) x r0_0 (ix2 r k) = x (ix2 ⟨r.val, by omega⟩ k) := fun k => congrArg x (upper_emb r k)
  have ha : ∀ k, View.ld (Val := Elt Ideal) (e' := .f32) a r0_0 (ix2 r k) = a (ix2 ⟨r.val, by omega⟩ k) := fun k => congrArg a (upper_emb r k)
  refine (half_at _ _ wg wu wd g b r q).trans ?_
  rw [upper_emb]
  simp only [hx, ha]
  rfl

theorem lower_at (y : S256x1024.Idx) :
    k0_pay1 (F := Ideal) (k0_pay9 (View.ld x r0_4) wg wu) (k0_pay10 (View.ld a r0_4)) wd g b y = block x a wg wu wd g b (r0_4.emb y) := by
  obtain ⟨r, q, rfl⟩ : ∃ (r : Fin 256) (q : Fin 1024), y = ix2 r q := ⟨y 0, y 1, eq_ix2 y⟩
  have hx : ∀ k, View.ld (Val := Elt Ideal) (e' := .bf16) x r0_4 (ix2 r k) = x (ix2 ⟨256 + r.val, by omega⟩ k) := fun k => congrArg x (lower_emb r k)
  have ha : ∀ k, View.ld (Val := Elt Ideal) (e' := .f32) a r0_4 (ix2 r k) = a (ix2 ⟨256 + r.val, by omega⟩ k) := fun k => congrArg a (lower_emb r k)
  refine (half_at _ _ wg wu wd g b r q).trans ?_
  rw [lower_emb]
  simp only [hx, ha]
  rfl

theorem out_7 (y : S512x1024.Idx) : out0_7 (F := Ideal) x a wg wu wd g b y = block x a wg wu wd g b y := by
  unfold_out out0_7
  rw [View.ld_unit_zero (S := S1024x2816) zero2, View.ld_unit_zero (S := S1024x2816) zero2, View.ld_unit_zero (S := S2816x1024) zero2,
    View.ld_unit_zero (S := S1x1024) zero2, View.ld_unit_zero (S := S1x1024) zero2, halves]
  refine View.canon_apply_of_pieces (Val := Elt Ideal) (block x a wg wu wd g b) _ ?_ y (cover0_7 _ _ y)
  intro pc hpc
  rcases List.mem_cons.mp hpc with rfl | hpc
  · exact lower_at x a wg wu wd g b
  rcases List.mem_cons.mp hpc with rfl | hpc
  · exact upper_at x a wg wu wd g b
  nomatch hpc

theorem out_8 (y : S512x1024.Idx) : out0_8 (F := Ideal) x a wg wu wd g b y = block x a wg wu wd g b y := by
  unfold_out out0_8
  rw [View.ld_unit_zero (S := S1024x2816) zero2, View.ld_unit_zero (S := S1024x2816) zero2, View.ld_unit_zero (S := S2816x1024) zero2,
    View.ld_unit_zero (S := S1x1024) zero2, View.ld_unit_zero (S := S1x1024) zero2]
  unfold k0_pay8 k0_pay2
  rw [halves]
  refine View.canon_apply_of_pieces (Val := Elt Ideal) (truncf .bf16 (block x a wg wu wd g b) bitsLt_bf16_f32 : FVec Ideal S512x1024 .bf16) _ ?_ y (cover0_8 _ _ y)
  intro pc hpc
  rcases List.mem_cons.mp hpc with rfl | hpc
  · exact lower_at x a wg wu wd g b
  rcases List.mem_cons.mp hpc with rfl | hpc
  · exact upper_at x a wg wu wd g b
  nomatch hpc

end Point

variable (m : (ℓ : Loc nD τ sig) → Buf (Elt Ideal) ℓ) (c : Dev nD)

abbrev inp : FVec Ideal S17408x1024 .f32 := m ((c : Thread nD τ).loc main_arg0)
abbrev gate : FVec Ideal S1x1024x2816 .f32 := m ((c : Thread nD τ).loc main_arg1)
abbrev up : FVec Ideal S1x1024x2816 .f32 := m ((c : Thread nD τ).loc main_arg2)
abbrev down : FVec Ideal S1x2816x1024 .f32 := m ((c : Thread nD τ).loc main_arg3)
abbrev scale : FVec Ideal S2x1024 .f32 := m ((c : Thread nD τ).loc main_arg4)
abbrev shift : FVec Ideal S2x1024 .f32 := m ((c : Thread nD τ).loc main_arg5)

theorem V_v0 : V m c main_v0 = truncf .bf16 (inp m c) bitsLt_bf16_f32 := by unfold V; rfl
theorem V_v2 : V m c main_v2 = truncf .bf16 (shapeCast S1024x2816 (gate m c) shapeCasts_S1x1024x2816_S1024x2816) bitsLt_bf16_f32 := by unfold V; rfl
theorem V_v4 : V m c main_v4 = truncf .bf16 (shapeCast S1024x2816 (up m c) shapeCasts_S1x1024x2816_S1024x2816) bitsLt_bf16_f32 := by unfold V; rfl
theorem V_v6 : V m c main_v6 = truncf .bf16 (shapeCast S2816x1024 (down m c) shapeCasts_S1x2816x1024_S2816x1024) bitsLt_bf16_f32 := by unfold V; rfl
theorem V_v9 : V m c main_v9 = shapeCast S1x1024 (shapeCast S1024 (extractStridedSlice S1x1024 ![0, 0] (scale m c) slices_S2x1024_S1x1024_0_0) shapeCasts_S1x1024_S1024) shapeCasts_S1024_S1x1024 := by unfold V; rfl
theorem V_v12 : V m c main_v12 = shapeCast S1x1024 (shapeCast S1024 (extractStridedSlice S1x1024 ![0, 0] (shift m c) slices_S2x1024_S1x1024_0_0) shapeCasts_S1x1024_S1024) shapeCasts_S1024_S1x1024 := by unfold V; rfl

/-! ## The blocks of the windows -/

theorem points (t : Fin cfg0.N) : t.val < 34 := lt_of_lt_of_eq t.isLt N_0

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = t.val ∧ win0_7.index t (1 : Fin 2) = 0 :=
  (by decide +kernel : ∀ t : Fin grid0.N, _)
theorem idx_8 : ∀ t : Fin cfg0.N, win0_8.index t (0 : Fin 2) = t.val ∧ win0_8.index t (1 : Fin 2) = 0 :=
  (by decide +kernel : ∀ t : Fin grid0.N, _)

theorem blk_0 (t : Fin cfg0.N) (r : Fin 512) (k : Fin 1024) :
    iblk m c 0 t (ix2 r k) = inp m c (ix2 ⟨t.val * 512 + r.val, by have := points t; omega⟩ k) := by
  unfold iblk
  rw [View.read_apply]
  show V m c main_v0 _ = _
  rw [V_v0]
  refine (truncf_apply .bf16 (inp m c) bitsLt_bf16_f32 _).trans (congrArg (inp m c) ?_)
  obtain ⟨e0, e1⟩ := idx_0 t
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem blk_1 (t : Fin cfg0.N) (r : Fin 512) (k : Fin 1024) :
    iblk m c 1 t (ix2 r k) = inp m c (ix2 ⟨t.val * 512 + r.val, by have := points t; omega⟩ k) := by
  unfold iblk
  rw [View.read_apply]
  show V m c main_arg0 _ = _
  rw [V_main_arg0]
  refine congrArg (inp m c) ?_
  obtain ⟨e0, e1⟩ := idx_1 t
  funext a; apply Fin.ext
  match a with
  | ⟨0, _⟩ => show win0_1.index t (0 : Fin 2) * 512 + 1 * r.val = t.val * 512 + r.val; omega
  | ⟨1, _⟩ => show win0_1.index t (1 : Fin 2) * 1024 + 1 * k.val = k.val; omega

theorem blk_2 (t : Fin cfg0.N) (k : Fin 1024) (f : Fin 2816) : iblk m c 2 t (ix2 k f) = gate m c (ix3 0 k f) := by
  unfold iblk
  rw [View.read_apply]
  show V m c main_v2 _ = _
  rw [V_v2]
  obtain ⟨e0, e1⟩ := idx_2 t
  have e : ((cfg0.win 2).blk t).view.emb (ix2 k f) = ix2 k f := by
    funext a; apply Fin.ext
    match a with
    | ⟨0, _⟩ => show win0_2.index t (0 : Fin 2) * 1024 + 1 * k.val = k.val; omega
    | ⟨1, _⟩ => show win0_2.index t (1 : Fin 2) * 2816 + 1 * f.val = f.val; omega
  refine (congrArg _ e).trans ?_
  pointwise

theorem blk_3 (t : Fin cfg0.N) (k : Fin 1024) (f : Fin 2816) : iblk m c 3 t (ix2 k f) = up m c (ix3 0 k f) := by
  unfold iblk
  rw [View.read_apply]
  show V m c main_v4 _ = _
  rw [V_v4]
  obtain ⟨e0, e1⟩ := idx_3 t
  have e : ((cfg0.win 3).blk t).view.emb (ix2 k f) = ix2 k f := by
    funext a; apply Fin.ext
    match a with
    | ⟨0, _⟩ => show win0_3.index t (0 : Fin 2) * 1024 + 1 * k.val = k.val; omega
    | ⟨1, _⟩ => show win0_3.index t (1 : Fin 2) * 2816 + 1 * f.val = f.val; omega
  refine (congrArg _ e).trans ?_
  pointwise

theorem blk_4 (t : Fin cfg0.N) (k : Fin 2816) (f : Fin 1024) : iblk m c 4 t (ix2 k f) = down m c (ix3 0 k f) := by
  unfold iblk
  rw [View.read_apply]
  show V m c main_v6 _ = _
  rw [V_v6]
  obtain ⟨e0, e1⟩ := idx_4 t
  have e : ((cfg0.win 4).blk t).view.emb (ix2 k f) = ix2 k f := by
    funext a; apply Fin.ext
    match a with
    | ⟨0, _⟩ => show win0_4.index t (0 : Fin 2) * 2816 + 1 * k.val = k.val; omega
    | ⟨1, _⟩ => show win0_4.index t (1 : Fin 2) * 1024 + 1 * f.val = f.val; omega
  refine (congrArg _ e).trans ?_
  pointwise

theorem blk_5 (t : Fin cfg0.N) (k : Fin 1) (f : Fin 1024) : iblk m c 5 t (ix2 k f) = scale m c (ix2 0 f) := by
  unfold iblk
  rw [View.read_apply]
  show V m c main_v9 _ = _
  rw [V_v9]
  obtain ⟨e0, e1⟩ := idx_5 t
  have e : ((cfg0.win 5).blk t).view.emb (ix2 k f) = ix2 k f := by
    funext a; apply Fin.ext
    match a with
    | ⟨0, _⟩ => show win0_5.index t (0 : Fin 2) * 1 + 1 * k.val = k.val; omega
    | ⟨1, _⟩ => show win0_5.index t (1 : Fin 2) * 1024 + 1 * f.val = f.val; omega
  refine (congrArg _ e).trans ?_
  pointwise

theorem blk_6 (t : Fin cfg0.N) (k : Fin 1) (f : Fin 1024) : iblk m c 6 t (ix2 k f) = shift m c (ix2 0 f) := by
  unfold iblk
  rw [View.read_apply]
  show V m c main_v12 _ = _
  rw [V_v12]
  obtain ⟨e0, e1⟩ := idx_6 t
  have e : ((cfg0.win 6).blk t).view.emb (ix2 k f) = ix2 k f := by
    funext a; apply Fin.ext
    match a with
    | ⟨0, _⟩ => show win0_6.index t (0 : Fin 2) * 1 + 1 * k.val = k.val; omega
    | ⟨1, _⟩ => show win0_6.index t (1 : Fin 2) * 1024 + 1 * f.val = f.val; omega
  refine (congrArg _ e).trans ?_
  pointwise

/-! ## The two arrays after the launch -/

/-- The result, every row: the f32 array of the six arguments. -/
def whole (x : FVec Ideal S17408x1024 .f32) (wg wu : FVec Ideal S1x1024x2816 .f32) (wd : FVec Ideal S1x2816x1024 .f32) (g b : FVec Ideal S2x1024 .f32) :
    FVec Ideal S17408x1024 .f32 := fun y =>
  row (fun k => x (ix2 (y 0) k)) (fun k => x (ix2 (y 0) k)) (fun k f => wg (ix3 0 k f)) (fun k f => wu (ix3 0 k f)) (fun f j => wd (ix3 0 f j))
    (fun q => g (ix2 0 q)) (fun q => b (ix2 0 q)) (y 1)

theorem block_at (t : Fin cfg0.N) (r : Fin 512) (q : Fin 1024) :
    block (iblk m c 0 t) (iblk m c 1 t) (iblk m c 2 t) (iblk m c 3 t) (iblk m c 4 t) (iblk m c 5 t) (iblk m c 6 t) (ix2 r q)
      = whole (inp m c) (gate m c) (up m c) (down m c) (scale m c) (shift m c) (ix2 ⟨t.val * 512 + r.val, by have := points t; omega⟩ q) := by
  show row (fun k => iblk m c 0 t (ix2 r k)) (fun k => iblk m c 1 t (ix2 r k)) (fun k f => iblk m c 2 t (ix2 k f)) (fun k f => iblk m c 3 t (ix2 k f))
    (fun f j => iblk m c 4 t (ix2 f j)) (fun q => iblk m c 5 t (ix2 0 q)) (fun q => iblk m c 6 t (ix2 0 q)) q = _
  simp only [blk_0, blk_1, blk_2, blk_3, blk_4, blk_5, blk_6]
  rfl

theorem cells (t : Fin cfg0.N) (r : Fin 512) (q : Fin 1024) :
    ((cfg0.win 7).blk t).view.emb (ix2 r q) = ix2 ⟨t.val * 512 + r.val, by have := points t; omega⟩ q := by
  obtain ⟨e0, e1⟩ := idx_7 t
  funext a; apply Fin.ext
  match a with
  | ⟨0, _⟩ => show win0_7.index t (0 : Fin 2) * 512 + 1 * r.val = t.val * 512 + r.val; omega
  | ⟨1, _⟩ => show win0_7.index t (1 : Fin 2) * 1024 + 1 * q.val = q.val; omega

theorem rows_7 (t : Fin cfg0.N) (r : Fin 512) (q : Fin 1024) :
    (dats m 0 c).arrAt 7 cfg0.N (ix2 ⟨t.val * 512 + r.val, by have := points t; omega⟩ q)
      = whole (inp m c) (gate m c) (up m c) (down m c) (scale m c) (shift m c) (ix2 ⟨t.val * 512 + r.val, by have := points t; omega⟩ q) := by
  have hb := (blocks7 m c t (flush0_7 t)).trans (flushed7 m c t)
  refine (congrArg ((dats m 0 c).arrAt 7 cfg0.N) (cells t r q).symm).trans ?_
  refine Eq.trans ?_ ((congrFun hb (ix2 r q)).trans ((out_7 _ _ _ _ _ _ _ _).trans (block_at m c t r q)))
  generalize (dats m 0 c).arrAt 7 cfg0.N = A
  rfl

theorem rows_8 (t : Fin cfg0.N) (r : Fin 512) (q : Fin 1024) :
    (dats m 0 c).arrAt 8 cfg0.N (ix2 ⟨t.val * 512 + r.val, by have := points t; omega⟩ q)
      = whole (inp m c) (gate m c) (up m c) (down m c) (scale m c) (shift m c) (ix2 ⟨t.val * 512 + r.val, by have := points t; omega⟩ q) := by
  have hb := (blocks8 m c t (flush0_8 t)).trans (flushed8 m c t)
  refine (congrArg ((dats m 0 c).arrAt 8 cfg0.N) (cells t r q).symm).trans ?_
  refine Eq.trans ?_ ((congrFun hb (ix2 r q)).trans ((out_8 _ _ _ _ _ _ _ _).trans (block_at m c t r q)))
  generalize (dats m 0 c).arrAt 8 cfg0.N = A
  rfl

/-- Every index of the arrays is a row of a point's block. -/
theorem at_point (y : S17408x1024.Idx) : ∃ (t : Fin cfg0.N) (r : Fin 512) (q : Fin 1024), y = ix2 ⟨t.val * 512 + r.val, by have := points t; omega⟩ q := by
  have h0 : (y 0).val < 17408 := (y 0).isLt
  refine ⟨⟨(y 0).val / 512, by rw [show cfg0.N = 34 from N_0]; omega⟩, ⟨(y 0).val % 512, by omega⟩, y 1, ?_⟩
  refine (eq_ix2 y).trans ?_
  congr 1; apply Fin.ext
  show (y 0).val = (y 0).val / 512 * 512 + (y 0).val % 512; omega

theorem final_7 : (dats m 0 c).arrAt 7 cfg0.N = whole (inp m c) (gate m c) (up m c) (down m c) (scale m c) (shift m c) := by
  funext (y : S17408x1024.Idx)
  obtain ⟨t, r, q, rfl⟩ := at_point y
  exact rows_7 m c t r q

theorem final_8 : (dats m 0 c).arrAt 8 cfg0.N
    = (truncf .bf16 (whole (inp m c) (gate m c) (up m c) (down m c) (scale m c) (shift m c)) bitsLt_bf16_f32 : FVec Ideal S17408x1024 .bf16) := by
  funext (y : S17408x1024.Idx)
  obtain ⟨t, r, q, rfl⟩ := at_point y
  exact rows_8 m c t r q

end Blocks

/-! ## The reference -/

section Reference

open Cert.Reference5Ideal Cert.Reference5Ideal.Gen Cert.Reference5Ideal.Value

theorem ref_eq (m' : (ℓ : Loc nD τ sig) → Buf (Elt Ideal) ℓ) (c : Dev nD) (x : FVec Ideal S17408x1024 .f32) (wg wu : FVec Ideal S1x1024x2816 .f32)
    (wd : FVec Ideal S1x2816x1024 .f32) (g b : FVec Ideal S2x1024 .f32)
    (h0 : m' ((c.tc : Thread nD τ).loc main_arg0) = x) (h1 : m' ((c.tc : Thread nD τ).loc main_arg1) = wg) (h2 : m' ((c.tc : Thread nD τ).loc main_arg2) = wu)
    (h3 : m' ((c.tc : Thread nD τ).loc main_arg3) = wd) (h4 : m' ((c.tc : Thread nD τ).loc main_arg4) = g) (h5 : m' ((c.tc : Thread nD τ).loc main_arg5) = b) :
    res_main_v38 m' c = whole x wg wu wd g b := by
  unfold res_main_v38
  rw [h0, h1, h2, h3, h4, h5]
  clean_types
  funext (y : S17408x1024.Idx)
  obtain ⟨r, q, rfl⟩ : ∃ (r : Fin 17408) (q : Fin 1024), y = ix2 r q := ⟨y 0, y 1, eq_ix2 y⟩
  pointwise
  rfl

theorem ref_copy (m' : (ℓ : Loc nD τ sig) → Buf (Elt Ideal) ℓ) (c : Dev nD) (w : FVec Ideal S17408x1024 .f32) (h : res_main_v38 m' c = w) :
    res_main_v39 m' c = (truncf .bf16 w bitsLt_bf16_f32 : FVec Ideal S17408x1024 .bf16) := by
  subst h
  unfold res_main_v39 res_main_v38
  rfl

end Reference

end Cert.Ffn

end
-- ==== Proof.SsdMath.lean ====
/- The values of the sample scan's payloads at an index. -/
module

public import proofs.«01_k».proof.Proof.Gen.Kernel6Ideal.Skeleton
public import Idealize.ShloMosaic.Lib.StableHlo.Run
public import Idealize.ShloMosaic.Lib.Tactic
public import Idealize.ShloMosaic.Lib.Pointwise
public import Idealize.ShloMosaic.Lib.Tactic.CleanTypes

@[expose] public section

noncomputable section

open Idealize.ShloMosaic Idealize.ShloMosaic.TcCoe Idealize.SL.Sem

namespace Cert.Ssd

open Cert.Kernel6Ideal Cert.Kernel6Ideal.Gen

/-- Row (or lane) `k` belongs to sequence `k / 8` of its block. -/
def seqs {F : FTy → Type} [FloatOps F] : IVec S128x1 32 :=
  k0_pay61 (iota .tc S128x1 32 [0] iota_S128x1_d0_w32) 8#32 k0_pay59 k0_pay60

theorem seqs_at (r : Fin 128) : seqs (F := Ideal) (ix2 r 0) = BitVec.ofNat 32 (r.val / 8) := by
  pointwise [seqs, k0_pay61, k0_pay59, k0_pay60]
  revert r; decide +kernel

theorem lanes_at (r : Fin 128) : k0_pay62 (ix2 0 r) = BitVec.ofNat 32 (r.val / 8) := by
  pointwise [k0_pay62]
  revert r; decide +kernel

theorem eq_seq : ∀ (r : Fin 128) (σ : Fin 16), IntOp.cmpi .eq (BitVec.ofNat 32 (r.val / 8)) (BitVec.ofNat 32 σ.val) = if r.val / 8 = σ.val then 1#1 else 0#1 := by
  decide +kernel

variable {F : FTy → Type} [FloatOps F]

/-- The product of a group's rows `w` with the rows of `b` that sequence `σ` owns. -/
def masked (σ : BitVec 32) (b : Vec F S128x128 .f32) (w : Vec F S512x128 .bf16) : FVec F S512x128 .f32 :=
  matmul dot_S512x128_S128x128_S512x128_1_0_0_1_n_n none w
    (truncf .bf16 (select (broadcastTo S128x128 (shapeCast S128x1 (cmpi .eq (seqs (F := F)) (broadcast S128x1 σ)) shapeCasts_S128x1_S128x1) broadcasts_S128x1_S128x128)
      b (broadcast S128x128 (Scalar.ofBits .f32 0x00000000#32 : F .f32))) bitsLt_bf16_f32)
    (constant S512x128 .f32 0x00000000#32)

/-- What the state is scaled by: the lanes of `ea` that `σ` owns, averaged, spread over the heads by `et`. -/
def decay (σ : BitVec 32) (ea : Vec F S128x128 .f32) (et : Vec F S2048x128 .bf16) : FVec F S2048x128 .f32 :=
  addf (addf (k0_pay80 (F := F)) (k0_pay79 k0_pay62 ea (k0_pay63 et) σ))
    (extractStridedSlice S2048x128 ![0, 0] (k0_pay78 k0_pay62 ea (k0_pay63 et) σ) slices_S2048x256_o0_0_S2048x128)

theorem masked_at (σ : Fin 16) (b : Vec Ideal S128x128 .f32) (w : Vec Ideal S512x128 .bf16) (p : Fin 512) (n : Fin 128) :
    masked (F := Ideal) (BitVec.ofNat 32 σ.val) b w (ix2 p n)
      = ∑ r : Fin 128, (w (ix2 p r) : EReal) * (if r.val / 8 = σ.val then (b (ix2 r n) : EReal) else 0) := by
  pointwise [masked]
  refine Finset.sum_congr rfl fun r _ => ?_
  rw [seqs_at, eq_seq]
  by_cases h : r.val / 8 = σ.val
  · rw [if_pos h, if_pos h]; rfl
  · rw [if_neg h, if_neg h]; exact (mul_zero _).symm

/-- The mean of the lanes of row `l` that `σ` owns: their sum over eight. -/
def mean (σ : Fin 16) (ea : Vec Ideal S128x128 .f32) (l : Fin 128) : EReal :=
  (∑ j : Fin 128, if j.val / 8 = σ.val then (ea (ix2 l j) : EReal) else 0) * Ideal.ofBits .f32 0x3E000000#32

/-- The means of all rows, one per row, along the lanes. -/
def means (σ : BitVec 32) (ea : Vec F S128x128 .f32) : FVec F S128x128 .f32 :=
  broadcastTo S128x128 (shapeCast S128x1 (mulf (shapeCast S128x1
    (multiReduction .add [1] S128 (select (broadcastTo S128x128 (shapeCast S1x128 (cmpi .eq k0_pay62 (broadcast S1x128 σ)) shapeCasts_S1x128_S1x128) broadcasts_S1x128_S128x128)
      ea (broadcast S128x128 (Scalar.ofBits .f32 0x00000000#32 : F .f32))) 0x00000000#32 reduces_S128x128_S128 (.inl rfl) rfl) shapeCasts_S128_S128x1)
    (broadcast S128x1 (Scalar.ofBits .f32 0x3E000000#32 : F .f32))) shapeCasts_S128x1_S128x1) broadcasts_S128x1_S128x128

/-- The product with a value and with what its cast leaves over, side by side. -/
def halves (u : FVec F S128x128 .f32) (et : FVec F S2048x128 .bf16) : FVec F S2048x256 .f32 :=
  matmul dot_S2048x128_S128x256_S2048x256_1_0_0_1_n_n none et
    (concatenate S128x256 1 [⟨S128x128, truncf .bf16 u bitsLt_bf16_f32⟩,
      ⟨S128x128, truncf .bf16 (subf u (extf .f32 (truncf .bf16 u bitsLt_bf16_f32) bitsLt_bf16_f32)) bitsLt_bf16_f32⟩] concatenates_S128x128_S128x128_S128x256_d1)
    (constant S2048x256 .f32 0x00000000#32)

theorem spread_eq (σ : BitVec 32) (ea : Vec F S128x128 .f32) (et : FVec F S2048x128 .bf16) :
    k0_pay78 k0_pay62 ea et σ = halves (means σ ea) et := rfl

theorem means_at (σ : Fin 16) (ea : Vec Ideal S128x128 .f32) (l n : Fin 128) :
    means (F := Ideal) (BitVec.ofNat 32 σ.val) ea (ix2 l n) = mean σ ea l := by
  pointwise [means]
  unfold mean
  refine congrArg (· * _) (Finset.sum_congr rfl fun j _ => ?_)
  rw [lanes_at, eq_seq]
  by_cases h : j.val / 8 = σ.val
  · rw [if_pos h, if_pos h]; rfl
  · rw [if_neg h, if_neg h]; rfl

theorem high_at (u : FVec Ideal S128x128 .f32) (et : FVec Ideal S2048x128 .bf16) (p : Fin 2048) (n : Fin 128) :
    halves u et (ix2 p ⟨n.val, by omega⟩) = ∑ l : Fin 128, (et (ix2 p l) : EReal) * u (ix2 l n) := by
  pointwise [halves]

theorem low_at (u : FVec Ideal S128x128 .f32) (et : FVec Ideal S2048x128 .bf16) (p : Fin 2048) (n : Fin 128) :
    halves u et (ix2 p ⟨128 + n.val, by omega⟩) = ∑ l : Fin 128, (et (ix2 p l) : EReal) * ((u (ix2 l n) : EReal) - u (ix2 l n)) := by
  pointwise [halves]

theorem decay_at (σ : Fin 16) (ea : Vec Ideal S128x128 .f32) (et : Vec Ideal S2048x128 .bf16) (p : Fin 2048) (n : Fin 128) :
    decay (F := Ideal) (BitVec.ofNat 32 σ.val) ea et (ix2 p n)
      = (∑ l : Fin 128, (et (ix2 p l) : EReal) * (mean σ ea l - mean σ ea l)) + ∑ l : Fin 128, (et (ix2 p l) : EReal) * mean σ ea l := by
  unfold decay k0_pay79
  rw [spread_eq]
  generalize hu : means (F := Ideal) (BitVec.ofNat 32 σ.val) ea = u
  have hu' : ∀ l n, u (ix2 l n) = mean σ ea l := fun l n => by rw [← hu]; exact means_at σ ea l n
  pointwise [k0_pay80, k0_pay63]
  rw [low_at, high_at]
  simp only [hu']

/-- A tap of the convolution: row `ρ` of the shifts, on the block's rows, the rows before and what their cast leaves over. -/
def tap (x0 : Vec Ideal S128x3072 .bf16) (x1 : Vec Ideal S128x3072 .f32) (x8 : Vec Ideal S384x384 .bf16) (ρ : Fin 384) (k : Fin 3072) : EReal :=
  ∑ x : Fin 384, (x8 (ix2 ρ x) : EReal)
    * (if h : x.val < 128 then (x0 (ix2 ⟨x.val, h⟩ k) : EReal)
       else if h' : x.val - 128 < 128 then x1 (ix2 ⟨x.val - 128, h'⟩ k)
       else (x1 (ix2 ⟨x.val - 128 - 128, by omega⟩ k) : EReal) - x1 (ix2 ⟨x.val - 128 - 128, by omega⟩ k))

/-- The decay's exponent at a row and head: the step times the negated exponential, nought off the heads. -/
def adt (dt : Vec Ideal S128x128 .f32) (al : Vec Ideal S1x128 .f32) (k l : Fin 128) : EReal :=
  (dt (ix2 k l) : EReal) * (if l.val < 32 then 0 - Ideal.exp (al (ix2 0 l)) else 0)

theorem conv_at (x0 : Vec Ideal S128x3072 .bf16) (x1 : Vec Ideal S128x3072 .f32) (x8 : Vec Ideal S384x384 .bf16)
    (x6 : Vec Ideal S4x3072 .f32) (x7 : Vec Ideal S1x3072 .f32) (r : Fin 128) (k : Fin 3072) (c : EReal)
    (hc : ((x7 (ix2 0 k) : EReal) + x0 (ix2 r k) * x6 (ix2 3 k)) + tap x0 x1 x8 ⟨r.val, by omega⟩ k * x6 (ix2 2 k)
      + tap x0 x1 x8 ⟨128 + r.val, by omega⟩ k * x6 (ix2 1 k) + tap x0 x1 x8 ⟨256 + r.val, by omega⟩ k * x6 (ix2 0 k) = c) :
    k0_pay1 x0 x1 x8 x6 x7 (ix2 r k) = c * Ideal.div 1 (1 + Ideal.exp (0 - c)) := by
  rw [← hc]
  pointwise [k0_pay1]
  rfl

/-- The exponents as the kernel multiplies them out. -/
def exponents (dt : Vec F S128x128 .f32) (al : Vec F S1x128 .f32) : FVec F S128x128 .f32 :=
  mulf dt (broadcastTo S128x128 (select (cmpi .slt (iota .tc S1x128 32 [1] iota_S1x128_d1_w32) (broadcast S1x128 32#32))
    (subf (broadcast S1x128 (Scalar.ofBits .f32 0x00000000#32 : F .f32)) (exp (shapeCast S1x128 al shapeCasts_S1x128_S1x128)))
    (broadcast S1x128 (Scalar.ofBits .f32 0x00000000#32 : F .f32))) broadcasts_S1x128_S128x128)

/-- The two triangles' products with `a` in three parts: what a cast keeps, what it leaves, and what is left of that. -/
def thirds (lm bl : Vec F S128x128 .bf16) (a : FVec F S128x128 .f32) : FVec F S256x128 .f32 :=
  have p := matmul dot_S256x128_S128x384_S256x384_1_0_0_1_n_n none
    (concatenate S256x128 0 [⟨S128x128, k0_pay2 lm⟩, ⟨S128x128, shapeCast S128x128 bl shapeCasts_S128x128_S128x128⟩] concatenates_S128x128_S128x128_S256x128_d0)
    (concatenate S128x384 1 [⟨S128x128, truncf .bf16 a bitsLt_bf16_f32⟩,
      ⟨S128x128, truncf .bf16 (subf a (extf .f32 (truncf .bf16 a bitsLt_bf16_f32) bitsLt_bf16_f32)) bitsLt_bf16_f32⟩,
      ⟨S128x128, truncf .bf16 (subf (subf a (extf .f32 (truncf .bf16 a bitsLt_bf16_f32) bitsLt_bf16_f32))
        (extf .f32 (truncf .bf16 (subf a (extf .f32 (truncf .bf16 a bitsLt_bf16_f32) bitsLt_bf16_f32)) bitsLt_bf16_f32) bitsLt_bf16_f32)) bitsLt_bf16_f32⟩]
      concatenates_S128x128_S128x128_S128x128_S128x384_d1)
    (constant S256x384 .f32 0x00000000#32)
  addf (addf (addf (broadcast S256x128 (Scalar.ofBits .f32 0x00000000#32 : F .f32)) (extractStridedSlice S256x128 ![0, 128] p slices_S256x384_o0_128_S256x128))
    (extractStridedSlice S256x128 ![0, 256] p slices_S256x384_o0_256_S256x128))
    (extractStridedSlice S256x128 ![0, 0] p slices_S256x384_o0_0_S256x128)

theorem thirds_eq (dt : Vec F S128x128 .f32) (al : Vec F S1x128 .f32) (lm bl : Vec F S128x128 .bf16) :
    k0_pay8 dt al lm bl = thirds lm bl (exponents dt al) := rfl

theorem lt_heads : ∀ l : Fin 128, IntOp.cmpi .slt (BitVec.ofNat 32 l.val) 32#32 = if l.val < 32 then 1#1 else 0#1 := by
  decide +kernel

theorem exponents_at (dt : Vec Ideal S128x128 .f32) (al : Vec Ideal S1x128 .f32) (k l : Fin 128) :
    exponents dt al (ix2 k l) = adt dt al k l := by
  pointwise [exponents]
  rw [lt_heads]
  unfold adt
  by_cases h : l.val < 32
  · rw [if_pos h, if_pos h]; rfl
  · rw [if_neg h, if_neg h, mul_zero]; rfl

theorem thirds_at (lm bl : Vec Ideal S128x128 .bf16) (a : FVec Ideal S128x128 .f32) (r : Fin 256) (l : Fin 128)
    (h : ∀ k, (a (ix2 k l) : EReal) - a (ix2 k l) = 0) :
    thirds lm bl a (ix2 r l)
      = ∑ k, (if h : r.val < 128 then (lm (ix2 ⟨r.val, h⟩ k) : EReal) else bl (ix2 ⟨r.val - 128, by omega⟩ k)) * a (ix2 k l) := by
  pointwise [thirds, k0_pay2]
  have n1 : ¬ 256 + l.val < 128 := by omega
  have n2 : ¬ 256 + l.val - 128 < 128 := by omega
  have e : (⟨256 + l.val - 128 - 128, by omega⟩ : Fin 128) = l := Fin.ext (show 256 + l.val - 128 - 128 = l.val by omega)
  simp only [n1, n2, ↓reduceDIte, e, h, sub_zero, mul_zero, Finset.sum_const_zero, zero_add]

theorem sums_at (dt : Vec Ideal S128x128 .f32) (al : Vec Ideal S1x128 .f32) (lm bl : Vec Ideal S128x128 .bf16) (r l : Fin 128)
    (h : ∀ k, adt dt al k l - adt dt al k l = 0) :
    k0_pay9 dt al lm bl (ix2 r l) = ∑ k, (lm (ix2 r k) : EReal) * adt dt al k l := by
  unfold k0_pay9
  rw [thirds_eq]
  have h3 := thirds_at lm bl (exponents dt al) ⟨r.val, by omega⟩ l (by simpa only [exponents_at] using h)
  simp only [exponents_at, dif_pos r.isLt] at h3
  rw [← h3]
  generalize thirds lm bl (exponents dt al) = A
  pointwise

theorem totals_at (dt : Vec Ideal S128x128 .f32) (al : Vec Ideal S1x128 .f32) (lm bl : Vec Ideal S128x128 .bf16) (r l : Fin 128)
    (h : ∀ k, adt dt al k l - adt dt al k l = 0) :
    k0_pay10 dt al lm bl (ix2 r l) = ∑ k, (bl (ix2 r k) : EReal) * adt dt al k l := by
  unfold k0_pay10
  rw [thirds_eq]
  have h3 := thirds_at lm bl (exponents dt al) ⟨128 + r.val, by omega⟩ l (by simpa only [exponents_at] using h)
  have hr : ¬ 128 + r.val < 128 := by omega
  simp only [exponents_at, dif_neg hr, Nat.add_sub_cancel_left] at h3
  rw [← h3]
  generalize thirds lm bl (exponents dt al) = A
  pointwise

/-- The product with the spread of the three rows, each with what its cast leaves over. -/
def sixths (em : FVec F S128x2048 .bf16) (d e f : FVec F S128x128 .f32) : FVec F S768x2048 .f32 :=
  matmul dot_S768x128_S128x2048_S768x2048_1_0_0_1_n_n none
    (concatenate S768x128 0 [⟨S128x128, truncf .bf16 d bitsLt_bf16_f32⟩,
      ⟨S128x128, truncf .bf16 (subf d (extf .f32 (truncf .bf16 d bitsLt_bf16_f32) bitsLt_bf16_f32)) bitsLt_bf16_f32⟩,
      ⟨S128x128, truncf .bf16 e bitsLt_bf16_f32⟩,
      ⟨S128x128, truncf .bf16 (subf e (extf .f32 (truncf .bf16 e bitsLt_bf16_f32) bitsLt_bf16_f32)) bitsLt_bf16_f32⟩,
      ⟨S128x128, truncf .bf16 f bitsLt_bf16_f32⟩,
      ⟨S128x128, truncf .bf16 (subf f (extf .f32 (truncf .bf16 f bitsLt_bf16_f32) bitsLt_bf16_f32)) bitsLt_bf16_f32⟩]
      concatenates_S128x128_S128x128_S128x128_S128x128_S128x128_S128x128_S768x128_d0) em
    (constant S768x2048 .f32 0x00000000#32)

theorem sixths_eq (dt : Vec F S128x128 .f32) (em : FVec F S128x2048 .bf16) (s t : FVec F S128x128 .f32) :
    k0_pay13 dt em s t = sixths em dt (exp s) (exp (subf t s)) := rfl

/-- A row spread over the heads by `em`. -/
def spread (em : FVec Ideal S128x2048 .bf16) (d : Fin 128 → EReal) (p : Fin 2048) : EReal := ∑ l : Fin 128, d l * (em (ix2 l p) : EReal)

theorem weights_at (dt : Vec Ideal S128x128 .f32) (em : FVec Ideal S128x2048 .bf16) (x : FVec Ideal S128x2048 .f32) (s t : FVec Ideal S128x128 .f32)
    (r : Fin 128) (p : Fin 2048) :
    k0_pay16 dt em x s t (ix2 p r)
      = (x (ix2 r p) * (spread em (fun l => dt (ix2 r l)) p + spread em (fun l => (dt (ix2 r l) : EReal) - dt (ix2 r l)) p))
        * (spread em (fun l => Ideal.exp ((t (ix2 r l) : EReal) - s (ix2 r l))) p
          + spread em (fun l => Ideal.exp ((t (ix2 r l) : EReal) - s (ix2 r l)) - Ideal.exp ((t (ix2 r l) : EReal) - s (ix2 r l))) p) := by
  unfold k0_pay16 k0_pay15
  rw [sixths_eq]
  pointwise [sixths, spread]
  have n1 : ¬ 512 + r.val < 128 := by omega
  have n2 : ¬ 512 + r.val - 128 < 128 := by omega
  have n3 : ¬ 512 + r.val - 128 - 128 < 128 := by omega
  have n4 : ¬ 512 + r.val - 128 - 128 - 128 < 128 := by omega
  have n5 : 512 + r.val - 128 - 128 - 128 - 128 < 128 := by omega
  have n6 : ¬ 640 + r.val < 128 := by omega
  have n7 : ¬ 640 + r.val - 128 < 128 := by omega
  have n8 : ¬ 640 + r.val - 128 - 128 < 128 := by omega
  have n9 : ¬ 640 + r.val - 128 - 128 - 128 < 128 := by omega
  have n10 : ¬ 640 + r.val - 128 - 128 - 128 - 128 < 128 := by omega
  have e : (⟨512 + r.val - 128 - 128 - 128 - 128, by omega⟩ : Fin 128) = r := Fin.ext (show 512 + r.val - 128 - 128 - 128 - 128 = r.val by omega)
  have e' : (⟨640 + r.val - 128 - 128 - 128 - 128 - 128, by omega⟩ : Fin 128) = r :=
    Fin.ext (show 640 + r.val - 128 - 128 - 128 - 128 - 128 = r.val by omega)
  simp only [n1, n2, n3, n4, n5, n6, n7, n8, n9, n10, ↓reduceDIte, e, e']

end Cert.Ssd

end
-- ==== Proof.SsdRun.lean ====
/- What the sample scan's points leave in its buffers. -/
module

public import proofs.«01_k».proof.Proof.SsdMath
public import proofs.«01_k».proof.Proof.Gen.Kernel6Ideal.Value

@[expose] public section

noncomputable section

open Idealize.ShloMosaic Idealize.ShloMosaic.TcCoe Idealize.SL.Sem

namespace Cert.Ssd

open Cert.Kernel6Ideal Cert.Kernel6Ideal.Gen Cert.Kernel6Ideal.Value

variable {F : FTy → Type} [FloatOps F] (m : (ℓ : Loc nD τ sig) → Buf (Elt F) ℓ)

theorem zero2 : (![0, 0] : Fin 2 → Nat) = fun _ => 0 := funext fun a => by fin_cases a <;> rfl

/-- The lanes of group `g`. -/
def lanesOf (b : Vec F S128x512 .f32) (g : ℕ) (h : ∀ a, (![0, g * 128] : Fin 2 → Nat) a + S128x128.size a ≤ S128x512.size a) : Vec F S128x128 .f32 :=
  View.ld b (Rect.unit ![0, g * 128] S128x128.size h)

/-- The rows of group `g`. -/
def rowsOf (w : Vec F S2048x128 .bf16) (g : ℕ) (h : ∀ a, (![g * 512, 0] : Fin 2 → Nat) a + S512x128.size a ≤ S2048x128.size a) : Vec F S512x128 .bf16 :=
  View.ld w (Rect.unit ![g * 512, 0] S512x128.size h)

/-- The state a sequence ends in: the one it came in with scaled, and what its rows put in, group by group. -/
def step (σ : BitVec 32) (st : Vec F S1x1x2048x128 .f32) (b : Vec F S128x512 .f32) (w : Vec F S2048x128 .bf16) (ea : Vec F S128x128 .f32) (et : Vec F S2048x128 .bf16) :
    FVec F S2048x128 .f32 :=
  addf (mulf (decay σ ea et) (k0_pay65 st))
    (concatenate S2048x128 0 [⟨S512x128, masked σ (lanesOf b 0 (by decide)) (rowsOf w 0 (by decide))⟩, ⟨S512x128, masked σ (lanesOf b 1 (by decide)) (rowsOf w 1 (by decide))⟩,
      ⟨S512x128, masked σ (lanesOf b 2 (by decide)) (rowsOf w 2 (by decide))⟩, ⟨S512x128, masked σ (lanesOf b 3 (by decide)) (rowsOf w 3 (by decide))⟩]
      concatenates_S512x128_S512x128_S512x128_S512x128_S2048x128_d0)

/-- The sequence a point's `s`-th slot holds. -/
def seqOf (i : grid0.Coords) (s : Fin 4) : BitVec 32 := Scalar.addi (Scalar.muli (BitVec.ofNat 32 (i 1).val) 4#32) (BitVec.ofNat 32 s.val)

/-- The state the `s`-th slot came in with. -/
def stateOf (x : Vec F S1x4x2048x128 .f32) (s : Fin 4) : Vec F S1x1x2048x128 .f32 :=
  View.ld x (Rect.unit ![0, s.val, 0, 0] S1x1x2048x128.size (by revert s; decide))

/-- The stores of a point's states, two of each. -/
def stores (s : Fin 4 → FVec F S2048x128 .f32) : List (View.Piece (Elt F) S2x4x2048x128 .f32) :=
  [⟨Rect.unit ![1, 3, 0, 0] S1x1x2048x128.size inb_S2x4x2048x128_S1x1x2048x128_1_3_0_0, shapeCast S1x1x2048x128 (s 3) shapeCasts_S2048x128_S1x1x2048x128⟩,
    ⟨Rect.unit ![0, 3, 0, 0] S1x1x2048x128.size inb_S2x4x2048x128_S1x1x2048x128_0_3_0_0, shapeCast S1x1x2048x128 (s 3) shapeCasts_S2048x128_S1x1x2048x128⟩,
    ⟨Rect.unit ![1, 2, 0, 0] S1x1x2048x128.size inb_S2x4x2048x128_S1x1x2048x128_1_2_0_0, shapeCast S1x1x2048x128 (s 2) shapeCasts_S2048x128_S1x1x2048x128⟩,
    ⟨Rect.unit ![0, 2, 0, 0] S1x1x2048x128.size inb_S2x4x2048x128_S1x1x2048x128_0_2_0_0, shapeCast S1x1x2048x128 (s 2) shapeCasts_S2048x128_S1x1x2048x128⟩,
    ⟨Rect.unit ![1, 1, 0, 0] S1x1x2048x128.size inb_S2x4x2048x128_S1x1x2048x128_1_1_0_0, shapeCast S1x1x2048x128 (s 1) shapeCasts_S2048x128_S1x1x2048x128⟩,
    ⟨Rect.unit ![0, 1, 0, 0] S1x1x2048x128.size inb_S2x4x2048x128_S1x1x2048x128_0_1_0_0, shapeCast S1x1x2048x128 (s 1) shapeCasts_S2048x128_S1x1x2048x128⟩,
    ⟨Rect.unit ![1, 0, 0, 0] S1x1x2048x128.size inb_S2x4x2048x128_S1x1x2048x128_1_0_0_0, shapeCast S1x1x2048x128 (s 0) shapeCasts_S2048x128_S1x1x2048x128⟩,
    ⟨Rect.unit ![0, 0, 0, 0] S1x1x2048x128.size inb_S2x4x2048x128_S1x1x2048x128_0_0_0_0, shapeCast S1x1x2048x128 (s 0) shapeCasts_S2048x128_S1x1x2048x128⟩]

theorem emb_at (d : Fin 2) (s : Fin 4) (h) (x : S1x1x2048x128.Idx) :
    (Rect.unit (s := S2x4x2048x128) ![d.val, s.val, 0, 0] S1x1x2048x128.size h).emb x = ix4 d s (x 2) (x 3) := by
  funext a; apply Fin.ext
  match a with
  | ⟨0, _⟩ => show d.val + 1 * (x 0).val = d.val; have : (x 0).val < 1 := (x 0).isLt; omega
  | ⟨1, _⟩ => show s.val + 1 * (x 1).val = s.val; have : (x 1).val < 1 := (x 1).isLt; omega
  | ⟨2, _⟩ => show 0 + 1 * (x 2).val = (x 2).val; omega
  | ⟨3, _⟩ => show 0 + 1 * (x 3).val = (x 3).val; omega

theorem cast_at (v : FVec Ideal S2048x128 .f32) (x : S1x1x2048x128.Idx) :
    (shapeCast S1x1x2048x128 v shapeCasts_S2048x128_S1x1x2048x128 : FVec Ideal S1x1x2048x128 .f32) x = v (ix2 (x 2) (x 3)) := by
  refine (congrArg _ (eq_ix4 x)).trans ?_
  generalize x 0 = a, x 1 = b, x 2 = p, x 3 = q
  change Fin 1 at a; change Fin 1 at b; change Fin 2048 at p; change Fin 128 at q
  pointwise

theorem stores_at (s : Fin 4 → FVec Ideal S2048x128 .f32) (d : Fin 2) (k : Fin 4) (p : Fin 2048) (n : Fin 128) :
    View.canon (stores s) (ix4 d k p n) = s k (ix2 p n) := by
  refine View.canon_apply_of_pieces (fun y => s (y 1) (ix2 (y 2) (y 3))) (stores s) ?_ _ ?_
  · intro q hq x
    simp only [stores, List.mem_cons, List.not_mem_nil, or_false] at hq
    rcases hq with rfl | rfl | rfl | rfl | rfl | rfl | rfl | rfl
    · exact (cast_at _ x).trans (congrArg (fun y : S2x4x2048x128.Idx => s (y 1) (ix2 (y 2) (y 3))) (emb_at 1 3 inb_S2x4x2048x128_S1x1x2048x128_1_3_0_0 x)).symm
    · exact (cast_at _ x).trans (congrArg (fun y : S2x4x2048x128.Idx => s (y 1) (ix2 (y 2) (y 3))) (emb_at 0 3 inb_S2x4x2048x128_S1x1x2048x128_0_3_0_0 x)).symm
    · exact (cast_at _ x).trans (congrArg (fun y : S2x4x2048x128.Idx => s (y 1) (ix2 (y 2) (y 3))) (emb_at 1 2 inb_S2x4x2048x128_S1x1x2048x128_1_2_0_0 x)).symm
    · exact (cast_at _ x).trans (congrArg (fun y : S2x4x2048x128.Idx => s (y 1) (ix2 (y 2) (y 3))) (emb_at 0 2 inb_S2x4x2048x128_S1x1x2048x128_0_2_0_0 x)).symm
    · exact (cast_at _ x).trans (congrArg (fun y : S2x4x2048x128.Idx => s (y 1) (ix2 (y 2) (y 3))) (emb_at 1 1 inb_S2x4x2048x128_S1x1x2048x128_1_1_0_0 x)).symm
    · exact (cast_at _ x).trans (congrArg (fun y : S2x4x2048x128.Idx => s (y 1) (ix2 (y 2) (y 3))) (emb_at 0 1 inb_S2x4x2048x128_S1x1x2048x128_0_1_0_0 x)).symm
    · exact (cast_at _ x).trans (congrArg (fun y : S2x4x2048x128.Idx => s (y 1) (ix2 (y 2) (y 3))) (emb_at 1 0 inb_S2x4x2048x128_S1x1x2048x128_1_0_0_0 x)).symm
    · exact (cast_at _ x).trans (congrArg (fun y : S2x4x2048x128.Idx => s (y 1) (ix2 (y 2) (y 3))) (emb_at 0 0 inb_S2x4x2048x128_S1x1x2048x128_0_0_0_0 x)).symm
  · exact View.cover_of_tiledL (stores s) S1x1x2048x128.size (by sl_kernel_rfl) _

/-- The convolved rows a block's opening point computes. -/
def convOf (c : Dev nD) (t : Fin cfg0.N) : FVec F S128x3072 .f32 := k0_pay1 (iblk m c 0 t) (iblk m c 1 t) (iblk m c 8 t) (iblk m c 6 t) (iblk m c 7 t)

/-- What the point that opens a block leaves the others: the rows of `B`, -/
def bsOf (c : Dev nD) (t : Fin cfg0.N) : FVec F S128x512 .f32 := k0_pay54 (k0_pay6 (convOf m c t))

/-- the weighted rows of `X`, turned, -/
def wsOf (c : Dev nD) (t : Fin cfg0.N) : FVec F S2048x128 .bf16 :=
  k0_pay55 (k0_pay16 (iblk m c 2 t) (k0_pay3 (iblk m c 11 t)) (k0_pay5 (convOf m c t)) (k0_pay9 (iblk m c 2 t) (iblk m c 5 t) (iblk m c 9 t) (iblk m c 10 t))
    (k0_pay10 (iblk m c 2 t) (iblk m c 5 t) (iblk m c 9 t) (iblk m c 10 t)))

/-- and the exponentials of the totals. -/
def easOf (c : Dev nD) (t : Fin cfg0.N) : FVec F S128x128 .f32 := k0_pay56 (k0_pay10 (iblk m c 2 t) (iblk m c 5 t) (iblk m c 9 t) (iblk m c 10 t))

theorem bs_A (c : Dev nD) (t : Fin cfg0.N) (h0 : t.val % 4 = 0) : (outsAt0 m c t.val t.isLt).2.2.2.2.2.1 = bsOf m c t := by
  rw [outsAt0_A m c t h0]; dsimp only; unfold sout0_A_3
  rw [View.read_writes_junk_eq_canon]
  unfold kernelRun0_A
  dsimp only
  sl_unfold_words
  rw [View.canon_unit_zero zero2]
  simp only [View.readAt_eq_ld, (hs0_0 t).read_unread, (hs0_1 t).read_unread, (hs0_6 t).read_unread, (hs0_7 t).read_unread, (hs0_8 t).read_unread,
    View.ld_unit_zero (S := S128x3072) zero2, View.ld_unit_zero (S := S4x3072) zero2, View.ld_unit_zero (S := S1x3072) zero2, View.ld_unit_zero (S := S384x384) zero2]
  rfl

theorem ws_A (c : Dev nD) (t : Fin cfg0.N) (h0 : t.val % 4 = 0) : (outsAt0 m c t.val t.isLt).2.2.2.2.2.2.1 = wsOf m c t := by
  rw [outsAt0_A m c t h0]; dsimp only; unfold sout0_A_4
  rw [View.read_writes_junk_eq_canon]
  unfold kernelRun0_A
  dsimp only
  sl_unfold_words
  rw [View.canon_unit_zero zero2]
  simp only [View.readAt_eq_ld, (hs0_0 t).read_unread, (hs0_1 t).read_unread, (hs0_2 t).read_unread, (hs0_5 t).read_unread, (hs0_6 t).read_unread, (hs0_7 t).read_unread,
    (hs0_8 t).read_unread, (hs0_9 t).read_unread, (hs0_10 t).read_unread, (hs0_11 t).read_unread,
    View.ld_unit_zero (S := S128x3072) zero2, View.ld_unit_zero (S := S4x3072) zero2, View.ld_unit_zero (S := S1x3072) zero2, View.ld_unit_zero (S := S384x384) zero2,
    View.ld_unit_zero (S := S128x128) zero2, View.ld_unit_zero (S := S1x128) zero2, View.ld_unit_zero (S := S128x2048) zero2]
  rfl

theorem eas_A (c : Dev nD) (t : Fin cfg0.N) (h0 : t.val % 4 = 0) : (outsAt0 m c t.val t.isLt).2.2.2.2.2.2.2 = easOf m c t := by
  rw [outsAt0_A m c t h0]; dsimp only; unfold sout0_A_5
  rw [View.read_writes_junk_eq_canon]
  unfold kernelRun0_A
  dsimp only
  sl_unfold_words
  rw [View.canon_unit_zero zero2]
  simp only [View.readAt_eq_ld, (hs0_2 t).read_unread, (hs0_5 t).read_unread, (hs0_9 t).read_unread, (hs0_10 t).read_unread,
    View.ld_unit_zero (S := S128x128) zero2, View.ld_unit_zero (S := S1x128) zero2]
  rfl

/-- The states a point writes, over what its block's opening point left. -/
def states (c : Dev nD) (t : Fin cfg0.N) (b : Vec F S128x512 .f32) (w : Vec F S2048x128 .bf16) (ea : Vec F S128x128 .f32) (s : Fin 4) : FVec F S2048x128 .f32 :=
  step (seqOf (grid0.coords t) s) (stateOf (iblk m c 4 t) s) b w ea (iblk m c 12 t)

theorem st_A (c : Dev nD) (t : Fin cfg0.N) (h0 : t.val % 4 = 0) :
    (outsAt0 m c t.val t.isLt).2.1 = View.canon (stores (states m c t (bsOf m c t) (wsOf m c t) (easOf m c t))) := by
  rw [outsAt0_A m c t h0]; dsimp only; unfold out0_A_16
  rw [View.read_writes_junk_eq_canon]
  unfold kernelRun0_A
  dsimp only
  sl_unfold_words
  simp only [View.readCov_unit_zero (S := S128x128) _ zero2, View.readCov_unit_zero (S := S2048x128) _ zero2]
  simp only [View.readAt_eq_ld, View.readCov_eq_canon', View.canon_unit_zero (S := S128x512) zero2, View.canon_unit_zero (S := S2048x128) zero2, View.canon_unit_zero (S := S128x128) zero2, (hs0_0 t).read_unread, (hs0_1 t).read_unread, (hs0_2 t).read_unread, (hs0_4 t).read_unread, (hs0_5 t).read_unread, (hs0_6 t).read_unread, (hs0_7 t).read_unread,
    (hs0_8 t).read_unread, (hs0_9 t).read_unread, (hs0_10 t).read_unread, (hs0_11 t).read_unread, (hs0_12 t).read_unread,
    View.ld_unit_zero (S := S128x3072) zero2, View.ld_unit_zero (S := S4x3072) zero2, View.ld_unit_zero (S := S1x3072) zero2, View.ld_unit_zero (S := S384x384) zero2,
    View.ld_unit_zero (S := S128x128) zero2, View.ld_unit_zero (S := S1x128) zero2, View.ld_unit_zero (S := S128x2048) zero2, View.ld_unit_zero (S := S2048x128) zero2]
  unfold bsOf wsOf easOf convOf
  generalize k0_pay54 (F := F) _ = b, k0_pay55 (F := F) _ = w, k0_pay56 (F := F) _ = ea
  unfold stores states
  generalize iblk m c 4 t = x, iblk m c 12 t = y
  rfl

theorem st_B (c : Dev nD) (t : Fin cfg0.N) (h0 : ¬ t.val % 4 = 0) :
    (outsAt0 m c t.val t.isLt).2.1 = View.canon (stores (states m c t (outsAt0 m c (t.val - 1) (by omega)).2.2.2.2.2.1
      (outsAt0 m c (t.val - 1) (by omega)).2.2.2.2.2.2.1 (outsAt0 m c (t.val - 1) (by omega)).2.2.2.2.2.2.2)) := by
  rw [outsAt0_B m c t h0]; dsimp only; unfold out0_B_16
  rw [View.read_writes_junk_eq_canon]
  unfold kernelRun0_B
  dsimp only
  sl_unfold_words
  generalize outsAt0 m c (t.val - 1) _ = o
  simp only [View.readAt_eq_ld, (hs0_4 t).read_unread, (hs0_12 t).read_unread, (Memref.isWhole_whole (cc0_scratch3)).read_unread,
    (Memref.isWhole_whole (cc0_scratch4)).read_unread, (Memref.isWhole_whole (cc0_scratch5)).read_unread,
    View.ld_unit_zero (S := S128x128) zero2, View.ld_unit_zero (S := S2048x128) zero2]
  unfold stores states
  generalize iblk m c 4 t = x, iblk m c 12 t = y
  rfl

theorem kept_B (c : Dev nD) (t : Fin cfg0.N) (h0 : ¬ t.val % 4 = 0) :
    (outsAt0 m c t.val t.isLt).2.2.2.2.2 = (outsAt0 m c (t.val - 1) (by omega)).2.2.2.2.2 := by
  rw [outsAt0_B m c t h0]
  rfl

end Cert.Ssd

end
-- ==== Proof.SsdHost.lean ====
/- The arrays the host hands the sample scan, at an index. -/
module

public import proofs.«01_k».proof.Proof.SsdRun

@[expose] public section

noncomputable section

open Idealize.ShloMosaic Idealize.ShloMosaic.TcCoe Idealize.SL.Sem

namespace Cert.Ssd

open Cert.Kernel6Ideal Cert.Kernel6Ideal.Gen Cert.Kernel6Ideal.Value

def row : IVec S128x1 32 := broadcastInDim S128x1 ![0] bcast_S128_S128x1_0 (iotaInDim S128 32 0)
def col : IVec S1x384 32 := broadcastInDim S1x384 ![1] bcast_S384_S1x384_1 (iotaInDim S384 32 0)
def row1 (v : IVec S_ 32) : IVec S128x1 32 := broadcastInDim S128x1 ![] bcast_S_S128x1 v
def col1 (v : IVec S_ 32) : IVec S1x384 32 := broadcastInDim S1x384 ![] bcast_S_S1x384 v
def kept (v : BitVec 32) : IVec S_ 32 := select (cmpi .eq (constantI S_ 32 v) (constantI S_ 32 0#32)) (constantI S_ 32 1#32) (constantI S_ 32 v)

/-- `t % 8` over the rows, -/
def rem8 : IVec S128x1 32 :=
  select (andi (cmpi .ne (cmpi .slt (Host.remsi row (row1 (kept 8#32))) (row1 (constantI S_ 32 0#32))) (broadcastInDim S128x1 ![] bcast_S_S128x1 (cmpi .slt (kept 8#32) (constantI S_ 32 0#32))))
    (cmpi .ne (Host.remsi row (row1 (kept 8#32))) (row1 (constantI S_ 32 0#32)))) (addi (Host.remsi row (row1 (kept 8#32))) (row1 (kept 8#32))) (Host.remsi row (row1 (kept 8#32)))

/-- `t % 128` over the columns, -/
def rem128 : IVec S1x384 32 :=
  select (andi (cmpi .ne (cmpi .slt (Host.remsi col (col1 (kept 128#32))) (col1 (constantI S_ 32 0#32))) (broadcastInDim S1x384 ![] bcast_S_S1x384 (cmpi .slt (kept 128#32) (constantI S_ 32 0#32))))
    (cmpi .ne (Host.remsi col (col1 (kept 128#32))) (col1 (constantI S_ 32 0#32)))) (addi (Host.remsi col (col1 (kept 128#32))) (col1 (kept 128#32))) (Host.remsi col (col1 (kept 128#32)))

/-- and the mask that fetches the row `s` before each row. -/
def shiftMask (s : BitVec 32) : IVec S128x384 1 :=
  select (broadcastInDim S128x384 ![0, 1] bcast_S128x1_S128x384_0_1 (cmpi .sge rem8 (row1 (constantI S_ 32 s))))
    (cmpi .eq (broadcastInDim S128x384 ![0, 1] bcast_S1x384_S128x384_0_1 col) (broadcastInDim S128x384 ![0, 1] bcast_S128x1_S128x384_0_1 (subi row (row1 (constantI S_ 32 s)))))
    (andi (cmpi .eq (broadcastInDim S128x384 ![0, 1] bcast_S1x384_S128x384_0_1 rem128) (broadcastInDim S128x384 ![0, 1] bcast_S128x1_S128x384_0_1 (subi (addi row (row1 (constantI S_ 32 8#32))) (row1 (constantI S_ 32 s)))))
      (broadcastInDim S128x384 ![0, 1] bcast_S1x384_S128x384_0_1 (cmpi .sge col (col1 (constantI S_ 32 128#32)))))

theorem rem8_at (r : Fin 128) : rem8 (ix2 r 0) = BitVec.ofNat 32 (r.val % 8) := by
  pointwise [rem8, row, row1, kept]
  revert r; decide +kernel

theorem rem128_at (x : Fin 384) : rem128 (ix2 0 x) = BitVec.ofNat 32 (x.val % 128) := by
  pointwise [rem128, col, col1, kept]
  revert x; decide +kernel

theorem eq_bit (a b : Nat) (ha : a < 4294967296) (hb : b < 4294967296) :
    IntOp.cmpi .eq (BitVec.ofNat 32 a) (BitVec.ofNat 32 b) = if a = b then 1#1 else 0#1 := by
  by_cases h : a = b
  · subst h; simp [IntOp.cmpi]
  · have : BitVec.ofNat 32 a ≠ BitVec.ofNat 32 b := by
      intro e; apply h
      have := congrArg BitVec.toNat e
      simpa [Nat.mod_eq_of_lt ha, Nat.mod_eq_of_lt hb] using this
    rw [if_neg h]
    show BitVec.ofBool (BitVec.ofNat 32 a == BitVec.ofNat 32 b) = 0#1
    rw [beq_eq_false_iff_ne.mpr this]; rfl

theorem toInt_of (a : Nat) (ha : a < 2147483648) : (BitVec.ofNat 32 a).toInt = a := by
  rw [BitVec.toInt_eq_toNat_cond, BitVec.toNat_ofNat, Nat.mod_eq_of_lt (by omega), if_pos (by omega)]

theorem ge_bit (a b : Nat) (ha : a < 2147483648) (hb : b < 2147483648) :
    IntOp.cmpi .sge (BitVec.ofNat 32 a) (BitVec.ofNat 32 b) = if b ≤ a then 1#1 else 0#1 := by
  by_cases h : b ≤ a <;> simp [IntOp.cmpi, BitVec.sle, toInt_of a ha, toInt_of b hb, h]

theorem bf_bit (p : Prop) [Decidable p] : FloatOps.uitofp (F := Ideal) .bf16 (if p then 1#1 else 0#1) = if p then (1 : EReal) else 0 := by
  split
  · show (((1#1 : BitVec 1).toNat : ℝ) : EReal) = 1; simp
  · show (((0#1 : BitVec 1).toNat : ℝ) : EReal) = 0; simp

theorem f_bit (p : Prop) [Decidable p] : FloatOps.uitofp (F := Ideal) .f32 (if p then 1#1 else 0#1) = if p then (1 : EReal) else 0 := by
  split
  · show (((1#1 : BitVec 1).toNat : ℝ) : EReal) = 1; simp
  · show (((0#1 : BitVec 1).toNat : ℝ) : EReal) = 0; simp

theorem si_zero : FloatOps.sitofp (F := Ideal) .f32 0#32 = (0 : EReal) := by
  show (((0#32 : BitVec 32).toInt : ℝ) : EReal) = 0; simp

theorem select_bit {α : Type} (p : Prop) [Decidable p] (x y : α) : Scalar.select (if p then 1#1 else 0#1) x y = if p then x else y := by
  split <;> simp [Scalar.select]

theorem shiftMask_at (s : Nat) (h1 : 1 ≤ s) (h3 : s ≤ 3) (r : Fin 128) (x : Fin 384) :
    shiftMask (BitVec.ofNat 32 s) (ix2 r x) = if (if s ≤ r.val % 8 then x.val = r.val - s else x.val % 128 = r.val + 8 - s ∧ 128 ≤ x.val) then 1#1 else 0#1 := by
  pointwise [shiftMask, row, col, row1, col1, rem8_at, rem128_at]
  have e8 : IntOp.subi (IntOp.addi (BitVec.ofNat 32 r.val) 8#32) (BitVec.ofNat 32 s) = BitVec.ofNat 32 (r.val + 8 - s) := by
    show BitVec.ofNat 32 r.val + BitVec.ofNat 32 8 - BitVec.ofNat 32 s = _
    rw [← BitVec.ofNat_add, BitVec.ofNat_sub_ofNat_of_le _ _ (by omega) (by omega)]
  rw [e8, ge_bit _ _ (by omega) (by omega), select_bit, eq_bit (x.val % 128) _ (by omega) (by omega), show (128#32) = BitVec.ofNat 32 128 from rfl, ge_bit x.val 128 (by omega) (by omega)]
  by_cases h : s ≤ r.val % 8
  · have e0 : IntOp.subi (BitVec.ofNat 32 r.val) (BitVec.ofNat 32 s) = BitVec.ofNat 32 (r.val - s) := by
      show BitVec.ofNat 32 r.val - BitVec.ofNat 32 s = _
      rw [BitVec.ofNat_sub_ofNat_of_le _ _ (by omega) (by omega)]
    simp only [if_pos h]
    rw [e0, eq_bit _ _ (by omega) (by omega)]
  · simp only [if_neg h]
    by_cases a : x.val % 128 = r.val + 8 - s <;> by_cases b : 128 ≤ x.val <;> simp [a, b, IntOp.andi]

def heads : IVec S2048 32 :=
  select (andi (cmpi .ne (signi (iotaInDim S2048 32 0)) (broadcastInDim S2048 ![] bcast_S_S2048 (signi (constantI S_ 32 64#32))))
    (cmpi .ne (Host.remsi (iotaInDim S2048 32 0) (broadcastInDim S2048 ![] bcast_S_S2048 (constantI S_ 32 64#32))) (broadcastInDim S2048 ![] bcast_S_S2048 (constantI S_ 32 0#32))))
    (subi (Host.divsi (iotaInDim S2048 32 0) (broadcastInDim S2048 ![] bcast_S_S2048 (constantI S_ 32 64#32))) (broadcastInDim S2048 ![] bcast_S_S2048 (constantI S_ 32 1#32)))
    (Host.divsi (iotaInDim S2048 32 0) (broadcastInDim S2048 ![] bcast_S_S2048 (constantI S_ 32 64#32)))

theorem heads_at (p : Fin 2048) : heads (ix1 p) = BitVec.ofNat 32 (p.val / 64) := by
  pointwise [heads]
  revert p; decide +kernel

def spreadMask : FVec Ideal S128x2048 .bf16 :=
  uitofp .bf16 (cmpi .eq (broadcastInDim S128x2048 ![0, 1] bcast_S128x1_S128x2048_0_1 (broadcastInDim S128x1 ![0] bcast_S128_S128x1_0 (iotaInDim S128 32 0)))
    (broadcastInDim S128x2048 ![0, 1] bcast_S1x2048_S128x2048_0_1 (broadcastInDim S1x2048 ![1] bcast_S2048_S1x2048_1 heads)))

theorem spreadMask_at (l : Fin 128) (p : Fin 2048) : spreadMask (ix2 l p) = if p.val / 64 = l.val then 1 else 0 := by
  pointwise [spreadMask, heads_at]
  rw [eq_bit _ _ (by omega) (by omega), bf_bit]
  simp only [eq_comm]

def eye : FVec Ideal S16x16 .f32 :=
  uitofp .f32 (cmpi .eq (addi (iotaInDim S16x16 32 0) (broadcastInDim S16x16 ![] bcast_S_S16x16 (constantI S_ 32 0#32))) (iotaInDim S16x16 32 1))

theorem eye_at (i j : Fin 16) : eye (ix2 i j) = if i.val = j.val then 1 else 0 := by
  pointwise [eye]
  rw [show IntOp.addi (BitVec.ofNat 32 i.val) 0#32 = BitVec.ofNat 32 i.val from BitVec.add_zero _, eq_bit _ _ (by omega) (by omega), f_bit]

def blocksMask : FVec Ideal S128x128 .f32 :=
  shapeCast S128x128 (mulf (broadcastInDim S16x8x16x8 ![0, 1, 2, 3] bcast_S16x1x16x1_S16x8x16x8_0_1_2_3 (broadcastInDim S16x1x16x1 ![0, 2] bcast_S16x16_S16x1x16x1_0_2 eye))
    (broadcastInDim S16x8x16x8 ![0, 1, 2, 3] bcast_S1x8x1x8_S16x8x16x8_0_1_2_3 (broadcastInDim S1x8x1x8 ![1, 3] bcast_S8x8_S1x8x1x8_1_3 (broadcastInDim S8x8 ![] bcast_S_S8x8 (constant S_ .f32 0x3F800000#32))))) shapeCasts_S16x8x16x8_S128x128

theorem blocksMask_at (j k : Fin 128) : blocksMask (ix2 j k) = if j.val / 8 = k.val / 8 then 1 else 0 := by
  pointwise [blocksMask, eye_at]

def lowerMask : FVec Ideal S128x128 .f32 :=
  select (cmpi .sge (addi (iotaInDim S128x128 32 0) (broadcastInDim S128x128 ![] bcast_S_S128x128 (constantI S_ 32 0#32))) (iotaInDim S128x128 32 1))
    (broadcastInDim S128x128 ![] bcast_S_S128x128 (constant S_ .f32 0x3F800000#32)) (broadcastInDim S128x128 ![] bcast_S_S128x128 (constant S_ .f32 0x00000000#32))

theorem lowerMask_at (j k : Fin 128) : lowerMask (ix2 j k) = if k.val ≤ j.val then 1 else 0 := by
  pointwise [lowerMask]
  rw [show IntOp.addi (BitVec.ofNat 32 j.val) 0#32 = BitVec.ofNat 32 j.val from BitVec.add_zero _, ge_bit _ _ (by omega) (by omega), select_bit]

def logs (al : FVec Ideal S2x32 .f32) : FVec Ideal S1x128 .f32 :=
  pad S1x128 ![0, 0] ![0, 96] ![0, 0] (shapeCast S1x32 (shapeCast S32 (extractStridedSlice S1x32 ![0, 0] al slices_S2x32_S1x32_0_0) shapeCasts_S1x32_S32) shapeCasts_S32_S1x32) (sitofp .f32 (constantI S_ 32 0#32)) pads_S1x32_S1x128_000_0960 h_S_

theorem logs_at (al : FVec Ideal S2x32 .f32) (l : Fin 128) : logs al (ix2 0 l) = if h : l.val < 32 then al (ix2 0 ⟨l.val, h⟩) else 0 := by
  pointwise [logs]
  rw [si_zero]

def befores (st : FVec Ideal S2x128x3x3072 .f32) : FVec Ideal S1024x3072 .f32 :=
  shapeCast S1024x3072 (pad S128x8x3072 ![0, 5, 0] ![0, 0, 0] ![0, 0, 0] (shapeCast S128x3x3072 (extractStridedSlice S1x128x3x3072 ![0, 0, 0, 0] st slices_S2x128x3x3072_S1x128x3x3072_0_0_0_0) shapeCasts_S1x128x3x3072_S128x3x3072) (sitofp .f32 (constantI S_ 32 0#32)) pads_S128x3x3072_S128x8x3072_000_500_000 h_S_) shapeCasts_S128x8x3072_S1024x3072

theorem befores_at (st : FVec Ideal S2x128x3x3072 .f32) (r : Fin 1024) (k : Fin 3072) : befores st (ix2 r k) = if h : 5 ≤ r.val % 8 then st (ix4 0 ⟨r.val / 8, by omega⟩ ⟨r.val % 8 - 5, by omega⟩ k) else 0 := by
  pointwise [befores]
  rw [si_zero]
  exact dite_congr (propext ⟨fun h => h.2.1, fun h => ⟨by omega, h, by omega⟩⟩) (fun _ => rfl) (fun _ => rfl)

def kernels (w : FVec Ideal S2x4x3072 .f32) : FVec Ideal S4x3072 .f32 :=
  shapeCast S4x3072 (extractStridedSlice S1x4x3072 ![0, 0, 0] w slices_S2x4x3072_S1x4x3072_0_0_0) shapeCasts_S1x4x3072_S4x3072

theorem kernels_at (w : FVec Ideal S2x4x3072 .f32) (j : Fin 4) (k : Fin 3072) : kernels w (ix2 j k) = w (ix3 0 j k) := by
  pointwise [kernels]

def biases (b : FVec Ideal S2x3072 .f32) : FVec Ideal S1x3072 .f32 :=
  shapeCast S1x3072 (shapeCast S3072 (extractStridedSlice S1x3072 ![0, 0] b slices_S2x3072_S1x3072_0_0) shapeCasts_S1x3072_S3072) shapeCasts_S3072_S1x3072

theorem biases_at (b : FVec Ideal S2x3072 .f32) (k : Fin 3072) : biases b (ix2 0 k) = b (ix2 0 k) := by
  pointwise [biases]

theorem olds_at (h : FVec Ideal S2x128x32x64x128 .f32) (d : Fin 2) (q : Fin 128) (p : Fin 2048) (n : Fin 128) :
    (shapeCast S2x128x2048x128 h shapeCasts_S2x128x32x64x128_S2x128x2048x128 : FVec Ideal S2x128x2048x128 .f32) (ix4 d q p n) = h (ix5 d q (⟨p.val / 64, by omega⟩ : Fin 32) (⟨p.val % 64, by omega⟩ : Fin 64) n) := by
  pointwise

theorem shifts_at (a b e : IVec S128x384 1) (s : Fin 3) (r : Fin 128) (x : Fin 384) (ρ : Fin 384) (hρ : ρ.val = 128 * s.val + r.val) :
    (uitofp .bf16 (concatenate S384x384 0 [⟨S128x384, a⟩, ⟨S128x384, b⟩, ⟨S128x384, e⟩] concatenates_S128x384_S128x384_S128x384_S384x384_d0) : FVec Ideal S384x384 .bf16) (ix2 ρ x)
      = FloatOps.uitofp .bf16 ((![a, b, e] : Fin 3 → IVec S128x384 1) s (ix2 r x)) := by
  pointwise
  congr 1
  obtain ⟨s, hs⟩ := s
  match s, hs with
  | 0, _ =>
    change ρ.val = 128 * 0 + r.val at hρ
    have e : (⟨ρ.val, by omega⟩ : Fin 128) = r := Fin.ext (show ρ.val = r.val by omega)
    rw [dif_pos (by omega), e]; rfl
  | 1, _ =>
    change ρ.val = 128 * 1 + r.val at hρ
    have e : (⟨ρ.val - 128, by omega⟩ : Fin 128) = r := Fin.ext (show ρ.val - 128 = r.val by omega)
    rw [dif_neg (by omega), dif_pos (by omega), e]; rfl
  | 2, _ =>
    change ρ.val = 128 * 2 + r.val at hρ
    have e : (⟨ρ.val - 128 - 128, by omega⟩ : Fin 128) = r := Fin.ext (show ρ.val - 128 - 128 = r.val by omega)
    rw [dif_neg (by omega), dif_neg (by omega), e]; rfl

end Cert.Ssd
-- ==== Proof.SsdEntry.lean ====
/- The arrays the host hands the sample scan. -/
module

public import proofs.«01_k».proof.Proof.SsdHost

@[expose] public section

noncomputable section

open Idealize.ShloMosaic Idealize.ShloMosaic.TcCoe Idealize.SL.Sem

namespace Cert.Ssd

open Cert.Kernel6Ideal Cert.Kernel6Ideal.Gen Cert.Kernel6Ideal.Value

variable (m : (ℓ : Loc nD τ sig) → Buf (Elt Ideal) ℓ)

theorem v0_eq (c : Dev nD) : V m c main_v0 = shapeCast S2x128x2048x128 (m ((c : Thread nD τ).loc main_arg5)) shapeCasts_S2x128x32x64x128_S2x128x2048x128 := by unfold V; rfl
theorem v11_eq (c : Dev nD) : V m c main_v11 = kernels (m ((c : Thread nD τ).loc main_arg7)) := by unfold V; rfl
theorem v14_eq (c : Dev nD) : V m c main_v14 = biases (m ((c : Thread nD τ).loc main_arg8)) := by unfold V; rfl
theorem v4_eq (c : Dev nD) : V m c main_v4 = logs (m ((c : Thread nD τ).loc main_arg6)) := by unfold V; rfl
theorem v21_eq (c : Dev nD) : V m c main_v21 = befores (m ((c : Thread nD τ).loc main_arg4)) := by unfold V; rfl
theorem v41_eq (c : Dev nD) : V m c main_v41 = spreadMask := by unfold V; rfl
theorem v113_eq (c : Dev nD) : V m c main_v113 = transpose S2048x128 [1, 0] spreadMask transposes_S128x2048_S2048x128_1_0 := by unfold V; rfl
theorem v112_eq (c : Dev nD) : V m c main_v112 = (truncf .bf16 blocksMask bitsLt_bf16_f32 : FVec Ideal S128x128 .bf16) := by unfold V; rfl
theorem v111_eq (c : Dev nD) : V m c main_v111 = (truncf .bf16 (mulf lowerMask blocksMask) bitsLt_bf16_f32 : FVec Ideal S128x128 .bf16) := by unfold V; rfl

theorem v110_eq (c : Dev nD) : V m c main_v110 = (uitofp .bf16 (concatenate S384x384 0 [⟨S128x384, shiftMask 1#32⟩, ⟨S128x384, shiftMask 2#32⟩, ⟨S128x384, shiftMask 3#32⟩] concatenates_S128x384_S128x384_S128x384_S384x384_d0) : FVec Ideal S384x384 .bf16) := by unfold V; sl_kernel_rfl

end Cert.Ssd
-- ==== Proof.SsdBlocks.lean ====
/- The sample scan's blocks over its arguments, and the array of states after the launch over what each block's opening point computes. -/
module

public import proofs.«01_k».proof.Proof.SsdEntry

@[expose] public section

noncomputable section

open Idealize.ShloMosaic Idealize.ShloMosaic.TcCoe Idealize.SL.Sem

namespace Cert.Ssd

open Cert.Kernel6Ideal Cert.Kernel6Ideal.Gen Cert.Kernel6Ideal.Value

variable (m : (ℓ : Loc nD τ sig) → Buf (Elt Ideal) ℓ) (c : Dev nD)

theorem points (t : Fin cfg0.N) : t.val < 32 := lt_of_lt_of_eq t.isLt N_0

theorem ext2 {n k : Nat} (y : (⟨2, ![n, k]⟩ : Shape).Idx) (a : Fin n) (b : Fin k) (h0 : (y 0).val = a.val) (h1 : (y 1).val = b.val) : y = ix2 a b := by
  funext i; apply Fin.ext
  match i with
  | ⟨0, _⟩ => exact h0
  | ⟨1, _⟩ => exact h1

theorem idx_0 : ∀ t : Fin cfg0.N, win0_0.index t (0 : Fin 2) = 128 + t.val / 4 ∧ win0_0.index t (1 : Fin 2) = 0 :=
  (by decide +kernel : ∀ t : Fin grid0.N, _)
theorem idx_1 : ∀ t : Fin cfg0.N, win0_1.index t (0 : Fin 2) = t.val / 4 ∧ win0_1.index t (1 : Fin 2) = 0 :=
  (by decide +kernel : ∀ t : Fin grid0.N, _)
theorem idx_2 : ∀ t : Fin cfg0.N, win0_2.index t (0 : Fin 2) = 128 + t.val / 4 ∧ win0_2.index t (1 : Fin 2) = 0 :=
  (by decide +kernel : ∀ t : Fin grid0.N, _)
theorem idx_4 : ∀ t : Fin cfg0.N, win0_4.index t (0 : Fin 4) = 0 ∧ win0_4.index t (1 : Fin 4) = t.val ∧ win0_4.index t (2 : Fin 4) = 0 ∧ win0_4.index t (3 : Fin 4) = 0 :=
  (by decide +kernel : ∀ t : Fin grid0.N, _)
theorem idx_5 : ∀ t : Fin cfg0.N, win0_5.index t (0 : Fin 2) = 0 ∧ win0_5.index t (1 : Fin 2) = 0 := (by decide +kernel : ∀ t : Fin grid0.N, _)
theorem idx_6 : ∀ t : Fin cfg0.N, win0_6.index t (0 : Fin 2) = 0 ∧ win0_6.index t (1 : Fin 2) = 0 := (by decide +kernel : ∀ t : Fin grid0.N, _)
theorem idx_7 : ∀ t : Fin cfg0.N, win0_7.index t (0 : Fin 2) = 0 ∧ win0_7.index t (1 : Fin 2) = 0 := (by decide +kernel : ∀ t : Fin grid0.N, _)
theorem idx_8 : ∀ t : Fin cfg0.N, win0_8.index t (0 : Fin 2) = 0 ∧ win0_8.index t (1 : Fin 2) = 0 := (by decide +kernel : ∀ t : Fin grid0.N, _)
theorem idx_9 : ∀ t : Fin cfg0.N, win0_9.index t (0 : Fin 2) = 0 ∧ win0_9.index t (1 : Fin 2) = 0 := (by decide +kernel : ∀ t : Fin grid0.N, _)
theorem idx_10 : ∀ t : Fin cfg0.N, win0_10.index t (0 : Fin 2) = 0 ∧ win0_10.index t (1 : Fin 2) = 0 := (by decide +kernel : ∀ t : Fin grid0.N, _)
theorem idx_11 : ∀ t : Fin cfg0.N, win0_11.index t (0 : Fin 2) = 0 ∧ win0_11.index t (1 : Fin 2) = 0 := (by decide +kernel : ∀ t : Fin grid0.N, _)
theorem idx_12 : ∀ t : Fin cfg0.N, win0_12.index t (0 : Fin 2) = 0 ∧ win0_12.index t (1 : Fin 2) = 0 := (by decide +kernel : ∀ t : Fin grid0.N, _)
theorem idx_16 : ∀ t : Fin cfg0.N, win0_16.index t (0 : Fin 4) = 0 ∧ win0_16.index t (1 : Fin 4) = t.val ∧ win0_16.index t (2 : Fin 4) = 0 ∧ win0_16.index t (3 : Fin 4) = 0 :=
  (by decide +kernel : ∀ t : Fin grid0.N, _)

theorem blk_0 (t : Fin cfg0.N) (r : Fin 128) (k : Fin 3072) :
    iblk m c 0 t (ix2 r k) = m ((c : Thread nD τ).loc main_arg0) (ix2 (⟨16384 + (128 * (t.val / 4) + r.val), by have := points t; omega⟩ : Fin 17408) k) := by
  unfold iblk
  rw [View.read_apply]
  show V m c main_arg0 _ = _
  rw [V_main_arg0]
  obtain ⟨e0, e1⟩ := idx_0 t
  exact congrArg _ (ext2 _ _ _ (by show win0_0.index t (0 : Fin 2) * 128 + 1 * r.val = 16384 + (128 * (t.val / 4) + r.val); omega)
    (by show win0_0.index t (1 : Fin 2) * 3072 + 1 * k.val = k.val; omega))

theorem blk_1 (t : Fin cfg0.N) (r : Fin 128) (k : Fin 3072) :
    iblk m c 1 t (ix2 r k) = befores (m ((c : Thread nD τ).loc main_arg4)) (ix2 (⟨128 * (t.val / 4) + r.val, by have := points t; omega⟩ : Fin 1024) k) := by
  unfold iblk
  rw [View.read_apply]
  show V m c main_v21 _ = _
  rw [v21_eq]
  obtain ⟨e0, e1⟩ := idx_1 t
  exact congrArg _ (ext2 _ _ _ (by show win0_1.index t (0 : Fin 2) * 128 + 1 * r.val = 128 * (t.val / 4) + r.val; omega)
    (by show win0_1.index t (1 : Fin 2) * 3072 + 1 * k.val = k.val; omega))

theorem blk_2 (t : Fin cfg0.N) (r l : Fin 128) :
    iblk m c 2 t (ix2 r l) = m ((c : Thread nD τ).loc main_arg1) (ix2 (⟨16384 + (128 * (t.val / 4) + r.val), by have := points t; omega⟩ : Fin 17408) l) := by
  unfold iblk
  rw [View.read_apply]
  show V m c main_arg1 _ = _
  rw [V_main_arg1]
  obtain ⟨e0, e1⟩ := idx_2 t
  exact congrArg _ (ext2 _ _ _ (by show win0_2.index t (0 : Fin 2) * 128 + 1 * r.val = 16384 + (128 * (t.val / 4) + r.val); omega)
    (by show win0_2.index t (1 : Fin 2) * 128 + 1 * l.val = l.val; omega))

theorem state_at (x : Vec Ideal S1x4x2048x128 .f32) (s : Fin 4) (p : Fin 2048) (n : Fin 128) : stateOf x s (ix4 0 0 p n) = x (ix4 0 s p n) := by
  refine (show stateOf x s (ix4 0 0 p n) = x _ from rfl).trans (congrArg x ?_)
  funext a; apply Fin.ext
  match a with
  | ⟨0, _⟩ => show 0 + 1 * 0 = 0; omega
  | ⟨1, _⟩ => show s.val + 1 * 0 = s.val; omega
  | ⟨2, _⟩ => show 0 + 1 * p.val = p.val; omega
  | ⟨3, _⟩ => show 0 + 1 * n.val = n.val; omega

theorem blk_4 (t : Fin cfg0.N) (s : Fin 4) (p : Fin 2048) (n : Fin 128) :
    iblk m c 4 t (ix4 0 s p n)
      = m ((c : Thread nD τ).loc main_arg5) (ix5 0 (⟨4 * t.val + s.val, by have := points t; omega⟩ : Fin 128) (⟨p.val / 64, by omega⟩ : Fin 32) (⟨p.val % 64, by omega⟩ : Fin 64) n) := by
  unfold iblk
  rw [View.read_apply]
  show V m c main_v0 _ = _
  rw [v0_eq]
  obtain ⟨e0, e1, e2, e3⟩ := idx_4 t
  have e : ((cfg0.win 4).blk t).view.emb (ix4 0 s p n) = ix4 0 (⟨4 * t.val + s.val, by have := points t; omega⟩ : Fin 128) p n := by
    funext a; apply Fin.ext
    match a with
    | ⟨0, _⟩ => show win0_4.index t (0 : Fin 4) * 1 + 1 * 0 = 0; omega
    | ⟨1, _⟩ => show win0_4.index t (1 : Fin 4) * 4 + 1 * s.val = 4 * t.val + s.val; omega
    | ⟨2, _⟩ => show win0_4.index t (2 : Fin 4) * 2048 + 1 * p.val = p.val; omega
    | ⟨3, _⟩ => show win0_4.index t (3 : Fin 4) * 128 + 1 * n.val = n.val; omega
  refine (congrArg _ e).trans ?_
  exact olds_at _ 0 _ p n

theorem blk_5 (t : Fin cfg0.N) (l : Fin 128) : iblk m c 5 t (ix2 0 l) = logs (m ((c : Thread nD τ).loc main_arg6)) (ix2 0 l) := by
  unfold iblk
  rw [View.read_apply]
  show V m c main_v4 _ = _
  rw [v4_eq]
  obtain ⟨e0, e1⟩ := idx_5 t
  exact congrArg _ (ext2 _ _ _ (by show win0_5.index t (0 : Fin 2) * 1 + 1 * 0 = 0; omega) (by show win0_5.index t (1 : Fin 2) * 128 + 1 * l.val = l.val; omega))

theorem blk_6 (t : Fin cfg0.N) (j : Fin 4) (k : Fin 3072) : iblk m c 6 t (ix2 j k) = m ((c : Thread nD τ).loc main_arg7) (ix3 0 j k) := by
  unfold iblk
  rw [View.read_apply]
  show V m c main_v11 _ = _
  rw [v11_eq]
  obtain ⟨e0, e1⟩ := idx_6 t
  exact (congrArg _ (ext2 _ _ _ (by show win0_6.index t (0 : Fin 2) * 4 + 1 * j.val = j.val; omega) (by show win0_6.index t (1 : Fin 2) * 3072 + 1 * k.val = k.val; omega))).trans (kernels_at _ j k)

theorem blk_7 (t : Fin cfg0.N) (k : Fin 3072) : iblk m c 7 t (ix2 0 k) = m ((c : Thread nD τ).loc main_arg8) (ix2 0 k) := by
  unfold iblk
  rw [View.read_apply]
  show V m c main_v14 _ = _
  rw [v14_eq]
  obtain ⟨e0, e1⟩ := idx_7 t
  exact (congrArg _ (ext2 _ _ _ (by show win0_7.index t (0 : Fin 2) * 1 + 1 * 0 = 0; omega) (by show win0_7.index t (1 : Fin 2) * 3072 + 1 * k.val = k.val; omega))).trans (biases_at _ k)

theorem blk_8 (t : Fin cfg0.N) (s : Fin 3) (r : Fin 128) (x ρ : Fin 384) (hρ : ρ.val = 128 * s.val + r.val) :
    iblk m c 8 t (ix2 ρ x) = if (if s.val + 1 ≤ r.val % 8 then x.val = r.val - (s.val + 1) else x.val % 128 = r.val + 8 - (s.val + 1) ∧ 128 ≤ x.val) then (1 : EReal) else 0 := by
  unfold iblk
  rw [View.read_apply]
  show V m c main_v110 _ = _
  rw [v110_eq]
  obtain ⟨e0, e1⟩ := idx_8 t
  refine (congrArg _ (ext2 _ ρ x (by show win0_8.index t (0 : Fin 2) * 384 + 1 * ρ.val = ρ.val; omega) (by show win0_8.index t (1 : Fin 2) * 384 + 1 * x.val = x.val; omega))).trans ?_
  refine (shifts_at _ _ _ s r x ρ hρ).trans ?_
  have e : (![shiftMask 1#32, shiftMask 2#32, shiftMask 3#32] : Fin 3 → IVec S128x384 1) s = shiftMask (BitVec.ofNat 32 (s.val + 1)) := by
    obtain ⟨s, hs⟩ := s
    match s, hs with
    | 0, _ => rfl
    | 1, _ => rfl
    | 2, _ => rfl
  rw [e, shiftMask_at (s.val + 1) (by omega) (by omega) r x]
  exact bf_bit _

theorem blk_9 (t : Fin cfg0.N) (j k : Fin 128) :
    iblk m c 9 t (ix2 j k) = (if k.val ≤ j.val then (1 : EReal) else 0) * (if j.val / 8 = k.val / 8 then 1 else 0) := by
  unfold iblk
  rw [View.read_apply]
  show V m c main_v111 _ = _
  rw [v111_eq]
  obtain ⟨e0, e1⟩ := idx_9 t
  refine (congrArg _ (ext2 _ j k (by show win0_9.index t (0 : Fin 2) * 128 + 1 * j.val = j.val; omega) (by show win0_9.index t (1 : Fin 2) * 128 + 1 * k.val = k.val; omega))).trans ?_
  pointwise [lowerMask_at, blocksMask_at]

theorem blk_10 (t : Fin cfg0.N) (j k : Fin 128) :
    iblk m c 10 t (ix2 j k) = if j.val / 8 = k.val / 8 then (1 : EReal) else 0 := by
  unfold iblk
  rw [View.read_apply]
  show V m c main_v112 _ = _
  rw [v112_eq]
  obtain ⟨e0, e1⟩ := idx_10 t
  refine (congrArg _ (ext2 _ j k (by show win0_10.index t (0 : Fin 2) * 128 + 1 * j.val = j.val; omega) (by show win0_10.index t (1 : Fin 2) * 128 + 1 * k.val = k.val; omega))).trans ?_
  pointwise [blocksMask_at]

theorem blk_11 (t : Fin cfg0.N) (l : Fin 128) (p : Fin 2048) :
    iblk m c 11 t (ix2 l p) = if p.val / 64 = l.val then (1 : EReal) else 0 := by
  unfold iblk
  rw [View.read_apply]
  show V m c main_v41 _ = _
  rw [v41_eq]
  obtain ⟨e0, e1⟩ := idx_11 t
  exact (congrArg _ (ext2 _ l p (by show win0_11.index t (0 : Fin 2) * 128 + 1 * l.val = l.val; omega) (by show win0_11.index t (1 : Fin 2) * 2048 + 1 * p.val = p.val; omega))).trans (spreadMask_at l p)

theorem blk_12 (t : Fin cfg0.N) (p : Fin 2048) (l : Fin 128) :
    iblk m c 12 t (ix2 p l) = if p.val / 64 = l.val then (1 : EReal) else 0 := by
  unfold iblk
  rw [View.read_apply]
  show V m c main_v113 _ = _
  rw [v113_eq]
  obtain ⟨e0, e1⟩ := idx_12 t
  refine (congrArg _ (ext2 _ p l (by show win0_12.index t (0 : Fin 2) * 2048 + 1 * p.val = p.val; omega) (by show win0_12.index t (1 : Fin 2) * 128 + 1 * l.val = l.val; omega))).trans ?_
  pointwise [spreadMask_at]

/-! ## The array of states -/

/-- What a block's opening point leaves the block's other points. -/
def left (t : Fin cfg0.N) : Vec Ideal S128x512 .f32 × Vec Ideal S2048x128 .bf16 × Vec Ideal S128x128 .f32 := (bsOf m c t, wsOf m c t, easOf m c t)

/-- The point that opens a point's block. -/
def opener (n : Nat) (hn : n < cfg0.N) : Fin cfg0.N := ⟨n / 4 * 4, lt_of_le_of_lt (Nat.div_mul_le_self n 4) hn⟩

theorem left_all (n : Nat) : ∀ hn : n < cfg0.N, (outsAt0 m c n hn).2.2.2.2.2 = left m c (opener n hn) := by
  induction n using Nat.strong_induction_on with
  | _ n ih =>
    intro hn
    by_cases h0 : n % 4 = 0
    · have e : opener n hn = ⟨n, hn⟩ := Fin.ext (by show n / 4 * 4 = n; omega)
      rw [e]
      exact Prod.ext (bs_A m c ⟨n, hn⟩ h0) (Prod.ext (ws_A m c ⟨n, hn⟩ h0) (eas_A m c ⟨n, hn⟩ h0))
    · have e : opener (n - 1) (by omega) = opener n hn := Fin.ext (by show (n - 1) / 4 * 4 = n / 4 * 4; omega)
      exact (kept_B m c ⟨n, hn⟩ h0).trans ((ih (n - 1) (by omega) (by omega)).trans (congrArg (left m c) e))

/-- The states a point writes, over what its block's opening point leaves. -/
theorem states_all (t : Fin cfg0.N) :
    (outsAt0 m c t.val t.isLt).2.1 = View.canon (stores (states m c t (bsOf m c (opener t.val t.isLt)) (wsOf m c (opener t.val t.isLt)) (easOf m c (opener t.val t.isLt)))) := by
  by_cases h0 : t.val % 4 = 0
  · have e : opener t.val t.isLt = t := Fin.ext (by show t.val / 4 * 4 = t.val; omega)
    rw [e]
    exact st_A m c t h0
  · have e : opener (t.val - 1) (by omega) = opener t.val t.isLt := Fin.ext (by show (t.val - 1) / 4 * 4 = t.val / 4 * 4; omega)
    have h := (left_all m c (t.val - 1) (by omega)).trans (congrArg (left m c) e)
    have h1 : (outsAt0 m c (t.val - 1) (by omega)).2.2.2.2.2.1 = bsOf m c (opener t.val t.isLt) := congrArg (fun x => x.1) h
    have h2 : (outsAt0 m c (t.val - 1) (by omega)).2.2.2.2.2.2.1 = wsOf m c (opener t.val t.isLt) := congrArg (fun x => x.2.1) h
    have h3 : (outsAt0 m c (t.val - 1) (by omega)).2.2.2.2.2.2.2 = easOf m c (opener t.val t.isLt) := congrArg (fun x => x.2.2) h
    rw [st_B m c t h0, h1, h2, h3]

theorem cells (t : Fin cfg0.N) (d : Fin 2) (s : Fin 4) (p : Fin 2048) (n : Fin 128) :
    ((cfg0.win 16).blk t).view.emb (ix4 d s p n) = ix4 d (⟨4 * t.val + s.val, by have := points t; omega⟩ : Fin 128) p n := by
  obtain ⟨e0, e1, e2, e3⟩ := idx_16 t
  funext a; apply Fin.ext
  match a with
  | ⟨0, _⟩ => show win0_16.index t (0 : Fin 4) * 2 + 1 * d.val = d.val; omega
  | ⟨1, _⟩ => show win0_16.index t (1 : Fin 4) * 4 + 1 * s.val = 4 * t.val + s.val; omega
  | ⟨2, _⟩ => show win0_16.index t (2 : Fin 4) * 2048 + 1 * p.val = p.val; omega
  | ⟨3, _⟩ => show win0_16.index t (3 : Fin 4) * 128 + 1 * n.val = n.val; omega

theorem array_at (t : Fin cfg0.N) (d : Fin 2) (s : Fin 4) (p : Fin 2048) (n : Fin 128) :
    (dats m 0 c).arrAt 16 cfg0.N (ix4 d (⟨4 * t.val + s.val, by have := points t; omega⟩ : Fin 128) p n)
      = states m c t (bsOf m c (opener t.val t.isLt)) (wsOf m c (opener t.val t.isLt)) (easOf m c (opener t.val t.isLt)) s (ix2 p n) := by
  have hb := (blocks16 m c t (flush0_16 t)).trans (flushed16 m c t)
  refine (congrArg ((dats m 0 c).arrAt 16 cfg0.N) (cells t d s p n).symm).trans ?_
  refine Eq.trans ?_ ((congrFun hb (ix4 d s p n)).trans ((congrFun (states_all m c t) (ix4 d s p n)).trans (stores_at _ d s p n)))
  generalize (dats m 0 c).arrAt 16 cfg0.N = A
  rfl

theorem seqOf_at : ∀ (t : Fin cfg0.N) (s : Fin 4), seqOf (grid0.coords t) s = BitVec.ofNat 32 (4 * (t.val % 4) + s.val) :=
  (by decide +kernel : ∀ (t : Fin grid0.N) (s : Fin 4), seqOf (grid0.coords t) s = BitVec.ofNat 32 (4 * (t.val % 4) + s.val))

end Cert.Ssd
-- ==== Proof.SsdSums.lean ====
/- The sample scan's sums, over abstract blocks. -/
module

public import proofs.«01_k».proof.Proof.SsdRun

@[expose] public section

noncomputable section

open Idealize.ShloMosaic Idealize.ShloMosaic.TcCoe Idealize.SL.Sem

namespace Cert.Ssd

open Cert.Kernel6Ideal Cert.Kernel6Ideal.Gen

/-- An element that is a real number. -/
def IsReal (x : EReal) : Prop := ∃ r : ℝ, x = (r : EReal)

theorem IsReal.sub_self {x : EReal} (h : IsReal x) : x - x = 0 := by
  obtain ⟨r, rfl⟩ := h
  rw [← EReal.coe_sub, _root_.sub_self, EReal.coe_zero]

theorem IsReal.zero : IsReal 0 := ⟨0, EReal.coe_zero.symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.neg {x : EReal} (hx : IsReal x) : IsReal (-x) := by
  obtain ⟨r, rfl⟩ := hx
  exact ⟨-r, (EReal.coe_neg r).symm⟩

theorem IsReal.exp {x : EReal} (hx : IsReal x) : IsReal (Ideal.exp x) := by
  obtain ⟨r, rfl⟩ := hx
  exact ⟨Real.exp r, rfl⟩

theorem IsReal.sum {ι : Type} (s : Finset ι) (f : ι → EReal) (h : ∀ i, IsReal (f i)) : IsReal (∑ i ∈ s, f i) :=
  Finset.sum_induction f IsReal (fun _ _ => IsReal.add) IsReal.zero fun i _ => h i

/-- A block's sum over one sequence's rows. -/
theorem sum_rows (σ : Fin 16) (f : Fin 128 → EReal) :
    (∑ j : Fin 128, if j.val / 8 = σ.val then f j else 0) = ∑ i : Fin 8, f ⟨8 * σ.val + i.val, by omega⟩ := by
  rw [← Finset.sum_filter]
  refine (Finset.sum_bij (fun (i : Fin 8) _ => (⟨8 * σ.val + i.val, by omega⟩ : Fin 128)) ?_ ?_ ?_ ?_).symm
  · intro i _
    exact Finset.mem_filter.mpr ⟨Finset.mem_univ _, by show (8 * σ.val + i.val) / 8 = σ.val; omega⟩
  · intro i _ j _ h
    have h' : 8 * σ.val + i.val = 8 * σ.val + j.val := congrArg Fin.val h
    exact Fin.ext (by omega)
  · intro j hj
    have h := (Finset.mem_filter.mp hj).2
    exact ⟨⟨j.val % 8, by omega⟩, Finset.mem_univ _, Fin.ext (by show 8 * σ.val + j.val % 8 = j.val; omega)⟩
  · intro i _; rfl

theorem eighth : Ideal.ofBits .f32 0x3E000000#32 = ((1 / 8 : ℝ) : EReal) := by
  simp [Ideal.ofBits, Ideal.ieee, -EReal.coe_mul]; norm_num

theorem mean_const (σ : Fin 16) (ea : Vec Ideal S128x128 .f32) (l : Fin 128) (E : EReal) (hE : IsReal E)
    (h : ∀ i : Fin 8, ea (ix2 l ⟨8 * σ.val + i.val, by omega⟩) = E) : mean σ ea l = E := by
  unfold mean
  rw [sum_rows, Finset.sum_congr rfl fun i _ => h i, eighth]
  obtain ⟨r, rfl⟩ := hE
  rw [Fin.sum_univ_eight]
  simp only [← EReal.coe_add, ← EReal.coe_mul]
  congr 1
  ring

theorem spread_one (em : FVec Ideal S128x2048 .bf16) (d : Fin 128 → EReal) (p : Fin 2048)
    (h : ∀ l : Fin 128, em (ix2 l p) = if p.val / 64 = l.val then (1 : EReal) else 0) : spread em d p = d ⟨p.val / 64, by omega⟩ := by
  unfold spread
  rw [Finset.sum_eq_single (⟨p.val / 64, by omega⟩ : Fin 128)]
  · rw [h, if_pos rfl, mul_one]
  · intro l _ hl
    rw [h, if_neg (fun e => hl (Fin.ext e.symm)), mul_zero]
  · intro hl; exact absurd (Finset.mem_univ _) hl

theorem onehot (et : Vec Ideal S2048x128 .bf16) (p : Fin 2048) (d : Fin 128 → EReal)
    (h : ∀ l : Fin 128, et (ix2 p l) = if p.val / 64 = l.val then (1 : EReal) else 0) : (∑ l : Fin 128, (et (ix2 p l) : EReal) * d l) = d ⟨p.val / 64, by omega⟩ := by
  rw [Finset.sum_eq_single (⟨p.val / 64, by omega⟩ : Fin 128)]
  · rw [h, if_pos rfl, one_mul]
  · intro l _ hl
    rw [h, if_neg (fun e => hl (Fin.ext e.symm)), zero_mul]
  · intro hl; exact absurd (Finset.mem_univ _) hl

/-- The row `s` before a row, from the block's own rows or the kept ones. -/
theorem tap_at (x0 : Vec Ideal S128x3072 .bf16) (x1 : Vec Ideal S128x3072 .f32) (x8 : Vec Ideal S384x384 .bf16) (ρ : Fin 384) (k : Fin 3072)
    (s : Nat) (hs : s < 8) (r : Fin 128)
    (h8 : ∀ x : Fin 384, x8 (ix2 ρ x) = if (if s ≤ r.val % 8 then x.val = r.val - s else x.val % 128 = r.val + 8 - s ∧ 128 ≤ x.val) then (1 : EReal) else 0)
    (h1 : ∀ u : Fin 128, 5 ≤ u.val % 8 → (x1 (ix2 u k) : EReal) - x1 (ix2 u k) = 0) (h3 : s ≤ 3) :
    tap x0 x1 x8 ρ k = if h : s ≤ r.val % 8 then x0 (ix2 (⟨r.val - s, by omega⟩ : Fin 128) k) else x1 (ix2 (⟨r.val + 8 - s, by omega⟩ : Fin 128) k) := by
  unfold tap
  simp only [h8]
  by_cases h : s ≤ r.val % 8
  · simp only [if_pos h, dif_pos h]
    rw [Finset.sum_eq_single (⟨r.val - s, by omega⟩ : Fin 384)]
    · rw [if_pos rfl, one_mul, dif_pos (show r.val - s < 128 by omega)]
    · intro x _ hx
      rw [if_neg (fun e => hx (Fin.ext e)), zero_mul]
    · intro hl; exact absurd (Finset.mem_univ _) hl
  · simp only [if_neg h, dif_neg h]
    have hu : r.val + 8 - s < 128 := by omega
    rw [Fintype.sum_eq_add (⟨128 + (r.val + 8 - s), by omega⟩ : Fin 384) (⟨256 + (r.val + 8 - s), by omega⟩ : Fin 384)
      (fun e => by have := congrArg Fin.val e; dsimp only at this; omega)]
    · have a1 : ¬ 128 + (r.val + 8 - s) < 128 := by omega
      have a2 : 128 + (r.val + 8 - s) - 128 < 128 := by omega
      have b1 : ¬ 256 + (r.val + 8 - s) < 128 := by omega
      have b2 : ¬ 256 + (r.val + 8 - s) - 128 < 128 := by omega
      rw [if_pos ⟨by dsimp only; omega, by dsimp only; omega⟩, if_pos ⟨by dsimp only; omega, by dsimp only; omega⟩, one_mul, one_mul, dif_neg a1, dif_pos a2, dif_neg b1, dif_neg b2]
      have ea : (⟨128 + (r.val + 8 - s) - 128, a2⟩ : Fin 128) = ⟨r.val + 8 - s, hu⟩ := Fin.ext (by show 128 + (r.val + 8 - s) - 128 = r.val + 8 - s; omega)
      have eb : (⟨256 + (r.val + 8 - s) - 128 - 128, by omega⟩ : Fin 128) = ⟨r.val + 8 - s, hu⟩ := Fin.ext (by show 256 + (r.val + 8 - s) - 128 - 128 = r.val + 8 - s; omega)
      rw [ea, eb, h1 ⟨r.val + 8 - s, hu⟩ (by show 5 ≤ (r.val + 8 - s) % 8; omega), add_zero]
    · intro x hx
      rw [if_neg, zero_mul]
      rintro ⟨e1, e2⟩
      have n1 : x.val ≠ 128 + (r.val + 8 - s) := fun e => hx.1 (Fin.ext e)
      have n2 : x.val ≠ 256 + (r.val + 8 - s) := fun e => hx.2 (Fin.ext e)
      omega

theorem lanes_of (b : Vec Ideal S128x512 .f32) (g : Nat) (h) (r n : Fin 128) (hg : g * 128 + n.val < 512) : lanesOf b g h (ix2 r n) = b (ix2 r (⟨g * 128 + n.val, hg⟩ : Fin 512)) := by
  refine (show lanesOf b g h (ix2 r n) = b _ from rfl).trans (congrArg b ?_)
  funext a; apply Fin.ext
  match a with
  | ⟨0, _⟩ => show 0 + 1 * r.val = r.val; omega
  | ⟨1, _⟩ => show g * 128 + 1 * n.val = g * 128 + n.val; omega

theorem rows_of (w : Vec Ideal S2048x128 .bf16) (g : Nat) (h) (p : Fin 512) (r : Fin 128) (hg : g * 512 + p.val < 2048) : rowsOf w g h (ix2 p r) = w (ix2 (⟨g * 512 + p.val, hg⟩ : Fin 2048) r) := by
  refine (show rowsOf w g h (ix2 p r) = w _ from rfl).trans (congrArg w ?_)
  funext a; apply Fin.ext
  match a with
  | ⟨0, _⟩ => show g * 512 + 1 * p.val = g * 512 + p.val; omega
  | ⟨1, _⟩ => show 0 + 1 * r.val = r.val; omega

theorem group_at (σ : Fin 16) (b : Vec Ideal S128x512 .f32) (w : Vec Ideal S2048x128 .bf16) (g : Nat) (hg : g < 4) (hb hw) (p' : Fin 512) (p : Fin 2048) (n : Fin 128) (hp : p.val = g * 512 + p'.val) :
    masked (BitVec.ofNat 32 σ.val) (lanesOf b g hb) (rowsOf w g hw) (ix2 p' n)
      = ∑ i : Fin 8, (w (ix2 p (⟨8 * σ.val + i.val, by omega⟩ : Fin 128)) : EReal) * b (ix2 (⟨8 * σ.val + i.val, by omega⟩ : Fin 128) (⟨p.val / 512 * 128 + n.val, by omega⟩ : Fin 512)) := by
  rw [masked_at, ← sum_rows σ (fun r => (w (ix2 p r) : EReal) * b (ix2 r (⟨p.val / 512 * 128 + n.val, by omega⟩ : Fin 512)))]
  refine Finset.sum_congr rfl fun r _ => ?_
  rw [rows_of w g hw p' r (by omega), lanes_of b g hb r n (by omega)]
  have e1 : (⟨g * 512 + p'.val, by omega⟩ : Fin 2048) = p := Fin.ext hp.symm
  have e2 : (⟨g * 128 + n.val, by omega⟩ : Fin 512) = ⟨p.val / 512 * 128 + n.val, by omega⟩ := Fin.ext (by show g * 128 + n.val = p.val / 512 * 128 + n.val; omega)
  rw [e1, e2]
  split
  · rfl
  · exact mul_zero _

theorem step_at (σ : Fin 16) (st : Vec Ideal S1x1x2048x128 .f32) (b : Vec Ideal S128x512 .f32) (w : Vec Ideal S2048x128 .bf16) (ea : Vec Ideal S128x128 .f32) (et : Vec Ideal S2048x128 .bf16) (p : Fin 2048) (n : Fin 128) :
    step (BitVec.ofNat 32 σ.val) st b w ea et (ix2 p n)
      = decay (BitVec.ofNat 32 σ.val) ea et (ix2 p n) * st (ix4 0 0 p n)
        + ∑ i : Fin 8, (w (ix2 p (⟨8 * σ.val + i.val, by omega⟩ : Fin 128)) : EReal) * b (ix2 (⟨8 * σ.val + i.val, by omega⟩ : Fin 128) (⟨p.val / 512 * 128 + n.val, by omega⟩ : Fin 512)) := by
  pointwise [step, k0_pay65]
  refine congrArg _ ?_
  split
  · exact group_at σ b w 0 (by decide) _ _ _ p n (by dsimp only; omega)
  · split
    · exact group_at σ b w 1 (by decide) _ _ _ p n (by dsimp only; omega)
    · split
      · exact group_at σ b w 2 (by decide) _ _ _ p n (by dsimp only; omega)
      · exact group_at σ b w 3 (by decide) _ _ _ p n (by dsimp only; omega)

end Cert.Ssd
-- ==== Proof.SsdRef.lean ====
/- The reference of the sample scan at an index. -/
module

public import proofs.«01_k».proof.Proof.Gen.Reference6Ideal.Run
public import Idealize.ShloMosaic.Lib.StableHlo.Run
public import Idealize.ShloMosaic.Lib.Tactic
public import Idealize.ShloMosaic.Lib.Pointwise
public import Idealize.ShloMosaic.Lib.Tactic.CleanTypes

@[expose] public section

noncomputable section

open Idealize.ShloMosaic Idealize.ShloMosaic.TcCoe Idealize.SL.Sem

namespace Cert.Ssd

open Cert.Reference6Ideal Cert.Reference6Ideal.Gen Cert.Reference6Ideal.Value

variable {F : FTy → Type} [FloatOps F]

def rfull (x : FVec F S17408x3072 .bf16) (st : FVec F S2x128x3x3072 .f32) : FVec F S128x11x3072 .f32 :=
  concatenate S128x11x3072 1 [⟨S128x3x3072, (shapeCast _ (extractStridedSlice S1x128x3x3072 ![0, 0, 0, 0] st slices_S2x128x3x3072_S1x128x3x3072_0_0_0_0) shapeCasts_S1x128x3x3072_S128x3x3072)⟩, ⟨S128x8x3072, (extf .f32 (shapeCast _ (extractStridedSlice S1024x3072 ![16384, 0] x slices_S17408x3072_S1024x3072_16384_0) shapeCasts_S1024x3072_S128x8x3072) bitsLt_bf16_f32)⟩] concatenates_S128x3x3072_S128x8x3072_S128x11x3072_d1

def rrow (w : FVec F S3072 .f32) : FVec F S128x8x3072 .f32 :=
  broadcastInDim S128x8x3072 ![0, 1, 2] bcast_S1x1x3072_S128x8x3072_0_1_2 (broadcastInDim S1x1x3072 ![2] bcast_S3072_S1x1x3072_2 w)

def rw4 (cw : FVec F S2x4x3072 .f32) : FVec F S4x3072 .f32 :=
  shapeCast _ (extractStridedSlice S1x4x3072 ![0, 0, 0] cw slices_S2x4x3072_S1x4x3072_0_0_0) shapeCasts_S1x4x3072_S4x3072

def rconv (x : FVec F S17408x3072 .bf16) (st : FVec F S2x128x3x3072 .f32) (cw : FVec F S2x4x3072 .f32) (cb : FVec F S2x3072 .f32) : FVec F S128x8x3072 .f32 :=
  addf (addf (addf (addf (rrow (shapeCast _ (extractStridedSlice S1x3072 ![0, 0] cb slices_S2x3072_S1x3072_0_0) shapeCasts_S1x3072_S3072))
    (mulf (extractStridedSlice S128x8x3072 ![0, 0, 0] (rfull x st) slices_S128x11x3072_S128x8x3072_0_0_0) (rrow (shapeCast _ (extractStridedSlice S1x3072 ![0, 0] (rw4 cw) slices_S4x3072_S1x3072_0_0) shapeCasts_S1x3072_S3072))))
    (mulf (extractStridedSlice S128x8x3072 ![0, 1, 0] (rfull x st) slices_S128x11x3072_S128x8x3072_0_1_0) (rrow (shapeCast _ (extractStridedSlice S1x3072 ![1, 0] (rw4 cw) slices_S4x3072_S1x3072_1_0) shapeCasts_S1x3072_S3072))))
    (mulf (extractStridedSlice S128x8x3072 ![0, 2, 0] (rfull x st) slices_S128x11x3072_S128x8x3072_0_2_0) (rrow (shapeCast _ (extractStridedSlice S1x3072 ![2, 0] (rw4 cw) slices_S4x3072_S1x3072_2_0) shapeCasts_S1x3072_S3072))))
    (mulf (extractStridedSlice S128x8x3072 ![0, 3, 0] (rfull x st) slices_S128x11x3072_S128x8x3072_0_3_0) (rrow (shapeCast _ (extractStridedSlice S1x3072 ![3, 0] (rw4 cw) slices_S4x3072_S1x3072_3_0) shapeCasts_S1x3072_S3072)))

def rsilu (y : FVec F S128x8x3072 .f32) : FVec F S128x8x3072 .f32 :=
  mulf y (Host.divf (broadcastInDim S128x8x3072 ![] bcast_S_S128x8x3072 (constant S_ .f32 0x3F800000#32)) (addf (broadcastInDim S128x8x3072 ![] bcast_S_S128x8x3072 (constant S_ .f32 0x3F800000#32)) (Host.exp (Host.negf y))))

def rdt (dt : FVec F S17408x128 .f32) : FVec F S128x8x32 .f32 :=
  shapeCast _ (extractStridedSlice S1024x32 ![16384, 0] dt slices_S17408x128_S1024x32_16384_0) shapeCasts_S1024x32_S128x8x32

def radt (dt : FVec F S17408x128 .f32) (al : FVec F S2x32 .f32) : FVec F S128x4x8x8 .f32 :=
  transpose S128x4x8x8 [0, 2, 3, 1] (shapeCast _ (mulf (rdt dt) (broadcastInDim S128x8x32 ![0, 1, 2] bcast_S1x1x32_S128x8x32_0_1_2 (broadcastInDim S1x1x32 ![2] bcast_S32_S1x1x32_2 (Host.negf (Host.exp (shapeCast _ (extractStridedSlice S1x32 ![0, 0] al slices_S2x32_S1x32_0_0) shapeCasts_S1x32_S32)))))) shapeCasts_S128x8x32_S128x8x4x8) transposes_S128x8x4x8_S128x4x8x8_0_2_3_1

def rsums (a : FVec F S128x4x8x8 .f32) : FVec F S128x4x8x8 .f32 :=
  Host.reduceWindowAdd ![1, 1, 1, 8] ![1, 1, 1, 1] ![0, 0, 0, 7] ![0, 0, 0, 0] a (broadcastInDim S_ ![] bcast_S_S_ (constant S_ .f32 0x00000000#32)) reduceWindows_S128x4x8x8_S128x4x8x8_w1s1p0_0_w1s1p0_0_w1s1p0_0_w8s1p7_0 h_S_

def rxdt (y : FVec F S128x8x3072 .f32) (d : FVec F S128x8x32 .f32) : FVec F S128x8x4x8x64 .f32 :=
  shapeCast _ (mulf (shapeCast _ (extractStridedSlice S128x8x2048 ![0, 0, 0] y slices_S128x8x3072_S128x8x2048_0_0_0) shapeCasts_S128x8x2048_S128x8x32x64)
    (broadcastInDim S128x8x32x64 ![0, 1, 2, 3] bcast_S128x8x32x1_S128x8x32x64_0_1_2_3 (broadcastInDim S128x8x32x1 ![0, 1, 2] bcast_S128x8x32_S128x8x32x1_0_1_2 d))) shapeCasts_S128x8x32x64_S128x8x4x8x64

def rtail (cs : FVec F S128x4x8x8 .f32) : FVec F S128x8x4x8x64 .f32 :=
  broadcastInDim S128x8x4x8x64 ![0, 1, 2, 3, 4] bcast_S128x8x4x8x1_S128x8x4x8x64_0_1_2_3_4 (broadcastInDim S128x8x4x8x1 ![0, 1, 2, 3] bcast_S128x8x4x8_S128x8x4x8x1_0_1_2_3 (transpose S128x8x4x8 [0, 3, 1, 2] (Host.exp (subf (broadcastInDim S128x4x8x8 ![0, 1, 2, 3] bcast_S128x4x8x1_S128x4x8x8_0_1_2_3 (extractStridedSlice S128x4x8x1 ![0, 0, 0, 7] cs slices_S128x4x8x8_S128x4x8x1_0_0_0_7)) cs)) transposes_S128x4x8x8_S128x8x4x8_0_3_1_2))

def rsts (u : FVec F S128x8x4x8x64 .f32) (y : FVec F S128x8x3072 .f32) : FVec F S128x4x8x64x128 .f32 :=
  Host.dotGeneral dot_S128x8x4x8x64_S128x8x4x128_S128x4x8x64x128_1_1_34_3_02_02 none u (shapeCast _ (extractStridedSlice S128x8x512 ![0, 0, 2048] y slices_S128x8x3072_S128x8x512_0_0_2048) shapeCasts_S128x8x512_S128x8x4x128)

def rold (cs : FVec F S128x4x8x8 .f32) (h : FVec F S2x128x32x64x128 .f32) : FVec F S128x4x8x64x128 .f32 :=
  mulf (broadcastInDim S128x4x8x64x128 ![0, 1, 2, 3, 4] bcast_S128x4x8x1x1_S128x4x8x64x128_0_1_2_3_4 (broadcastInDim S128x4x8x1x1 ![0, 1, 2] bcast_S128x4x8_S128x4x8x1x1_0_1_2 (Host.exp (shapeCast _ (extractStridedSlice S128x4x8x1 ![0, 0, 0, 7] cs slices_S128x4x8x8_S128x4x8x1_0_0_0_7) shapeCasts_S128x4x8x1_S128x4x8))))
   (shapeCast _ (shapeCast _ (extractStridedSlice S1x128x32x64x128 ![0, 0, 0, 0, 0] h slices_S2x128x32x64x128_S1x128x32x64x128_0_0_0_0_0) shapeCasts_S1x128x32x64x128_S128x32x64x128) shapeCasts_S128x32x64x128_S128x4x8x64x128)

def rout (a : FVec F S128x4x8x64x128 .f32) : FVec F S2x128x2048x128 .f32 :=
  concatenate S2x128x2048x128 0 [⟨S1x128x2048x128, (broadcastInDim S1x128x2048x128 ![1, 2, 3] bcast_S128x2048x128_S1x128x2048x128_1_2_3 (shapeCast _ a shapeCasts_S128x4x8x64x128_S128x2048x128))⟩, ⟨S1x128x2048x128, (broadcastInDim S1x128x2048x128 ![1, 2, 3] bcast_S128x2048x128_S1x128x2048x128_1_2_3 (shapeCast _ a shapeCasts_S128x4x8x64x128_S128x2048x128))⟩] concatenates_S1x128x2048x128_S1x128x2048x128_S2x128x2048x128_d0

theorem res_eq (m : (ℓ : Loc nD τ sig) → Buf (Elt F) ℓ) (c : Dev nD) :
    res_main_v85 m c = (let y := rsilu (rconv (m ((c.tc : Thread nD τ).loc main_arg0)) (m ((c.tc : Thread nD τ).loc main_arg4)) (m ((c.tc : Thread nD τ).loc main_arg7)) (m ((c.tc : Thread nD τ).loc main_arg8)))
      let d := m ((c.tc : Thread nD τ).loc main_arg1)
      let cs := rsums (radt d (m ((c.tc : Thread nD τ).loc main_arg6)))
      rout (addf (rold cs (m ((c.tc : Thread nD τ).loc main_arg5))) (rsts (mulf (rxdt y (rdt d)) (rtail cs)) y))) := rfl

theorem rout_at (a : FVec Ideal S128x4x8x64x128 .f32) (d : Fin 2) (q : Fin 128) (p : Fin 2048) (n : Fin 128) :
    rout a (ix4 d q p n) = a (ix5 q (⟨p.val / 512, by omega⟩ : Fin 4) (⟨p.val / 64 % 8, by omega⟩ : Fin 8) (⟨p.val % 64, by omega⟩ : Fin 64) n) := by
  pointwise [rout]
  exact ite_self _

theorem rold_at (cs : FVec Ideal S128x4x8x8 .f32) (h : FVec Ideal S2x128x32x64x128 .f32) (q : Fin 128) (g : Fin 4) (e : Fin 8) (j : Fin 64) (n : Fin 128) :
    rold cs h (ix5 q g e j n) = Ideal.exp (cs (ix4 q g e 7)) * h (ix5 0 q (⟨g.val * 8 + e.val, by omega⟩ : Fin 32) j n) := by
  pointwise [rold]

theorem rsts_at (u : FVec Ideal S128x8x4x8x64 .f32) (y : FVec Ideal S128x8x3072 .f32) (q : Fin 128) (g : Fin 4) (e : Fin 8) (j : Fin 64) (n : Fin 128) :
    rsts u y (ix5 q g e j n) = ∑ i : Fin 8, u (ix5 q i g e j) * y (ix3 q i (⟨2048 + (g.val * 128 + n.val), by omega⟩ : Fin 3072)) := by
  pointwise [rsts]

theorem rtail_at (cs : FVec Ideal S128x4x8x8 .f32) (q : Fin 128) (i : Fin 8) (g : Fin 4) (e : Fin 8) (j : Fin 64) :
    rtail cs (ix5 q i g e j) = Ideal.exp (cs (ix4 q g e 7) - cs (ix4 q g e i)) := by
  pointwise [rtail]

theorem rxdt_at (y : FVec Ideal S128x8x3072 .f32) (d : FVec Ideal S128x8x32 .f32) (q : Fin 128) (i : Fin 8) (g : Fin 4) (e : Fin 8) (j : Fin 64) :
    rxdt y d (ix5 q i g e j) = y (ix3 q i (⟨(g.val * 8 + e.val) * 64 + j.val, by omega⟩ : Fin 3072)) * d (ix3 q i (⟨g.val * 8 + e.val, by omega⟩ : Fin 32)) := by
  pointwise [rxdt]

theorem window_at : ∀ (n : Fin 8) (a : Fin 4), ((⟨4, ![1, 1, 1, 8]⟩ : Shape).rowMajor.symm n a).val = (![0, 0, 0, n.val] : Fin 4 → Nat) a := by
  decide +kernel

theorem term_at (a : FVec Ideal S128x4x8x8 .f32) (q : Fin 128) (g : Fin 4) (e : Fin 8) (i n : Fin 8) (w : Fin 4 → Nat) (hw : ∀ b, w b = (![0, 0, 0, n.val] : Fin 4 → Nat) b) :
    (if hin : ∀ b : Fin 4, (![0, 0, 0, 7] : Fin 4 → Nat) b ≤ ((ix4 q g e i : S128x4x8x8.Idx) b).val * (![1, 1, 1, 1] : Fin 4 → Nat) b + w b
        ∧ ((ix4 q g e i : S128x4x8x8.Idx) b).val * (![1, 1, 1, 1] : Fin 4 → Nat) b + w b - (![0, 0, 0, 7] : Fin 4 → Nat) b < S128x4x8x8.size b
      then a (fun b => ⟨((ix4 q g e i : S128x4x8x8.Idx) b).val * (![1, 1, 1, 1] : Fin 4 → Nat) b + w b - (![0, 0, 0, 7] : Fin 4 → Nat) b, (hin b).2⟩) else (0 : EReal))
    = if h : 7 ≤ i.val + n.val then a (ix4 q g e ⟨i.val + n.val - 7, by omega⟩) else 0 := by
  have w0 := hw 0; have w1 := hw 1; have w2 := hw 2; have w3 := hw 3
  change w 0 = 0 at w0; change w 1 = 0 at w1; change w 2 = 0 at w2; change w 3 = n.val at w3
  by_cases h : 7 ≤ i.val + n.val
  · rw [dif_pos h, dif_pos]
    · congr 1; funext b; apply Fin.ext
      match b with
      | ⟨0, _⟩ => show q.val * 1 + w 0 - 0 = q.val; omega
      | ⟨1, _⟩ => show g.val * 1 + w 1 - 0 = g.val; omega
      | ⟨2, _⟩ => show e.val * 1 + w 2 - 0 = e.val; omega
      | ⟨3, _⟩ => show i.val * 1 + w 3 - 7 = i.val + n.val - 7; omega
    · intro b
      match b with
      | ⟨0, _⟩ => show 0 ≤ q.val * 1 + w 0 ∧ q.val * 1 + w 0 - 0 < 128; omega
      | ⟨1, _⟩ => show 0 ≤ g.val * 1 + w 1 ∧ g.val * 1 + w 1 - 0 < 4; omega
      | ⟨2, _⟩ => show 0 ≤ e.val * 1 + w 2 ∧ e.val * 1 + w 2 - 0 < 8; omega
      | ⟨3, _⟩ => show 7 ≤ i.val * 1 + w 3 ∧ i.val * 1 + w 3 - 7 < 8; omega
  · rw [dif_neg h, dif_neg]
    intro hb
    have h3 : 7 ≤ i.val * 1 + w 3 := (hb 3).1
    omega

theorem rsums_at (a : FVec Ideal S128x4x8x8 .f32) (q : Fin 128) (g : Fin 4) (e : Fin 8) (i : Fin 8) :
    rsums a (ix4 q g e i) = ∑ k : Fin 8, if k.val ≤ i.val then a (ix4 q g e k) else 0 := by
  have z : Ideal.ofBits .f32 0x00000000#32 = 0 := by pointwise
  have e0 : rsums a (ix4 q g e i) = (List.finRange 8).foldl (fun r n => r + if h : 7 ≤ i.val + n.val then a (ix4 q g e ⟨i.val + n.val - 7, by omega⟩) else 0) 0 := by
    refine Eq.trans (b := (List.finRange 8).foldl (fun r (n : Fin 8) => r + if hin : ∀ b : Fin 4, (![0, 0, 0, 7] : Fin 4 → Nat) b ≤ ((ix4 q g e i : S128x4x8x8.Idx) b).val * (![1, 1, 1, 1] : Fin 4 → Nat) b + ((⟨4, ![1, 1, 1, 8]⟩ : Shape).rowMajor.symm n b).val
        ∧ ((ix4 q g e i : S128x4x8x8.Idx) b).val * (![1, 1, 1, 1] : Fin 4 → Nat) b + ((⟨4, ![1, 1, 1, 8]⟩ : Shape).rowMajor.symm n b).val - (![0, 0, 0, 7] : Fin 4 → Nat) b < S128x4x8x8.size b
      then a (fun b => ⟨((ix4 q g e i : S128x4x8x8.Idx) b).val * (![1, 1, 1, 1] : Fin 4 → Nat) b + ((⟨4, ![1, 1, 1, 8]⟩ : Shape).rowMajor.symm n b).val - (![0, 0, 0, 7] : Fin 4 → Nat) b, (hin b).2⟩) else Ideal.ofBits .f32 0x00000000#32) (Ideal.ofBits .f32 0x00000000#32)) ?_ ?_
    · delta rsums Host.reduceWindowAdd
      rw [Ideal.hostReduceWindowAdd_def]
      delta Ideal.hostReduceWindowAdd Host.reduceWindow
      show List.foldl _ (Ideal.ofBits .f32 0x00000000#32) (List.finRange 8) = _
      refine congrArg (fun f => List.foldl f (Ideal.ofBits .f32 0x00000000#32) (List.finRange 8)) ?_
      funext r n
      refine congrArg (r + ·) ?_
      exact dite_congr rfl (fun _ => rfl) (fun _ => rfl)
    · rw [z]
      congr 1; funext r n
      rw [term_at a q g e i n _ (window_at n)]
  rw [e0]
  simp only [Fin.sum_univ_eight]
  fin_cases i <;> simp [List.finRange, List.ofFn, Fin.foldr, Fin.foldr.loop, add_assoc]

theorem radt_at (dt : FVec Ideal S17408x128 .f32) (al : FVec Ideal S2x32 .f32) (q : Fin 128) (g : Fin 4) (e : Fin 8) (i : Fin 8) :
    radt dt al (ix4 q g e i) = dt (ix2 (⟨16384 + (q.val * 8 + i.val), by omega⟩ : Fin 17408) (⟨g.val * 8 + e.val, by omega⟩ : Fin 128)) * -(Ideal.exp (al (ix2 0 (⟨g.val * 8 + e.val, by omega⟩ : Fin 32)))) := by
  pointwise [radt, rdt]

theorem rsilu_at (y : FVec Ideal S128x8x3072 .f32) (i : S128x8x3072.Idx) : rsilu y i = y i * Ideal.div 1 (1 + Ideal.exp (- (y i))) := by
  pointwise [rsilu]

theorem rconv_at (x : FVec Ideal S17408x3072 .bf16) (st : FVec Ideal S2x128x3x3072 .f32) (cw : FVec Ideal S2x4x3072 .f32) (cb : FVec Ideal S2x3072 .f32) (q : Fin 128) (i : Fin 8) (k : Fin 3072) :
    rconv x st cw cb (ix3 q i k) = cb (ix2 0 k) + rfull x st (ix3 q (⟨i.val, by omega⟩ : Fin 11) k) * cw (ix3 0 0 k)
      + rfull x st (ix3 q (⟨1 + i.val, by omega⟩ : Fin 11) k) * cw (ix3 0 1 k) + rfull x st (ix3 q (⟨2 + i.val, by omega⟩ : Fin 11) k) * cw (ix3 0 2 k)
      + rfull x st (ix3 q (⟨3 + i.val, by omega⟩ : Fin 11) k) * cw (ix3 0 3 k) := by
  pointwise [rconv, rrow, rw4]

theorem rfull_at (x : FVec Ideal S17408x3072 .bf16) (st : FVec Ideal S2x128x3x3072 .f32) (q : Fin 128) (i : Fin 11) (k : Fin 3072) :
    rfull x st (ix3 q i k) = if h : i.val < 3 then st (ix4 0 q ⟨i.val, h⟩ k) else x (ix2 (⟨16384 + (q.val * 8 + (i.val - 3)), by omega⟩ : Fin 17408) k) := by
  pointwise [rfull]

end Cert.Ssd
-- ==== Proof.SsdKernel.lean ====
/- The states of the sample scan over its arguments, against the reference's. -/
module

public import proofs.«01_k».proof.Proof.SsdBlocks
public import proofs.«01_k».proof.Proof.SsdSums
public import proofs.«01_k».proof.Proof.SsdRef

@[expose] public section

noncomputable section

open Idealize.ShloMosaic Idealize.ShloMosaic.TcCoe Idealize.SL.Sem

namespace Cert.Ssd

open Cert.Kernel6Ideal Cert.Kernel6Ideal.Gen Cert.Kernel6Ideal.Value

variable (m : (ℓ : Loc nD τ sig) → Buf (Elt Ideal) ℓ) (c : Dev nD)

abbrev xs : FVec Ideal S17408x3072 .bf16 := m ((c : Thread nD τ).loc main_arg0)
abbrev dts : FVec Ideal S17408x128 .f32 := m ((c : Thread nD τ).loc main_arg1)
abbrev sts : FVec Ideal S2x128x3x3072 .f32 := m ((c : Thread nD τ).loc main_arg4)
abbrev hs : FVec Ideal S2x128x32x64x128 .f32 := m ((c : Thread nD τ).loc main_arg5)
abbrev als : FVec Ideal S2x32 .f32 := m ((c : Thread nD τ).loc main_arg6)
abbrev cws : FVec Ideal S2x4x3072 .f32 := m ((c : Thread nD τ).loc main_arg7)
abbrev cbs : FVec Ideal S2x3072 .f32 := m ((c : Thread nD τ).loc main_arg8)

/-- What has to be a real number for a value less itself to be none. -/
structure Reals : Prop where
  dt : ∀ (r : Fin 1024) (l : Fin 32), IsReal (dts m c (ix2 (⟨16384 + r.val, by omega⟩ : Fin 17408) (⟨l.val, by omega⟩ : Fin 128)))
  st : ∀ (q : Fin 128) (j : Fin 3) (k : Fin 3072), IsReal (sts m c (ix4 0 q j k))
  al : ∀ l : Fin 32, IsReal (als m c (ix2 0 l))

variable (H : Reals m c) (o : Fin cfg0.N) (σ : Fin 16)

/-- The sequence a block's rows belong to, -/
def seq : Fin 128 := ⟨16 * (o.val / 4) + σ.val, by have := points o; omega⟩

/-- and its rows in the block. -/
def rowAt (i : Fin 8) : Fin 128 := ⟨8 * σ.val + i.val, by omega⟩

theorem own_row (i : Fin 8) (k : Fin 3072) :
    iblk m c 0 o (ix2 (rowAt σ i) k) = rfull (xs m c) (sts m c) (ix3 (seq o σ) (⟨3 + i.val, by omega⟩ : Fin 11) k) := by
  rw [blk_0, rfull_at, dif_neg (show ¬ (⟨3 + i.val, by omega⟩ : Fin 11).val < 3 by dsimp only; omega)]
  refine congrArg (xs m c) (congrArg (fun a => ix2 a k) (Fin.ext ?_))
  show 16384 + (128 * (o.val / 4) + (8 * σ.val + i.val)) = 16384 + ((16 * (o.val / 4) + σ.val) * 8 + (3 + i.val - 3))
  omega

include H

theorem earlier (s : Fin 3) (i : Fin 8) (k : Fin 3072) (ρ : Fin 384) (hρ : ρ.val = 128 * s.val + (rowAt σ i).val) (f : Fin 11) (hf : f.val = 2 - s.val + i.val) :
    tap (iblk m c 0 o) (iblk m c 1 o) (iblk m c 8 o) ρ k = rfull (xs m c) (sts m c) (ix3 (seq o σ) f k) := by
  have hr : (rowAt σ i).val % 8 = i.val := by show (8 * σ.val + i.val) % 8 = i.val; omega
  have hv : (rowAt σ i).val = 8 * σ.val + i.val := rfl
  have ho := points o
  rw [tap_at (iblk m c 0 o) (iblk m c 1 o) (iblk m c 8 o) ρ k (s.val + 1) (by omega) (rowAt σ i) (fun x => blk_8 m c o s (rowAt σ i) x ρ hρ) ?_ (by omega), rfull_at]
  · by_cases h : s.val + 1 ≤ i.val
    · rw [dif_pos (by omega), dif_neg (by omega), blk_0]
      refine congrArg (xs m c) (congrArg (fun a => ix2 a k) (Fin.ext ?_))
      show 16384 + (128 * (o.val / 4) + ((rowAt σ i).val - (s.val + 1))) = 16384 + ((16 * (o.val / 4) + σ.val) * 8 + (f.val - 3))
      omega
    · have hu : ∀ j : Nat, j < 8 → (128 * (o.val / 4) + (8 * σ.val + j)) % 8 = j ∧ (128 * (o.val / 4) + (8 * σ.val + j)) / 8 = 16 * (o.val / 4) + σ.val := fun j hj => ⟨by omega, by omega⟩
      obtain ⟨m8, d8⟩ := hu (7 + i.val - s.val) (by omega)
      have hj : (rowAt σ i).val + 8 - (s.val + 1) = 8 * σ.val + (7 + i.val - s.val) := by omega
      rw [← hj] at m8 d8
      rw [dif_neg (by omega), dif_pos (show f.val < 3 by omega), blk_1, befores_at,
        dif_pos (show 5 ≤ (128 * (o.val / 4) + ((rowAt σ i).val + 8 - (s.val + 1))) % 8 by rw [m8]; omega)]
      refine congrArg (sts m c) ?_
      have e1 : (⟨(128 * (o.val / 4) + ((rowAt σ i).val + 8 - (s.val + 1))) / 8, by rw [d8]; omega⟩ : Fin 128) = seq o σ := Fin.ext d8
      have e2 : (⟨(128 * (o.val / 4) + ((rowAt σ i).val + 8 - (s.val + 1))) % 8 - 5, by rw [m8]; omega⟩ : Fin 3) = ⟨f.val, by omega⟩ := Fin.ext (by
        show (128 * (o.val / 4) + ((rowAt σ i).val + 8 - (s.val + 1))) % 8 - 5 = f.val; rw [m8]; omega)
      exact congrArg₂ (fun a b => ix4 (0 : Fin 2) a b k) e1 e2
  · intro u hu
    rw [blk_1, befores_at, dif_pos (show 5 ≤ (128 * (o.val / 4) + u.val) % 8 by omega)]
    exact (H.st _ _ _).sub_self

/-- The convolution's rows after the activation. -/
def acts : FVec Ideal S128x8x3072 .f32 := rsilu (rconv (xs m c) (sts m c) (cws m c) (cbs m c))

theorem conv_ref (i : Fin 8) (k : Fin 3072) : convOf m c o (ix2 (rowAt σ i) k) = acts m c (ix3 (seq o σ) i k) := by
  unfold convOf acts
  rw [rsilu_at, rconv_at]
  refine (conv_at _ _ _ _ _ (rowAt σ i) k _ rfl).trans ?_
  rw [earlier m c H o σ 0 i k _ (by show (rowAt σ i).val = 128 * 0 + (rowAt σ i).val; omega) ⟨2 + i.val, by omega⟩ rfl,
    earlier m c H o σ 1 i k _ rfl ⟨1 + i.val, by omega⟩ rfl,
    earlier m c H o σ 2 i k _ rfl ⟨i.val, by omega⟩ (by show i.val = 2 - 2 + i.val; omega),
    own_row, blk_6, blk_6, blk_6, blk_6, blk_7, zero_sub]
  have e : ∀ b a0 a1 a2 a3 : EReal, b + a3 + a2 + a1 + a0 = b + a0 + a1 + a2 + a3 := fun b a0 a1 a2 a3 => by ac_rfl
  exact congrArg (fun z : EReal => z * Ideal.div 1 (1 + Ideal.exp (-z))) (e _ _ _ _ _)

/-- The exponents of a block. -/
def exps (k l : Fin 128) : EReal := adt (iblk m c 2 o) (iblk m c 5 o) k l

theorem exps_real (k l : Fin 128) : IsReal (exps m c o k l) := by
  unfold exps adt
  by_cases h : l.val < 32
  · rw [if_pos h, blk_2, blk_5, logs_at, dif_pos h, zero_sub]
    exact (H.dt ⟨128 * (o.val / 4) + k.val, by have := points o; omega⟩ ⟨l.val, h⟩).mul (H.al ⟨l.val, h⟩).exp.neg
  · rw [if_neg h, mul_zero]
    exact IsReal.zero

/-- The reference's running sums. -/
def runs : FVec Ideal Cert.Reference6Ideal.S128x4x8x8 .f32 := rsums (radt (dts m c) (als m c))

variable (p : Fin 2048)

theorem exps_ref (i : Fin 8) :
    exps m c o (rowAt σ i) (⟨p.val / 64, by omega⟩ : Fin 128)
      = radt (dts m c) (als m c) (ix4 (seq o σ) (⟨p.val / 512, by omega⟩ : Fin 4) (⟨p.val / 64 % 8, by omega⟩ : Fin 8) i) := by
  have e : p.val / 512 * 8 + p.val / 64 % 8 = p.val / 64 := by omega
  unfold exps adt
  rw [if_pos (show p.val / 64 < 32 by omega), blk_2, blk_5, logs_at, dif_pos (show p.val / 64 < 32 by omega), zero_sub, radt_at]
  have e1 : (⟨p.val / 512 * 8 + p.val / 64 % 8, by omega⟩ : Fin 32) = ⟨p.val / 64, by omega⟩ := Fin.ext e
  have e2 : (⟨p.val / 512 * 8 + p.val / 64 % 8, by omega⟩ : Fin 128) = ⟨p.val / 64, by omega⟩ := Fin.ext e
  have e3 : (⟨16384 + (128 * (o.val / 4) + (rowAt σ i).val), by have := points o; omega⟩ : Fin 17408) = ⟨16384 + ((seq o σ).val * 8 + i.val), by omega⟩ := Fin.ext (by
    show 16384 + (128 * (o.val / 4) + (8 * σ.val + i.val)) = 16384 + ((16 * (o.val / 4) + σ.val) * 8 + i.val); omega)
  rw [e3]
  refine congrArg₂ (fun (a : EReal) (b : EReal) => a * -(Ideal.exp b)) (congrArg (fun l => dts m c (ix2 _ l)) e2.symm) (congrArg (fun l => als m c (ix2 0 l)) e1.symm)

theorem sums_ref (i : Fin 8) :
    k0_pay9 (iblk m c 2 o) (iblk m c 5 o) (iblk m c 9 o) (iblk m c 10 o) (ix2 (rowAt σ i) (⟨p.val / 64, by omega⟩ : Fin 128))
      = runs m c (ix4 (seq o σ) (⟨p.val / 512, by omega⟩ : Fin 4) (⟨p.val / 64 % 8, by omega⟩ : Fin 8) i) := by
  rw [sums_at _ _ _ _ _ _ fun k => (exps_real m c H o k _).sub_self]
  unfold runs
  rw [rsums_at]
  simp only [← exps_ref m c H o σ p]
  refine Eq.trans ?_ ((sum_rows σ (fun j => if j.val ≤ (rowAt σ i).val then exps m c o j (⟨p.val / 64, by omega⟩ : Fin 128) else 0)).trans ?_)
  · refine Finset.sum_congr rfl fun k _ => ?_
    rw [blk_9]
    have hr : (rowAt σ i).val / 8 = σ.val := by show (8 * σ.val + i.val) / 8 = σ.val; omega
    rw [hr]
    by_cases h1 : k.val / 8 = σ.val
    · rw [if_pos h1.symm, if_pos h1, mul_one]
      split
      · exact one_mul _
      · exact zero_mul _
    · rw [if_neg (show ¬ σ.val = k.val / 8 from fun e => h1 e.symm), if_neg h1, mul_zero, zero_mul]
  · refine Finset.sum_congr rfl fun k _ => ?_
    refine if_congr ?_ rfl rfl
    show 8 * σ.val + k.val ≤ 8 * σ.val + i.val ↔ k.val ≤ i.val
    omega

theorem totals_ref (i : Fin 8) :
    k0_pay10 (iblk m c 2 o) (iblk m c 5 o) (iblk m c 9 o) (iblk m c 10 o) (ix2 (rowAt σ i) (⟨p.val / 64, by omega⟩ : Fin 128))
      = runs m c (ix4 (seq o σ) (⟨p.val / 512, by omega⟩ : Fin 4) (⟨p.val / 64 % 8, by omega⟩ : Fin 8) 7) := by
  rw [totals_at _ _ _ _ _ _ fun k => (exps_real m c H o k _).sub_self]
  unfold runs
  rw [rsums_at]
  simp only [← exps_ref m c H o σ p]
  refine Eq.trans ?_ ((sum_rows σ (fun j => exps m c o j (⟨p.val / 64, by omega⟩ : Fin 128))).trans ?_)
  · refine Finset.sum_congr rfl fun k _ => ?_
    rw [blk_10]
    have hr : (rowAt σ i).val / 8 = σ.val := by show (8 * σ.val + i.val) / 8 = σ.val; omega
    rw [hr]
    by_cases h1 : k.val / 8 = σ.val
    · rw [if_pos h1.symm, if_pos h1]
      exact one_mul _
    · rw [if_neg (fun e => h1 e.symm), if_neg h1, zero_mul]
  · refine Finset.sum_congr rfl fun k _ => ?_
    exact (if_pos (show k.val ≤ 7 by omega)).symm

theorem runs_real (i : Fin 8) : IsReal (runs m c (ix4 (seq o σ) (⟨p.val / 512, by omega⟩ : Fin 4) (⟨p.val / 64 % 8, by omega⟩ : Fin 8) i)) := by
  unfold runs
  rw [rsums_at]
  refine IsReal.sum _ _ fun k => ?_
  split
  · rw [← exps_ref m c H o σ p]
    exact exps_real m c H o _ _
  · exact IsReal.zero

theorem bs_ref (i : Fin 8) (n : Fin 512) : bsOf m c o (ix2 (rowAt σ i) n) = acts m c (ix3 (seq o σ) i (⟨2048 + n.val, by omega⟩ : Fin 3072)) := by
  rw [← conv_ref m c H o σ]
  unfold bsOf
  generalize convOf m c o = y
  pointwise [k0_pay54, k0_pay6]

theorem dt_ref (i : Fin 8) : iblk m c 2 o (ix2 (rowAt σ i) (⟨p.val / 64, by omega⟩ : Fin 128))
    = rdt (dts m c) (ix3 (seq o σ) i (⟨p.val / 64, by omega⟩ : Fin 32)) := by
  rw [blk_2]
  generalize hd : m ((c : Thread nD τ).loc main_arg1) = d
  have e3 : (⟨16384 + (128 * (o.val / 4) + (rowAt σ i).val), by have := points o; omega⟩ : Fin 17408) = ⟨16384 + ((seq o σ).val * 8 + i.val), by omega⟩ := Fin.ext (by
    show 16384 + (128 * (o.val / 4) + (8 * σ.val + i.val)) = 16384 + ((16 * (o.val / 4) + σ.val) * 8 + i.val); omega)
  rw [e3]
  pointwise [rdt, dts]
  rw [hd]

omit H in
theorem kept_weights (w : FVec Ideal S2048x128 .bf16) (i : S2048x128.Idx) : k0_pay55 w i = w i := by
  pointwise [k0_pay55]

theorem ws_ref (i : Fin 8) :
    wsOf m c o (ix2 p (rowAt σ i))
      = (acts m c (ix3 (seq o σ) i (⟨p.val, by omega⟩ : Fin 3072)) * rdt (dts m c) (ix3 (seq o σ) i (⟨p.val / 64, by omega⟩ : Fin 32)))
        * Ideal.exp (runs m c (ix4 (seq o σ) (⟨p.val / 512, by omega⟩ : Fin 4) (⟨p.val / 64 % 8, by omega⟩ : Fin 8) 7)
          - runs m c (ix4 (seq o σ) (⟨p.val / 512, by omega⟩ : Fin 4) (⟨p.val / 64 % 8, by omega⟩ : Fin 8) i)) := by
  have hem : ∀ l : Fin 128, k0_pay3 (iblk m c 11 o) (ix2 l p) = if p.val / 64 = l.val then (1 : EReal) else 0 := fun l => by
    rw [← blk_11 m c o l p]
    generalize iblk m c 11 o = e
    pointwise [k0_pay3]
  have hx : k0_pay5 (convOf m c o) (ix2 (rowAt σ i) p) = acts m c (ix3 (seq o σ) i (⟨p.val, by omega⟩ : Fin 3072)) := by
    rw [← conv_ref m c H o σ]
    generalize convOf m c o = y
    pointwise [k0_pay5]
  have hs := sums_ref m c H o σ p i
  have ht := totals_ref m c H o σ p i
  have hd := dt_ref m c H o σ p i
  have hdr : IsReal (iblk m c 2 o (ix2 (rowAt σ i) (⟨p.val / 64, by omega⟩ : Fin 128))) := by
    rw [blk_2]
    exact H.dt ⟨128 * (o.val / 4) + (rowAt σ i).val, by have := points o; omega⟩ ⟨p.val / 64, by omega⟩
  have hr7 := runs_real m c H o σ p 7
  have hri := runs_real m c H o σ p i
  unfold wsOf
  rw [kept_weights, weights_at, spread_one _ _ p hem, spread_one _ _ p hem, spread_one _ _ p hem, spread_one _ _ p hem, hx, hs, ht, hdr.sub_self, hd, add_zero]
  have hsub : ∀ x y : EReal, IsReal x → IsReal y → IsReal (x - y) := fun x y h h' => (sub_eq_add_neg x y) ▸ h.add h'.neg
  rw [(hsub _ _ hr7 hri).exp.sub_self, add_zero]

theorem eas_ref (i : Fin 8) :
    easOf m c o (ix2 (⟨p.val / 64, by omega⟩ : Fin 128) (rowAt σ i))
      = Ideal.exp (runs m c (ix4 (seq o σ) (⟨p.val / 512, by omega⟩ : Fin 4) (⟨p.val / 64 % 8, by omega⟩ : Fin 8) 7)) := by
  rw [← totals_ref m c H o σ p i]
  unfold easOf
  generalize k0_pay10 (iblk m c 2 o) (iblk m c 5 o) (iblk m c 9 o) (iblk m c 10 o) = y
  pointwise [k0_pay56]

theorem decay_ref (et : Vec Ideal S2048x128 .bf16) (n : Fin 128) (h : ∀ l : Fin 128, et (ix2 p l) = if p.val / 64 = l.val then (1 : EReal) else 0) :
    decay (BitVec.ofNat 32 σ.val) (easOf m c o) et (ix2 p n)
      = Ideal.exp (runs m c (ix4 (seq o σ) (⟨p.val / 512, by omega⟩ : Fin 4) (⟨p.val / 64 % 8, by omega⟩ : Fin 8) 7)) := by
  have hr := (runs_real m c H o σ p 7).exp
  have hm := mean_const σ (easOf m c o) (⟨p.val / 64, by omega⟩ : Fin 128) _ hr (fun i => eas_ref m c H o σ p i)
  rw [decay_at, onehot et p _ h, onehot et p _ h, hm, hr.sub_self, zero_add]

end Cert.Ssd
-- ==== Proof.Ssd.lean ====
/- The sample scan's states tied to the reference's, given that what its kernel splits and adds back is of real numbers. -/
module

public import proofs.«01_k».proof.Pre_splits_exact
public import proofs.«01_k».proof.Proof.SsdKernel

@[expose] public section

noncomputable section

open Idealize.ShloMosaic Idealize.ShloMosaic.TcCoe Idealize.SL.Sem

/-- The facts of the function the precondition prints as. -/
instance Cert.Ssd.facts_splits : Cert.Pre_splits_exact.Facts where
  slices_S17408x128_S1024x32_16384_0 := by decide
  slices_S2x128x3x3072_S1x128x3x3072_0_0_0_0 := by decide
  shapeCasts_S1x128x3x3072_S128x3x3072 := by decide
  slices_S2x32_S1x32_0_0 := by decide
  shapeCasts_S1x32_S32 := by decide
  bcast_S_S1024x32 := by decide
  bcast_S_S128x3x3072 := by decide
  bcast_S_S32 := by decide

namespace Cert.Ssd

theorem isReal_of_abs (x : EReal) (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

open Cert.Pre_splits_exact in
/-- What the printed precondition says of the arrays. -/
theorem reals_of_pre (a0 : FVec Ideal S17408x3072 .bf16) (a1 : FVec Ideal S17408x128 .f32) (a2 a3 : FVec Ideal S17408x2048 .bf16) (a4 : FVec Ideal S2x128x3x3072 .f32)
    (a5 : FVec Ideal S2x128x32x64x128 .f32) (a6 : FVec Ideal S2x32 .f32) (a7 : FVec Ideal S2x4x3072 .f32) (a8 : FVec Ideal S2x3072 .f32) (a9 : FVec Ideal S2x32 .f32) (a10 : FVec Ideal S2x2048 .f32)
    (h1 : (fn a0 a1 a2 a3 a4 a5 a6 a7 a8 a9 a10).1 = fun _ => 1#1) (h2 : (fn a0 a1 a2 a3 a4 a5 a6 a7 a8 a9 a10).2.1 = fun _ => 1#1)
    (h3 : (fn a0 a1 a2 a3 a4 a5 a6 a7 a8 a9 a10).2.2 = fun _ => 1#1) :
    (∀ (r : Fin 1024) (l : Fin 32), IsReal (a1 (ix2 (⟨16384 + r.val, by omega⟩ : Fin 17408) (⟨l.val, by omega⟩ : Fin 128))))
    ∧ (∀ (q : Fin 128) (j : Fin 3) (k : Fin 3072), IsReal (a4 (ix4 0 q j k))) ∧ ∀ l : Fin 32, IsReal (a6 (ix2 0 l)) := by
  have abs : ∀ {s : Shape} (v : FVec Ideal s .f32) (b) (i : s.Idx), cmpf .olt (Host.absf v) (broadcastInDim s ![] b (constant S_ .f32 0x7F800000#32)) i = 1#1 → IsReal (v i) := by
    intro s v b i h
    exact isReal_of_abs _ h
  refine ⟨fun r l => ?_, fun q j k => ?_, fun l => ?_⟩
  · have e := abs _ _ _ (congrFun h1 (ix2 r l))
    generalize IsReal = P at e ⊢
    refine Eq.mp (congrArg P ?_) e
    pointwise
  · have e := abs _ _ _ (congrFun h2 (ix3 q j k))
    generalize IsReal = P at e ⊢
    refine Eq.mp (congrArg P ?_) e
    pointwise
  · have e := abs _ _ _ (congrFun h3 (ix1 l))
    generalize IsReal = P at e ⊢
    refine Eq.mp (congrArg P ?_) e
    pointwise

open Cert.Kernel6Ideal Cert.Kernel6Ideal.Gen Cert.Kernel6Ideal.Value

variable (m : (ℓ : Loc nD τ sig) → Buf (Elt Ideal) ℓ) (c : Dev nD) (H : Reals m c)

/-- The reference's value over the kernel's arguments. -/
def wanted : FVec Ideal S2x128x2048x128 .f32 :=
  rout (addf (rold (runs m c) (hs m c)) (rsts (mulf (rxdt (acts m c) (rdt (dts m c))) (rtail (runs m c))) (acts m c)))

include H

theorem states_ref (t : Fin cfg0.N) (d : Fin 2) (s : Fin 4) (p : Fin 2048) (n : Fin 128) :
    (dats m 0 c).arrAt 16 cfg0.N (ix4 d (⟨4 * t.val + s.val, by have := points t; omega⟩ : Fin 128) p n)
      = wanted m c (ix4 d (⟨4 * t.val + s.val, by have := points t; omega⟩ : Fin 128) p n) := by
  have ht := points t
  rw [array_at]
  have ho : (opener t.val t.isLt).val = t.val / 4 * 4 := rfl
  generalize opener t.val t.isLt = o at ho ⊢
  have hq : (⟨4 * t.val + s.val, by omega⟩ : Fin 128) = seq o (⟨4 * (t.val % 4) + s.val, by omega⟩ : Fin 16) := Fin.ext (by
    show 4 * t.val + s.val = 16 * (o.val / 4) + (4 * (t.val % 4) + s.val); omega)
  have hb := blk_4 m c t s p n
  rw [hq] at hb ⊢
  unfold states wanted
  rw [seqOf_at]
  generalize hσ : (⟨4 * (t.val % 4) + s.val, by omega⟩ : Fin 16) = σ at hb ⊢
  have hv : 4 * (t.val % 4) + s.val = σ.val := congrArg Fin.val hσ
  rw [hv, step_at, decay_ref m c H o σ p _ n (fun l => blk_12 m c t p l), state_at, hb, rout_at]
  have e8 : p.val / 512 * 8 + p.val / 64 % 8 = p.val / 64 := by omega
  have e64 : (p.val / 512 * 8 + p.val / 64 % 8) * 64 + p.val % 64 = p.val := by omega
  refine congrArg₂ (fun a b : EReal => a + b) ?_ ?_
  · rw [rold_at]
    refine congrArg (fun h => _ * hs m c (ix5 0 (seq o σ) h (⟨p.val % 64, by omega⟩ : Fin 64) n)) (Fin.ext ?_)
    exact e8.symm
  · rw [rsts_at]
    refine Finset.sum_congr rfl fun i _ => ?_
    refine congrArg₂ (fun a b : EReal => a * b) ?_ (bs_ref m c H o σ i _)
    refine (ws_ref m c H o σ p i).trans (congrArg₂ (fun a b : EReal => a * b) ?_ (rtail_at _ _ _ _ _ _).symm)
    rw [rxdt_at]
    exact congrArg₂ (fun a b => acts m c (ix3 (seq o σ) i a) * rdt (dts m c) (ix3 (seq o σ) i b)) (Fin.ext e64.symm) (Fin.ext e8.symm)

theorem array_ref : (dats m 0 c).arrAt 16 cfg0.N = wanted m c := by
  funext i
  have hi := eq_ix4 i
  have hq : (i 1).val < 128 := (i 1).isLt
  have h := states_ref m c H (⟨(i 1).val / 4, lt_of_lt_of_eq (by omega : (i 1).val / 4 < 32) N_0.symm⟩ : Fin cfg0.N) (i 0) (⟨(i 1).val % 4, by omega⟩ : Fin 4) (i 2) (i 3)
  have e : (⟨4 * ((i 1).val / 4) + (i 1).val % 4, by omega⟩ : Fin 128) = i 1 := Fin.ext (by show 4 * ((i 1).val / 4) + (i 1).val % 4 = (i 1).val; omega)
  dsimp only at h
  rw [e, ← hi] at h
  exact h

/-- The reference's result over its own memory, where that agrees with the kernel's. -/
theorem tie (m' : (ℓ : Loc Cert.Reference6Ideal.nD Cert.Reference6Ideal.τ Cert.Reference6Ideal.sig) → Buf (Elt Ideal) ℓ)
    (h0 : m' ((c.tc : Thread Cert.Reference6Ideal.nD Cert.Reference6Ideal.τ).loc Cert.Reference6Ideal.main_arg0) = m ((c.tc : Thread nD τ).loc main_arg0))
    (h1 : m' ((c.tc : Thread Cert.Reference6Ideal.nD Cert.Reference6Ideal.τ).loc Cert.Reference6Ideal.main_arg1) = m ((c.tc : Thread nD τ).loc main_arg1))
    (h4 : m' ((c.tc : Thread Cert.Reference6Ideal.nD Cert.Reference6Ideal.τ).loc Cert.Reference6Ideal.main_arg4) = m ((c.tc : Thread nD τ).loc main_arg4))
    (h5 : m' ((c.tc : Thread Cert.Reference6Ideal.nD Cert.Reference6Ideal.τ).loc Cert.Reference6Ideal.main_arg5) = m ((c.tc : Thread nD τ).loc main_arg5))
    (h6 : m' ((c.tc : Thread Cert.Reference6Ideal.nD Cert.Reference6Ideal.τ).loc Cert.Reference6Ideal.main_arg6) = m ((c.tc : Thread nD τ).loc main_arg6))
    (h7 : m' ((c.tc : Thread Cert.Reference6Ideal.nD Cert.Reference6Ideal.τ).loc Cert.Reference6Ideal.main_arg7) = m ((c.tc : Thread nD τ).loc main_arg7))
    (h8 : m' ((c.tc : Thread Cert.Reference6Ideal.nD Cert.Reference6Ideal.τ).loc Cert.Reference6Ideal.main_arg8) = m ((c.tc : Thread nD τ).loc main_arg8)) :
    Cert.Reference6Ideal.Value.res_main_v85 m' c = (dats m 0 c).arrAt 16 cfg0.N := by
  rw [array_ref m c H, res_eq, h0, h1, h4, h5, h6, h7, h8]
  rfl

end Cert.Ssd
-- ==== Proof.lean ====
/- The proof of the claims: each call's frame and value put beside its reference's run. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.InV
public import proofs.«01_k».proof.Proof.Gen.Kernel2
public import proofs.«01_k».proof.Proof.ExpertValue
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.MemKv
public import proofs.«01_k».proof.Proof.InXbc
public import proofs.«01_k».proof.Proof.Ffn
public import proofs.«01_k».proof.Proof.Gen.Kernel6.Frame
public import proofs.«01_k».proof.Proof.Ssd

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  exact Cert.InV.tie m m' c (hagree c).1 (hagree c).2.1 (hagree c).2.2.1 (hagree c).2.2.2

theorem inRange_Kernel2Ideal (m : (ℓ : Loc Cert.Kernel2Ideal.nD Cert.Kernel2Ideal.τ Cert.Kernel2Ideal.sig) → Buf (Elt Ideal) ℓ) (h : Pre_Kernel2Ideal m) :
    Cert.Expert.InRange (Cert.Expert.te m) (Cert.Expert.nn m) := Cert.Expert.inRange_of_pre _ _ _ _ _ _ (h 0).1 (h 0).2

theorem quiescent_Kernel2 : quiescent_Kernel2 := by
  intro m ρ h
  have hI : Cert.Expert.InRange (Cert.Expert.te (F := Bits) m) (Cert.Expert.nn (F := Bits) m) := Cert.Expert.inRange_of_pre _ _ _ _ _ _ (h 0).1 (h 0).2
  have e := (θ_run Cert.Kernel2Ideal.defs _ _).mono (fun r h => (⟨fun c => (h.1 c).2, h.2⟩ : _ ∧ _))
    (Cert.Expert.run_final (F := Bits) m ρ (Cert.Expert.ok m hI))
  refine Eq.mp ?_ e
  sl_kernel_rfl

theorem quiescent_Kernel2Ideal : quiescent_Kernel2Ideal := fun m ρ h =>
  (θ_run Cert.Kernel2Ideal.defs _ _).mono (fun r h => ⟨fun c => (h.1 c).2, h.2⟩)
    (Cert.Expert.run_final (F := Ideal) m ρ (Cert.Expert.ok m (inRange_Kernel2Ideal m h)))

theorem reference2 (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0) :=
  (θ_run Cert.Reference2Ideal.defs _ _).mono (fun r h => ⟨fun c => (h c).2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' hpre hagree
  have hI := inRange_Kernel2Ideal m hpre
  refine ⟨_, (θ_run Cert.Kernel2Ideal.defs _ _).mono (fun r h => h.1) (Cert.Expert.run_final (F := Ideal) m ρ (Cert.Expert.ok m hI)), ?_⟩
  refine (θ_run Cert.Reference2Ideal.defs _ _).mono (fun _ h c => ⟨?_, (h c).2⟩) (Cert.Reference2Ideal.Value.run (F := Ideal) m' ρ')
  rw [(h c).1]
  obtain ⟨h0, h1, h2, h3, h4, h5⟩ := hagree c
  exact Cert.Expert.tie m hI _ c m' h0 h1 h2 h3 h4 h5

theorem quiescent_Reference3Ideal : quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem quiescent_Reference5Ideal : quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem algebraic_Kernel3Ideal_Reference3Ideal : algebraic_Kernel3Ideal_Reference3Ideal := by
  intro m ρ m' ρ' _ hagree
  refine ⟨_, _, _, _, Cert.Kernel3Ideal.Value.run_blocks (F := Ideal) m ρ, ?_⟩
  refine (θ_run Cert.Reference3Ideal.defs _ _).mono (fun _ h c => ?_) (Cert.Reference3Ideal.Value.run (F := Ideal) m' ρ')
  obtain ⟨e0, e1, e2, e3, hargs⟩ := h c
  obtain ⟨h0, h1, h2⟩ := hagree c
  rw [h0, h1] at e0 e2
  rw [h0, h2] at e1 e3
  exact ⟨e0.trans ((Cert.MemKv.by_head _ _).trans (Cert.MemKv.final_3 m c).symm), e1.trans ((Cert.MemKv.by_head _ _).trans (Cert.MemKv.final_4 m c).symm),
    e2.trans ((Cert.MemKv.by_row _ _).trans (Cert.MemKv.final_5 m c).symm), e3.trans ((Cert.MemKv.by_row _ _).trans (Cert.MemKv.final_6 m c).symm), hargs⟩

theorem algebraic_Kernel4Ideal_Reference4Ideal : algebraic_Kernel4Ideal_Reference4Ideal := by
  intro m ρ m' ρ' _ hagree
  refine ⟨_, Cert.Kernel4Ideal.Value.run (F := Ideal) m ρ, ?_⟩
  refine (θ_run Cert.Reference4Ideal.defs _ _).mono (fun _ h c => ⟨?_, (h c).2⟩) (Cert.Reference4Ideal.Value.run (F := Ideal) m' ρ')
  have e := (h c).1
  rw [(hagree c).1, (hagree c).2] at e
  exact e.trans (Cert.InXbc.tie m c)

theorem algebraic_Kernel5Ideal_Reference5Ideal : algebraic_Kernel5Ideal_Reference5Ideal := by
  intro m ρ m' ρ' _ hagree
  refine ⟨_, _, Cert.Kernel5Ideal.Value.run_blocks (F := Ideal) m ρ, ?_⟩
  refine (θ_run Cert.Reference5Ideal.defs _ _).mono (fun _ h c => ?_) (Cert.Reference5Ideal.Value.run (F := Ideal) m' ρ')
  obtain ⟨e0, e1, hargs⟩ := h c
  obtain ⟨h0, h1, h2, h3, h4, h5⟩ := hagree c
  have e := Cert.Ffn.ref_eq m' c _ _ _ _ _ _ h0 h1 h2 h3 h4 h5
  exact ⟨e0.trans (e.trans (Cert.Ffn.final_7 m c).symm), e1.trans ((Cert.Ffn.ref_copy m' c _ e).trans (Cert.Ffn.final_8 m c).symm), hargs⟩

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic_Kernel6Ideal_Reference6Ideal : algebraic_Kernel6Ideal_Reference6Ideal_pre_splits_exact := by
  intro m ρ m' ρ' hpre hagree
  refine ⟨fun c => (Cert.Kernel6Ideal.Gen.dats m 0 c).arrAt 16 Cert.Kernel6Ideal.cfg0.N,
    (θ_run Cert.Kernel6Ideal.defs _ _).mono (fun _ h c => (h c).2) (Cert.Kernel6Ideal.Value.run_blocks (F := Ideal) m ρ), ?_⟩
  refine (θ_run Cert.Reference6Ideal.defs _ _).mono (fun _ h c => ⟨?_, (h c).2⟩) (Cert.Reference6Ideal.Value.run (F := Ideal) m' ρ')
  obtain ⟨p1, p2, p3⟩ := hpre c
  obtain ⟨hd, hs, ha⟩ := Cert.Ssd.reals_of_pre _ _ _ _ _ _ _ _ _ _ _ p1 p2 p3
  obtain ⟨h0, h1, -, -, h4, h5, h6, h7, h8, -⟩ := hagree c
  exact (h c).1.trans (Cert.Ssd.tie m c ⟨hd, hs, ha⟩ m' h0 h1 h4 h5 h6 h7 h8)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_tables_in_range.Gen.facts, Cert.Ssd.facts_splits,
  fun m ρ _ => Cert.Kernel.Gen.frame m ρ, fun m ρ _ => Cert.KernelIdeal.Gen.frame m ρ, quiescent_ReferenceIdeal,
  quiescent_Kernel2, quiescent_Kernel2Ideal, fun m ρ _ => reference2 m ρ, fun m ρ _ => reference2 m ρ,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, fun m ρ _ => Cert.Kernel6Ideal.Gen.frame m ρ, quiescent_Reference6Ideal,
  fun m ρ _ => quiescent_Reference6Ideal m ρ trivial,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal,
  (trivial : preserves_Kernel6_Kernel6Ideal), algebraic_Kernel6Ideal_Reference6Ideal⟩

end Cert.Proof

end
